-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_with_ones_row [hPre_finite_with_ones_row : Cert.Pre_finite_with_ones_row.Facts] (m : (ℓ : Loc Cert.FlashIdeal.nD Cert.FlashIdeal.τ Cert.FlashIdeal.sig) → Buf (Elt Ideal) ℓ) : Prop :=
  ∀ c : Dev Cert.FlashIdeal.nD,
    (Cert.Pre_finite_with_ones_row.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_with_ones_row [hPre_finite_with_ones_row : Cert.Pre_finite_with_ones_row.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_with_ones_row.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_laid_out [hPre_laid_out : Cert.Pre_laid_out.Facts] (m : (ℓ : Loc Cert.PrepIdeal.nD Cert.PrepIdeal.τ Cert.PrepIdeal.sig) → Buf (Elt Ideal) ℓ) : Prop :=
  ∀ c : Dev Cert.PrepIdeal.nD,
    (Cert.Pre_laid_out.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_laid_out [hPre_laid_out : Cert.Pre_laid_out.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_laid_out.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))) = (fun _ => 1#1)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite_with_ones_row [hFlashIdeal : Cert.FlashIdeal.Facts] [hPre_finite_with_ones_row : Cert.Pre_finite_with_ones_row.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_with_ones_row m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_finite_with_ones_row [hFlashRefIdeal : Cert.FlashRefIdeal.Facts] [hPre_finite_with_ones_row : Cert.Pre_finite_with_ones_row.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_with_ones_row m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepIdeal_pre_laid_out [hPrepIdeal : Cert.PrepIdeal.Facts] [hPre_laid_out : Cert.Pre_laid_out.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_laid_out m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_PrepRefIdeal_pre_laid_out [hPrepRefIdeal : Cert.PrepRefIdeal.Facts] [hPre_laid_out : Cert.Pre_laid_out.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_laid_out m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def preserves_Flash_FlashIdeal : Prop :=
  True

def algebraic_FlashIdeal_FlashRefIdeal_pre_finite_with_ones_row [hFlashIdeal : Cert.FlashIdeal.Facts] [hFlashRefIdeal : Cert.FlashRefIdeal.Facts] [hPre_finite_with_ones_row : Cert.Pre_finite_with_ones_row.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_with_ones_row m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v31) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v19)) (v1 : (c : Dev Cert.InProjIdeal.nD) → Buf (Elt Ideal) ((c.tc : Thread Cert.InProjIdeal.nD Cert.InProjIdeal.τ).loc Cert.InProjIdeal.main_v20)) (v2 : (c : Dev Cert.InProjIdeal.nD) → Buf (Elt Ideal) ((c.tc : Thread Cert.InProjIdeal.nD Cert.InProjIdeal.τ).loc Cert.InProjIdeal.main_v21)) (v3 : (c : Dev Cert.InProjIdeal.nD) → Buf (Elt Ideal) ((c.tc : Thread Cert.InProjIdeal.nD Cert.InProjIdeal.τ).loc Cert.InProjIdeal.main_v22)) (v4 : (c : Dev Cert.InProjIdeal.nD) → Buf (Elt Ideal) ((c.tc : Thread Cert.InProjIdeal.nD Cert.InProjIdeal.τ).loc Cert.InProjIdeal.main_v23)) (v5 : (c : Dev Cert.InProjIdeal.nD) → Buf (Elt Ideal) ((c.tc : Thread Cert.InProjIdeal.nD Cert.InProjIdeal.τ).loc Cert.InProjIdeal.main_v24)) (v6 : (c : Dev Cert.InProjIdeal.nD) → Buf (Elt Ideal) ((c.tc : Thread Cert.InProjIdeal.nD Cert.InProjIdeal.τ).loc Cert.InProjIdeal.main_v25)) (v7 : (c : Dev Cert.InProjIdeal.nD) → Buf (Elt Ideal) ((c.tc : Thread Cert.InProjIdeal.nD Cert.InProjIdeal.τ).loc Cert.InProjIdeal.main_v26)) (v8 : (c : Dev Cert.InProjIdeal.nD) → Buf (Elt Ideal) ((c.tc : Thread Cert.InProjIdeal.nD Cert.InProjIdeal.τ).loc Cert.InProjIdeal.main_v27)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v19) = v0 c
          ∧ r.2.mem ((c.tc : Thread Cert.InProjIdeal.nD Cert.InProjIdeal.τ).loc Cert.InProjIdeal.main_v20) = v1 c
          ∧ r.2.mem ((c.tc : Thread Cert.InProjIdeal.nD Cert.InProjIdeal.τ).loc Cert.InProjIdeal.main_v21) = v2 c
          ∧ r.2.mem ((c.tc : Thread Cert.InProjIdeal.nD Cert.InProjIdeal.τ).loc Cert.InProjIdeal.main_v22) = v3 c
          ∧ r.2.mem ((c.tc : Thread Cert.InProjIdeal.nD Cert.InProjIdeal.τ).loc Cert.InProjIdeal.main_v23) = v4 c
          ∧ r.2.mem ((c.tc : Thread Cert.InProjIdeal.nD Cert.InProjIdeal.τ).loc Cert.InProjIdeal.main_v24) = v5 c
          ∧ r.2.mem ((c.tc : Thread Cert.InProjIdeal.nD Cert.InProjIdeal.τ).loc Cert.InProjIdeal.main_v25) = v6 c
          ∧ r.2.mem ((c.tc : Thread Cert.InProjIdeal.nD Cert.InProjIdeal.τ).loc Cert.InProjIdeal.main_v26) = v7 c
          ∧ r.2.mem ((c.tc : Thread Cert.InProjIdeal.nD Cert.InProjIdeal.τ).loc Cert.InProjIdeal.main_v27) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_v18) = v1 c
          ∧ r.2.mem ((c.tc : Thread Cert.InProjRefIdeal.nD Cert.InProjRefIdeal.τ).loc Cert.InProjRefIdeal.main_v19) = v2 c
          ∧ r.2.mem ((c.tc : Thread Cert.InProjRefIdeal.nD Cert.InProjRefIdeal.τ).loc Cert.InProjRefIdeal.main_v20) = v3 c
          ∧ r.2.mem ((c.tc : Thread Cert.InProjRefIdeal.nD Cert.InProjRefIdeal.τ).loc Cert.InProjRefIdeal.main_v21) = v4 c
          ∧ r.2.mem ((c.tc : Thread Cert.InProjRefIdeal.nD Cert.InProjRefIdeal.τ).loc Cert.InProjRefIdeal.main_v22) = v5 c
          ∧ r.2.mem ((c.tc : Thread Cert.InProjRefIdeal.nD Cert.InProjRefIdeal.τ).loc Cert.InProjRefIdeal.main_v23) = v6 c
          ∧ r.2.mem ((c.tc : Thread Cert.InProjRefIdeal.nD Cert.InProjRefIdeal.τ).loc Cert.InProjRefIdeal.main_v24) = v7 c
          ∧ r.2.mem ((c.tc : Thread Cert.InProjRefIdeal.nD Cert.InProjRefIdeal.τ).loc Cert.InProjRefIdeal.main_v25) = v8 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Prep_PrepIdeal : Prop :=
  True

def algebraic_PrepIdeal_PrepRefIdeal_pre_laid_out [hPrepIdeal : Cert.PrepIdeal.Facts] [hPrepRefIdeal : Cert.PrepRefIdeal.Facts] [hPre_laid_out : Cert.Pre_laid_out.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_laid_out m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v34_3)) (v1 : (c : Dev Cert.PrepIdeal.nD) → Buf (Elt Ideal) ((c.tc : Thread Cert.PrepIdeal.nD Cert.PrepIdeal.τ).loc Cert.PrepIdeal.main_v34_4)) (v2 : (c : Dev Cert.PrepIdeal.nD) → Buf (Elt Ideal) ((c.tc : Thread Cert.PrepIdeal.nD Cert.PrepIdeal.τ).loc Cert.PrepIdeal.main_v36)) (v3 : (c : Dev Cert.PrepIdeal.nD) → Buf (Elt Ideal) ((c.tc : Thread Cert.PrepIdeal.nD Cert.PrepIdeal.τ).loc Cert.PrepIdeal.main_v38)) (v4 : (c : Dev Cert.PrepIdeal.nD) → Buf (Elt Ideal) ((c.tc : Thread Cert.PrepIdeal.nD Cert.PrepIdeal.τ).loc Cert.PrepIdeal.main_v40)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v34_3) = v0 c
          ∧ r.2.mem ((c.tc : Thread Cert.PrepIdeal.nD Cert.PrepIdeal.τ).loc Cert.PrepIdeal.main_v34_4) = v1 c
          ∧ r.2.mem ((c.tc : Thread Cert.PrepIdeal.nD Cert.PrepIdeal.τ).loc Cert.PrepIdeal.main_v36) = v2 c
          ∧ r.2.mem ((c.tc : Thread Cert.PrepIdeal.nD Cert.PrepIdeal.τ).loc Cert.PrepIdeal.main_v38) = v3 c
          ∧ r.2.mem ((c.tc : Thread Cert.PrepIdeal.nD Cert.PrepIdeal.τ).loc Cert.PrepIdeal.main_v40) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v13) = v0 c
          ∧ r.2.mem ((c.tc : Thread Cert.PrepRefIdeal.nD Cert.PrepRefIdeal.τ).loc Cert.PrepRefIdeal.main_v23) = v1 c
          ∧ r.2.mem ((c.tc : Thread Cert.PrepRefIdeal.nD Cert.PrepRefIdeal.τ).loc Cert.PrepRefIdeal.main_v68) = v2 c
          ∧ r.2.mem ((c.tc : Thread Cert.PrepRefIdeal.nD Cert.PrepRefIdeal.τ).loc Cert.PrepRefIdeal.main_v69) = v3 c
          ∧ r.2.mem ((c.tc : Thread Cert.PrepRefIdeal.nD Cert.PrepRefIdeal.τ).loc Cert.PrepRefIdeal.main_v70) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def Claim : Prop :=
  ∃ (hFlash : Cert.Flash.Facts) (hFlashIdeal : Cert.FlashIdeal.Facts) (hFlashRefIdeal : Cert.FlashRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hPrep : Cert.Prep.Facts) (hPrepIdeal : Cert.PrepIdeal.Facts) (hPrepRefIdeal : Cert.PrepRefIdeal.Facts) (hPre_finite_with_ones_row : Cert.Pre_finite_with_ones_row.Facts) (hPre_laid_out : Cert.Pre_laid_out.Facts),
    quiescent_Flash (hFlash := hFlash)
    ∧ quiescent_FlashIdeal (hFlashIdeal := hFlashIdeal)
    ∧ quiescent_FlashIdeal_pre_finite_with_ones_row (hFlashIdeal := hFlashIdeal) (hPre_finite_with_ones_row := hPre_finite_with_ones_row)
    ∧ quiescent_FlashRefIdeal (hFlashRefIdeal := hFlashRefIdeal)
    ∧ quiescent_FlashRefIdeal_pre_finite_with_ones_row (hFlashRefIdeal := hFlashRefIdeal) (hPre_finite_with_ones_row := hPre_finite_with_ones_row)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Prep (hPrep := hPrep)
    ∧ quiescent_PrepIdeal (hPrepIdeal := hPrepIdeal)
    ∧ quiescent_PrepIdeal_pre_laid_out (hPrepIdeal := hPrepIdeal) (hPre_laid_out := hPre_laid_out)
    ∧ quiescent_PrepRefIdeal (hPrepRefIdeal := hPrepRefIdeal)
    ∧ quiescent_PrepRefIdeal_pre_laid_out (hPrepRefIdeal := hPrepRefIdeal) (hPre_laid_out := hPre_laid_out)
    ∧ preserves_Flash_FlashIdeal
    ∧ algebraic_FlashIdeal_FlashRefIdeal_pre_finite_with_ones_row (hFlashIdeal := hFlashIdeal) (hFlashRefIdeal := hFlashRefIdeal) (hPre_finite_with_ones_row := hPre_finite_with_ones_row)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Prep_PrepIdeal
    ∧ algebraic_PrepIdeal_PrepRefIdeal_pre_laid_out (hPrepIdeal := hPrepIdeal) (hPrepRefIdeal := hPrepRefIdeal) (hPre_laid_out := hPre_laid_out)
-- ==== Pre_finite_with_ones_row.lean ====
abbrev S16384x1024 : Shape := ⟨2, ![16384, 1024]⟩
abbrev S640x16384 : Shape := ⟨2, ![640, 16384]⟩
abbrev S8x80x16384 : Shape := ⟨3, ![8, 80, 16384]⟩
abbrev S8x1x16384 : Shape := ⟨3, ![8, 1, 16384]⟩
abbrev S8x16384 : Shape := ⟨2, ![8, 16384]⟩
abbrev S_ : Shape := ⟨0, ![]⟩

class Facts : Prop where
  bitsLt_bf16_f32 : FTy.bits .bf16 < FTy.bits .f32
  shapeCasts_S640x16384_S8x80x16384 : S640x16384.ShapeCasts S8x80x16384
  slices_S8x80x16384_S8x1x16384_0_64_0 : S8x80x16384.Slices ![0, 64, 0] S8x1x16384
  shapeCasts_S8x1x16384_S8x16384 : S8x1x16384.ShapeCasts S8x16384
  bcast_S_S8x16384 : S_.BroadcastsInDim S8x16384 (![] : Fin 0 → Fin S8x16384.rank)
  bcast_S_S16384x1024 : S_.BroadcastsInDim S16384x1024 (![] : Fin 0 → Fin S16384x1024.rank)
  reducesTo_S16384x1024_S_d0_1 : S16384x1024.ReducesTo [0, 1] S_
  h_S_ : 0 < S_.numel
  reducesTo_S8x16384_S_d0_1 : S8x16384.ReducesTo [0, 1] S_

variable [Facts]

def fn_part1 {F : FTy → Type} [FloatOps F] (main_v16 : IVec S_ 1) (main_v17 : IVec S_ 1) : IVec S_ 1 :=
  let main_v18 : IVec S_ 1 := andi main_v16 main_v17
  main_v18

def fn {F : FTy → Type} [FloatOps F] (main_arg0 : FVec F S16384x1024 .bf16) (main_arg1 : FVec F S16384x1024 .bf16) (main_arg2 : FVec F S640x16384 .bf16) : IVec S_ 1 :=
  let main_v0 : FVec F S640x16384 .f32 := (extf .f32 · bitsLt_bf16_f32) main_arg2
  let main_v1 : FVec F S8x80x16384 .f32 := shapeCast S8x80x16384 main_v0 shapeCasts_S640x16384_S8x80x16384
  let main_v2 : FVec F S8x1x16384 .f32 := (extractStridedSlice S8x1x16384 ![0, 64, 0] · slices_S8x80x16384_S8x1x16384_0_64_0) main_v1
  let main_v3 : FVec F S8x16384 .f32 := shapeCast S8x16384 main_v2 shapeCasts_S8x1x16384_S8x16384
  let main_cst : FVec F S_ .f32 := constant S_ .f32 0x3F800000#32
  let main_v4 : FVec F S8x16384 .f32 := broadcastInDim S8x16384 ![] bcast_S_S8x16384 main_cst
  let main_v5 : IVec S8x16384 1 := cmpf .oeq main_v3 main_v4
  let main_v6 : FVec F S16384x1024 .f32 := (extf .f32 · bitsLt_bf16_f32) main_arg0
  let main_v7 : FVec F S16384x1024 .f32 := Host.absf main_v6
  let main_cst_0 : FVec F S_ .f32 := constant S_ .f32 0x7F800000#32
  let main_v8 : FVec F S16384x1024 .f32 := broadcastInDim S16384x1024 ![] bcast_S_S16384x1024 main_cst_0
  let main_v9 : IVec S16384x1024 1 := cmpf .olt main_v7 main_v8
  let main_c : IVec S_ 1 := constantI S_ 1 1#1
  let main_v10 : IVec S_ 1 := (fun x v => Host.reduce IntOp.andi x v reducesTo_S16384x1024_S_d0_1 h_S_) main_v9 main_c
  let main_v11 : FVec F S16384x1024 .f32 := (extf .f32 · bitsLt_bf16_f32) main_arg1
  let main_v12 : FVec F S16384x1024 .f32 := Host.absf main_v11
  let main_cst_1 : FVec F S_ .f32 := constant S_ .f32 0x7F800000#32
  let main_v13 : FVec F S16384x1024 .f32 := broadcastInDim S16384x1024 ![] bcast_S_S16384x1024 main_cst_1
  let main_v14 : IVec S16384x1024 1 := cmpf .olt main_v12 main_v13
  let main_c_2 : IVec S_ 1 := constantI S_ 1 1#1
  let main_v15 : IVec S_ 1 := (fun x v => Host.reduce IntOp.andi x v reducesTo_S16384x1024_S_d0_1 h_S_) main_v14 main_c_2
  let main_v16 : IVec S_ 1 := andi main_v10 main_v15
  let main_c_3 : IVec S_ 1 := constantI S_ 1 1#1
  let main_v17 : IVec S_ 1 := (fun x v => Host.reduce IntOp.andi x v reducesTo_S8x16384_S_d0_1 h_S_) main_v5 main_c_3
  fn_part1 (F := F) main_v16 main_v17
-- ==== Pre_laid_out.lean ====
abbrev S16384x5120 : Shape := ⟨2, ![16384, 5120]⟩
abbrev S16384x16 : Shape := ⟨2, ![16384, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16384x32 : Shape := ⟨2, ![16384, 32]⟩
abbrev S16384x64 : Shape := ⟨2, ![16384, 64]⟩
abbrev S_ : Shape := ⟨0, ![]⟩

class Facts : Prop where
  slices_S16384x5120_S16384x32_0_832 : S16384x5120.Slices ![0, 832] S16384x32
  slices_S16384x5120_S16384x32_0_960 : S16384x5120.Slices ![0, 960] S16384x32
  slices_S16384x5120_S16384x64_0_768 : S16384x5120.Slices ![0, 768] S16384x64
  bcast_S_S16384x64 : S_.BroadcastsInDim S16384x64 (![] : Fin 0 → Fin S16384x64.rank)
  reducesTo_S16384x64_S_d0_1 : S16384x64.ReducesTo [0, 1] S_
  h_S_ : 0 < S_.numel
  slices_S16384x32_S16384x16_0_0 : S16384x32.Slices ![0, 0] S16384x16
  slices_S16384x32_S16384x16_0_16 : S16384x32.Slices ![0, 16] S16384x16
  reducesTo_S16384x16_S_d0_1 : S16384x16.ReducesTo [0, 1] S_

variable [Facts]

def fn {F : FTy → Type} [FloatOps F] (main_arg0 : FVec F S16384x5120 .f32) (main_arg1 : FVec F S16384x16 .f32) (main_arg2 : FVec F S16384x16 .f32) (main_arg3 : FVec F S384 .f32) (main_arg4 : FVec F S384x768 .f32) (main_arg5 : FVec F S256 .f32) (main_arg6 : FVec F S256x1024 .f32) : IVec S_ 1 :=
  let main_v0 : FVec F S16384x32 .f32 := (extractStridedSlice S16384x32 ![0, 832] · slices_S16384x5120_S16384x32_0_832) main_arg0
  let main_v1 : FVec F S16384x32 .f32 := (extractStridedSlice S16384x32 ![0, 960] · slices_S16384x5120_S16384x32_0_960) main_arg0
  let main_v2 : FVec F S16384x64 .f32 := (extractStridedSlice S16384x64 ![0, 768] · slices_S16384x5120_S16384x64_0_768) main_arg0
  let main_cst : FVec F S_ .f32 := constant S_ .f32 0x00000000#32
  let main_v3 : FVec F S16384x64 .f32 := broadcastInDim S16384x64 ![] bcast_S_S16384x64 main_cst
  let main_v4 : IVec S16384x64 1 := cmpf .oeq main_v2 main_v3
  let main_c : IVec S_ 1 := constantI S_ 1 1#1
  let main_v5 : IVec S_ 1 := (fun x v => Host.reduce IntOp.andi x v reducesTo_S16384x64_S_d0_1 h_S_) main_v4 main_c
  let main_v6 : FVec F S16384x16 .f32 := (extractStridedSlice S16384x16 ![0, 0] · slices_S16384x32_S16384x16_0_0) main_v1
  let main_v7 : FVec F S16384x16 .f32 := (extractStridedSlice S16384x16 ![0, 16] · slices_S16384x32_S16384x16_0_16) main_v0
  let main_v8 : IVec S16384x16 1 := cmpf .oeq main_v6 main_v7
  let main_c_0 : IVec S_ 1 := constantI S_ 1 1#1
  let main_v9 : IVec S_ 1 := (fun x v => Host.reduce IntOp.andi x v reducesTo_S16384x16_S_d0_1 h_S_) main_v8 main_c_0
  let main_v10 : IVec S_ 1 := andi main_v5 main_v9
  let main_v11 : FVec F S16384x16 .f32 := (extractStridedSlice S16384x16 ![0, 16] · slices_S16384x32_S16384x16_0_16) main_v1
  let main_v12 : FVec F S16384x16 .f32 := (extractStridedSlice S16384x16 ![0, 0] · slices_S16384x32_S16384x16_0_0) main_v0
  let main_v13 : IVec S16384x16 1 := cmpf .oeq main_v11 main_v12
  let main_c_1 : IVec S_ 1 := constantI S_ 1 1#1
  let main_v14 : IVec S_ 1 := (fun x v => Host.reduce IntOp.andi x v reducesTo_S16384x16_S_d0_1 h_S_) main_v13 main_c_1
  let main_v15 : IVec S_ 1 := andi main_v10 main_v14
  main_v15
-- ==== Flash.lean ====
abbrev S16384x1024 : Shape := ⟨2, ![16384, 1024]⟩
abbrev S640x16384 : Shape := ⟨2, ![640, 16384]⟩
abbrev S136 : Shape := ⟨1, ![136]⟩
abbrev S512x16384 : Shape := ⟨2, ![512, 16384]⟩
abbrev S1024x1024 : Shape := ⟨2, ![1024, 1024]⟩
abbrev S1 : Shape := ⟨1, ![1]⟩
abbrev S640x1024 : Shape := ⟨2, ![640, 1024]⟩
abbrev S512x1024 : Shape := ⟨2, ![512, 1024]⟩
abbrev S8x8x1024 : Shape := ⟨3, ![8, 8, 1024]⟩
abbrev S8x80x1024 : Shape := ⟨3, ![8, 80, 1024]⟩
abbrev S3x1024x1024 : Shape := ⟨3, ![3, 1024, 1024]⟩
abbrev S1024x128 : Shape := ⟨2, ![1024, 128]⟩
abbrev S1x1024x1024 : Shape := ⟨3, ![1, 1024, 1024]⟩
abbrev S1x8x1024 : Shape := ⟨3, ![1, 8, 1024]⟩
abbrev S8x1024 : Shape := ⟨2, ![8, 1024]⟩
abbrev S1024 : Shape := ⟨1, ![1024]⟩
abbrev S1x1024 : Shape := ⟨2, ![1, 1024]⟩
abbrev S1x80x1024 : Shape := ⟨3, ![1, 80, 1024]⟩
abbrev S80x1024 : Shape := ⟨2, ![80, 1024]⟩
abbrev S64x1024 : Shape := ⟨2, ![64, 1024]⟩

abbrev nBuf : Space → Nat
  | .hbm => 4
  | .vmem => 11
  | .smem => 2
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S640x16384, .bf16⟩
  | .hbm, ⟨3, _⟩ => ⟨S512x16384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .bf16⟩
  | .local _ .vmem, ⟨6, _⟩ => ⟨S512x1024, .bf16⟩
  | .local _ .vmem, ⟨7, _⟩ => ⟨S512x1024, .bf16⟩
  | .local _ .vmem, ⟨8, _⟩ => ⟨S8x8x1024, .f32⟩
  | .local _ .vmem, ⟨9, _⟩ => ⟨S8x80x1024, .f32⟩
  | .local _ .vmem, ⟨10, _⟩ => ⟨S3x1024x1024, .f32⟩
  | .local _ .smem, ⟨0, _⟩ => ⟨S136, .i32⟩
  | .local _ .smem, ⟨1, _⟩ => ⟨S136, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![arg0.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FlashRefIdeal.lean ====
abbrev S16384x1024 : Shape := ⟨2, ![16384, 1024]⟩
abbrev S640x16384 : Shape := ⟨2, ![640, 16384]⟩
abbrev S16384x8x128 : Shape := ⟨3, ![16384, 8, 128]⟩
abbrev S8x80x16384 : Shape := ⟨3, ![8, 80, 16384]⟩
abbrev S8x64x16384 : Shape := ⟨3, ![8, 64, 16384]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S8x16384 : Shape := ⟨2, ![8, 16384]⟩
abbrev S8x16384x1 : Shape := ⟨3, ![8, 16384, 1]⟩
abbrev S512x16384 : Shape := ⟨2, ![512, 16384]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S640x16384, .bf16⟩
  | .hbm, ⟨3, _⟩ => ⟨S16384x1024, .f32⟩
  | .hbm, ⟨4, _⟩ => ⟨S16384x8x128, .f32⟩
  | .hbm, ⟨5, _⟩ => ⟨S16384x1024, .f32⟩
  | .hbm, ⟨6, _⟩ => ⟨S16384x8x128, .f32⟩
  | .hbm, ⟨7, _⟩ => ⟨S640x16384, .f32⟩
  | .hbm, ⟨8, _⟩ => ⟨S8x80x16384, .f32⟩
  | .hbm, ⟨9, _⟩ => ⟨S8x64x16384, .f32⟩
  | .hbm, ⟨10, _⟩ => ⟨S8x16384x16384, .f32⟩
  | .hbm, ⟨11, _⟩ => ⟨S8x16384x16384, .bf16⟩
  | .hbm, ⟨12, _⟩ => ⟨S8x16384x16384, .f32⟩
  | .hbm, ⟨13, _⟩ => ⟨S16384, .i32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S_, .f32⟩
  | .hbm, ⟨20, _⟩ => ⟨S_, .f32⟩
  | .hbm, ⟨21, _⟩ => ⟨S8x16384x16384, .i1⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384x16384, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S8x16384x16384, .bf16⟩
  | .hbm, ⟨38, _⟩ => ⟨S8x16384x16384, .f32⟩
  | .hbm, ⟨39, _⟩ => ⟨S8x64x16384, .f32⟩
  | .hbm, ⟨40, _⟩ => ⟨S8x64x16384, .bf16⟩
  | .hbm, ⟨41, _⟩ => ⟨S512x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S2x1x16384x256 : Shape := ⟨4, ![2, 1, 16384, 256]⟩
abbrev S256x1024 : Shape := ⟨2, ![256, 1024]⟩
abbrev S1x1024 : Shape := ⟨2, ![1, 1024]⟩
abbrev S2x16384x256 : Shape := ⟨3, ![2, 16384, 256]⟩
abbrev S1x1024x256 : Shape := ⟨3, ![1, 1024, 256]⟩
abbrev S1024x1 : Shape := ⟨2, ![1024, 1]⟩
abbrev S1024x256 : Shape := ⟨2, ![1024, 256]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x1024, .f32⟩
  | .hbm, ⟨6, _⟩ => ⟨S2x1x16384x256, .f32⟩
  | .hbm, ⟨7, _⟩ => ⟨S256x1024, .f32⟩
  | .hbm, ⟨8, _⟩ => ⟨S1024, .f32⟩
  | .hbm, ⟨9, _⟩ => ⟨S1024x4096, .bf16⟩
  | .hbm, ⟨10, _⟩ => ⟨S4096x1024, .bf16⟩
  | .hbm, ⟨11, _⟩ => ⟨S1024x1024, .bf16⟩
  | .hbm, ⟨12, _⟩ => ⟨S256x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S2x16384x256, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024x256, .f32⟩
  | .local _ .vmem, ⟨10, _⟩ => ⟨S1x1024x256, .f32⟩
  | .local _ .vmem, ⟨11, _⟩ => ⟨S256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S2x1x16384x256 : Shape := ⟨4, ![2, 1, 16384, 256]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1x1x16384x256 : Shape := ⟨4, ![1, 1, 16384, 256]⟩
abbrev S16384x256 : Shape := ⟨2, ![16384, 256]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x1024, .f32⟩
  | .hbm, ⟨6, _⟩ => ⟨S2x1x16384x256, .f32⟩
  | .hbm, ⟨7, _⟩ => ⟨S256x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S1x1x16384x256, .f32⟩
  | .hbm, ⟨58, _⟩ => ⟨S16384x256, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S2x1024x7856 : Shape := ⟨3, ![2, 1024, 7856]⟩
abbrev S16384x512 : Shape := ⟨2, ![16384, 512]⟩
abbrev S512x16384 : Shape := ⟨2, ![512, 16384]⟩
abbrev S512x1024 : Shape := ⟨2, ![512, 1024]⟩
abbrev S1024x1024 : Shape := ⟨2, ![1024, 1024]⟩
abbrev S2x7856x1024 : Shape := ⟨3, ![2, 7856, 1024]⟩
abbrev S1x1024 : Shape := ⟨2, ![1, 1024]⟩
abbrev S1x3072x1024 : Shape := ⟨3, ![1, 3072, 1024]⟩
abbrev S512x512 : Shape := ⟨2, ![512, 512]⟩
abbrev S512 : Shape := ⟨1, ![512]⟩
abbrev S512x1 : Shape := ⟨2, ![512, 1]⟩
abbrev S3072x1024 : Shape := ⟨2, ![3072, 1024]⟩
abbrev S512x3072 : Shape := ⟨2, ![512, 3072]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x7856, .f32⟩
  | .hbm, ⟨3, _⟩ => ⟨S16384x512, .bf16⟩
  | .hbm, ⟨4, _⟩ => ⟨S16384x1024, .bf16⟩
  | .hbm, ⟨5, _⟩ => ⟨S512x16384, .bf16⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S1024x1024, .f32⟩
  | .hbm, ⟨10, _⟩ => ⟨S2x7856x1024, .f32⟩
  | .hbm, ⟨11, _⟩ => ⟨S2x7856x1024, .bf16⟩
  | .hbm, ⟨12, _⟩ => ⟨S1x1024, .f32⟩
  | .hbm, ⟨13, _⟩ => ⟨S512x1024, .bf16⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x3072x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x1024 : Shape := ⟨2, ![16384, 1024]⟩
abbrev S1024 : Shape := ⟨1, ![1024]⟩
abbrev S2x1024x7856 : Shape := ⟨3, ![2, 1024, 7856]⟩
abbrev S16384x512 : Shape := ⟨2, ![16384, 512]⟩
abbrev S512x16384 : Shape := ⟨2, ![512, 16384]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x7856 : Shape := ⟨3, ![1, 1024, 7856]⟩
abbrev S1024x7856 : Shape := ⟨2, ![1024, 7856]⟩
abbrev S1024x3072 : Shape := ⟨2, ![1024, 3072]⟩
abbrev S16384x3072 : Shape := ⟨2, ![16384, 3072]⟩
abbrev S16384x3x1024 : Shape := ⟨3, ![16384, 3, 1024]⟩
abbrev S16384x1x1024 : Shape := ⟨3, ![16384, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x7856, .f32⟩
  | .hbm, ⟨3, _⟩ => ⟨S16384x512, .bf16⟩
  | .hbm, ⟨4, _⟩ => ⟨S16384x1024, .bf16⟩
  | .hbm, ⟨5, _⟩ => ⟨S512x16384, .bf16⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S1024x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1x1024x7856, .f32⟩
  | .hbm, ⟨27, _⟩ => ⟨S1024x7856, .f32⟩
  | .hbm, ⟨28, _⟩ => ⟨S1024x3072, .f32⟩
  | .hbm, ⟨29, _⟩ => ⟨S16384x3072, .f32⟩
  | .hbm, ⟨30, _⟩ => ⟨S16384x3072, .f32⟩
  | .hbm, ⟨31, _⟩ => ⟨S16384x3072, .f32⟩
  | .hbm, ⟨32, _⟩ => ⟨S_, .f32⟩
  | .hbm, ⟨33, _⟩ => ⟨S16384x3072, .f32⟩
  | .hbm, ⟨34, _⟩ => ⟨S16384x3072, .f32⟩
  | .hbm, ⟨35, _⟩ => ⟨S_, .f32⟩
  | .hbm, ⟨36, _⟩ => ⟨S16384x3072, .f32⟩
  | .hbm, ⟨37, _⟩ => ⟨S16384x3072, .f32⟩
  | .hbm, ⟨38, _⟩ => ⟨S16384x3x1024, .f32⟩
  | .hbm, ⟨39, _⟩ => ⟨S16384x1x1024, .f32⟩
  | .hbm, ⟨40, _⟩ => ⟨S16384x1024, .f32⟩
  | .hbm, ⟨41, _⟩ => ⟨S16384x512, .f32⟩
  | .hbm, ⟨42, _⟩ => ⟨S16384x1024, .f32⟩
  | .hbm, ⟨43, _⟩ => ⟨S16384x1024, .f32⟩
  | .hbm, ⟨44, _⟩ => ⟨S16384x1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1x1024, .f32⟩
  | .hbm, ⟨51, _⟩ => ⟨S16384x1024, .f32⟩
  | .hbm, ⟨52, _⟩ => ⟨S512x16384, .f32⟩
  | .hbm, ⟨53, _⟩ => ⟨S16384x512, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S2x1024x7856 : Shape := ⟨3, ![2, 1024, 7856]⟩
abbrev S2x7856x1024 : Shape := ⟨3, ![2, 7856, 1024]⟩
abbrev S1x1024 : Shape := ⟨2, ![1, 1024]⟩
abbrev S1x688x1024 : Shape := ⟨3, ![1, 688, 1024]⟩
abbrev S688x1024 : Shape := ⟨2, ![688, 1024]⟩
abbrev S16x1024 : Shape := ⟨2, ![16, 1024]⟩
abbrev S384x1024 : Shape := ⟨2, ![384, 1024]⟩
abbrev S256x1024 : Shape := ⟨2, ![256, 1024]⟩
abbrev S32x1024 : Shape := ⟨2, ![32, 1024]⟩
abbrev S_ : Shape := ⟨0, ![]⟩
abbrev S112x1024 : Shape := ⟨2, ![112, 1024]⟩
abbrev S64x1024 : Shape := ⟨2, ![64, 1024]⟩
abbrev S1024x1024 : Shape := ⟨2, ![1024, 1024]⟩
abbrev S16384x5120 : Shape := ⟨2, ![16384, 5120]⟩
abbrev S2048x1024 : Shape := ⟨2, ![2048, 1024]⟩
abbrev S1x1024x1024 : Shape := ⟨3, ![1, 1024, 1024]⟩
abbrev S2048 : Shape := ⟨1, ![2048]⟩
abbrev S2048x1 : Shape := ⟨2, ![2048, 1]⟩
abbrev S16384x512 : Shape := ⟨2, ![16384, 512]⟩
abbrev S16384x2048 : Shape := ⟨2, ![16384, 2048]⟩
abbrev S16384x16 : Shape := ⟨2, ![16384, 16]⟩
abbrev S16384x384 : Shape := ⟨2, ![16384, 384]⟩
abbrev S16384x256 : Shape := ⟨2, ![16384, 256]⟩
abbrev S16384x32 : Shape := ⟨2, ![16384, 32]⟩
abbrev S3x2048 : Shape := ⟨2, ![3, 2048]⟩

abbrev nBuf : Space → Nat
  | .hbm => 36
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x7856, .f32⟩
  | .hbm, ⟨3, _⟩ => ⟨S2x7856x1024, .f32⟩
  | .hbm, ⟨4, _⟩ => ⟨S2x7856x1024, .bf16⟩
  | .hbm, ⟨5, _⟩ => ⟨S1x1024, .f32⟩
  | .hbm, ⟨6, _⟩ => ⟨S1x688x1024, .bf16⟩
  | .hbm, ⟨7, _⟩ => ⟨S688x1024, .bf16⟩
  | .hbm, ⟨8, _⟩ => ⟨S16x1024, .bf16⟩
  | .hbm, ⟨9, _⟩ => ⟨S384x1024, .bf16⟩
  | .hbm, ⟨10, _⟩ => ⟨S256x1024, .bf16⟩
  | .hbm, ⟨11, _⟩ => ⟨S32x1024, .bf16⟩
  | .hbm, ⟨12, _⟩ => ⟨S16x1024, .bf16⟩
  | .hbm, ⟨13, _⟩ => ⟨S16x1024, .bf16⟩
  | .hbm, ⟨14, _⟩ => ⟨S32x1024, .bf16⟩
  | .hbm, ⟨15, _⟩ => ⟨S_, .bf16⟩
  | .hbm, ⟨16, _⟩ => ⟨S112x1024, .bf16⟩
  | .hbm, ⟨17, _⟩ => ⟨S_, .bf16⟩
  | .hbm, ⟨18, _⟩ => ⟨S64x1024, .bf16⟩
  | .hbm, ⟨19, _⟩ => ⟨S_, .bf16⟩
  | .hbm, ⟨20, _⟩ => ⟨S32x1024, .bf16⟩
  | .hbm, ⟨21, _⟩ => ⟨S_, .bf16⟩
  | .hbm, ⟨22, _⟩ => ⟨S64x1024, .bf16⟩
  | .hbm, ⟨23, _⟩ => ⟨S_, .bf16⟩
  | .hbm, ⟨24, _⟩ => ⟨S32x1024, .bf16⟩
  | .hbm, ⟨25, _⟩ => ⟨S1024x1024, .bf16⟩
  | .hbm, ⟨26, _⟩ => ⟨S16384x5120, .f32⟩
  | .hbm, ⟨27, _⟩ => ⟨S16384x512, .f32⟩
  | .hbm, ⟨28, _⟩ => ⟨S16384x512, .f32⟩
  | .hbm, ⟨29, _⟩ => ⟨S16384x1024, .f32⟩
  | .hbm, ⟨30, _⟩ => ⟨S16384x2048, .f32⟩
  | .hbm, ⟨31, _⟩ => ⟨S16384x16, .f32⟩
  | .hbm, ⟨32, _⟩ => ⟨S16384x384, .f32⟩
  | .hbm, ⟨33, _⟩ => ⟨S16384x256, .f32⟩
  | .hbm, ⟨34, _⟩ => ⟨S16384x32, .f32⟩
  | .hbm, ⟨35, _⟩ => ⟨S3x2048, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S2048x1024, .f32⟩
  | .local _ .vmem, ⟨7, _⟩ => ⟨S2048x1024, .f32⟩
  | .local _ .vmem, ⟨8, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c4_i32 : BitVec 32 := 4#32
  let c0_i32_0 : BitVec 32 := 0#32
  let v1 : BitVec 1 := Scalar.cmpi .eq c4_i32 c0_i32_0
  let c1_i32 : BitVec 32 := 1#32
  let v2 : BitVec 32 := Scalar.select v1 c1_i32 c4_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 32 := Scalar.select v0 c1_i32_4 v10
  let c3_i32 : BitVec 32 := 3#32
  let v12 : BitVec 32 := Scalar.addi c3_i32 v11
  let c0_i32_5 : BitVec 32 := 0#32
  let c0_i32_6 : BitVec 32 := 0#32
  let c0_i32_7 : BitVec 32 := 0#32
  ![c0_i32_5.toNat, v12.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S16384x1024 : Shape := ⟨2, ![16384, 1024]⟩
abbrev S1024 : Shape := ⟨1, ![1024]⟩
abbrev S2x1024x7856 : Shape := ⟨3, ![2, 1024, 7856]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x7856 : Shape := ⟨3, ![1, 1024, 7856]⟩
abbrev S1024x7856 : Shape := ⟨2, ![1024, 7856]⟩
abbrev S16384x7856 : Shape := ⟨2, ![16384, 7856]⟩
abbrev S16384x3072 : Shape := ⟨2, ![16384, 3072]⟩
abbrev S16384x512 : Shape := ⟨2, ![16384, 512]⟩
abbrev S16384x2048 : Shape := ⟨2, ![16384, 2048]⟩
abbrev S16384x16 : Shape := ⟨2, ![16384, 16]⟩
abbrev S16384x384 : Shape := ⟨2, ![16384, 384]⟩
abbrev S16384x256 : Shape := ⟨2, ![16384, 256]⟩
abbrev S16384x32 : Shape := ⟨2, ![16384, 32]⟩
abbrev S3x2048 : Shape := ⟨2, ![3, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x7856, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024x7856, .f32⟩
  | .hbm, ⟨20, _⟩ => ⟨S1024x7856, .f32⟩
  | .hbm, ⟨21, _⟩ => ⟨S16384x7856, .f32⟩
  | .hbm, ⟨22, _⟩ => ⟨S16384x3072, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x2048, .f32⟩
  | .hbm, ⟨27, _⟩ => ⟨S16384x16, .f32⟩
  | .hbm, ⟨28, _⟩ => ⟨S16384x384, .f32⟩
  | .hbm, ⟨29, _⟩ => ⟨S16384x256, .f32⟩
  | .hbm, ⟨30, _⟩ => ⟨S16384x32, .f32⟩
  | .hbm, ⟨31, _⟩ => ⟨S3x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Prep.lean ====
abbrev S16384x5120 : Shape := ⟨2, ![16384, 5120]⟩
abbrev S16384x16 : Shape := ⟨2, ![16384, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S16384x32 : Shape := ⟨2, ![16384, 32]⟩
abbrev S16384x64 : Shape := ⟨2, ![16384, 64]⟩
abbrev S16384x128 : Shape := ⟨2, ![16384, 128]⟩
abbrev S1x384 : Shape := ⟨2, ![1, 384]⟩
abbrev S1x256 : Shape := ⟨2, ![1, 256]⟩
abbrev S384x8x96 : Shape := ⟨3, ![384, 8, 96]⟩
abbrev S384x8x64 : Shape := ⟨3, ![384, 8, 64]⟩
abbrev S384x8x32 : Shape := ⟨3, ![384, 8, 32]⟩
abbrev S384x8x16 : Shape := ⟨3, ![384, 8, 16]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x8x16 : Shape := ⟨3, ![256, 8, 16]⟩
abbrev S256x8x80 : Shape := ⟨3, ![256, 8, 80]⟩
abbrev S8x80x256 : Shape := ⟨3, ![8, 80, 256]⟩
abbrev S16384x1024 : Shape := ⟨2, ![16384, 1024]⟩
abbrev S640x16384 : Shape := ⟨2, ![640, 16384]⟩
abbrev S16384x256 : Shape := ⟨2, ![16384, 256]⟩
abbrev S512x384 : Shape := ⟨2, ![512, 384]⟩
abbrev S512x256 : Shape := ⟨2, ![512, 256]⟩
abbrev S512x128 : Shape := ⟨2, ![512, 128]⟩
abbrev S512x1024 : Shape := ⟨2, ![512, 1024]⟩
abbrev S640x512 : Shape := ⟨2, ![640, 512]⟩
abbrev S512x32 : Shape := ⟨2, ![512, 32]⟩
abbrev S512 : Shape := ⟨1, ![512]⟩
abbrev S512x1 : Shape := ⟨2, ![512, 1]⟩
abbrev S80x1 : Shape := ⟨2, ![80, 1]⟩
abbrev S1x80x256 : Shape := ⟨3, ![1, 80, 256]⟩
abbrev S80x256 : Shape := ⟨2, ![80, 256]⟩
abbrev S80x512 : Shape := ⟨2, ![80, 512]⟩
abbrev S16384x8x128 : Shape := ⟨3, ![16384, 8, 128]⟩
abbrev S16384x8x96 : Shape := ⟨3, ![16384, 8, 96]⟩
abbrev S8x80x16384 : Shape := ⟨3, ![8, 80, 16384]⟩
abbrev S8x64x16384 : Shape := ⟨3, ![8, 64, 16384]⟩

abbrev nBuf : Space → Nat
  | .hbm => 60
  | .vmem => 28
  | .smem => 0
  | _ => 0

abbrev bufTy : (tb : Table) → Fin (tcTables nBuf tb) → BufTy
  | .hbm, ⟨0, _⟩ => ⟨S16384x5120, .f32⟩
  | .hbm, ⟨1, _⟩ => ⟨S16384x16, .f32⟩
  | .hbm, ⟨2, _⟩ => ⟨S16384x16, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S_, .f32⟩
  | .hbm, ⟨8, _⟩ => ⟨S16384x32, .f32⟩
  | .hbm, ⟨9, _⟩ => ⟨S_, .f32⟩
  | .hbm, ⟨10, _⟩ => ⟨S16384x64, .f32⟩
  | .hbm, ⟨11, _⟩ => ⟨S16384x128, .f32⟩
  | .hbm, ⟨12, _⟩ => ⟨S_, .f32⟩
  | .hbm, ⟨13, _⟩ => ⟨S16384x64, .f32⟩
  | .hbm, ⟨14, _⟩ => ⟨S16384x16, .f32⟩
  | .hbm, ⟨15, _⟩ => ⟨S16384x128, .f32⟩
  | .hbm, ⟨16, _⟩ => ⟨S1x384, .f32⟩
  | .hbm, ⟨17, _⟩ => ⟨S1x256, .f32⟩
  | .hbm, ⟨18, _⟩ => ⟨S384x8x96, .f32⟩
  | .hbm, ⟨19, _⟩ => ⟨S384x8x64, .f32⟩
  | .hbm, ⟨20, _⟩ => ⟨S384x8x32, .f32⟩
  | .hbm, ⟨21, _⟩ => ⟨S384x8x16, .f32⟩
  | .hbm, ⟨22, _⟩ => ⟨S384x8x16, .f32⟩
  | .hbm, ⟨23, _⟩ => ⟨S384x8x32, .f32⟩
  | .hbm, ⟨24, _⟩ => ⟨S_, .f32⟩
  | .hbm, ⟨25, _⟩ => ⟨S384x8x32, .f32⟩
  | .hbm, ⟨26, _⟩ => ⟨S384x8x128, .f32⟩
  | .hbm, ⟨27, _⟩ => ⟨S384x1024, .f32⟩
  | .hbm, ⟨28, _⟩ => ⟨S384x1024, .bf16⟩
  | .hbm, ⟨29, _⟩ => ⟨S_, .f32⟩
  | .hbm, ⟨30, _⟩ => ⟨S384x8x64, .f32⟩
  | .hbm, ⟨31, _⟩ => ⟨S_, .f32⟩
  | .hbm, ⟨32, _⟩ => ⟨S384x8x32, .f32⟩
  | .hbm, ⟨33, _⟩ => ⟨S384x8x128, .f32⟩
  | .hbm, ⟨34, _⟩ => ⟨S384x1024, .f32⟩
  | .hbm, ⟨35, _⟩ => ⟨S384x1024, .bf16⟩
  | .hbm, ⟨36, _⟩ => ⟨S256x8x128, .f32⟩
  | .hbm, ⟨37, _⟩ => ⟨S256x8x64, .f32⟩
  | .hbm, ⟨38, _⟩ => ⟨S256x8x64, .f32⟩
  | .hbm, ⟨39, _⟩ => ⟨S_, .f32⟩
  | .hbm, ⟨40, _⟩ => ⟨S256x8x64, .f32⟩
  | .hbm, ⟨41, _⟩ => ⟨S256x8x128, .f32⟩
  | .hbm, ⟨42, _⟩ => ⟨S256x1024, .f32⟩
  | .hbm, ⟨43, _⟩ => ⟨S256x1024, .bf16⟩
  | .hbm, ⟨44, _⟩ => ⟨S_, .f32⟩
  | .hbm, ⟨45, _⟩ => ⟨S256x8x16, .f32⟩
  | .hbm, ⟨46, _⟩ => ⟨S256x8x80, .f32⟩
  | .hbm, ⟨47, _⟩ => ⟨S8x80x256, .f32⟩
  | .hbm, ⟨48, _⟩ => ⟨S8x80x256, .bf16⟩
  | .hbm, ⟨49, _⟩ => ⟨S16384x1024, .bf16⟩
  | .hbm, ⟨50, _⟩ => ⟨S16384x1024, .bf16⟩
  | .hbm, ⟨51, _⟩ => ⟨S640x16384, .bf16⟩
  | .hbm, ⟨52, _⟩ => ⟨S16384x256, .f32⟩
  | .hbm, ⟨53, _⟩ => ⟨S16384x32, .f32⟩
  | .hbm, ⟨54, _⟩ => ⟨S16384x8x128, .bf16⟩
  | .hbm, ⟨55, _⟩ => ⟨S16384x8x96, .bf16⟩
  | .hbm, ⟨56, _⟩ => ⟨S16384x8x128, .bf16⟩
  | .hbm, ⟨57, _⟩ => ⟨S16384x8x96, .bf16⟩
  | .hbm, ⟨58, _⟩ => ⟨S8x80x16384, .bf16⟩
  | .hbm, ⟨59, _⟩ => ⟨S8x64x16384, .bf16⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x384, .f32⟩
  | .local _ .vmem, ⟨13, _⟩ => ⟨S1x256, .f32⟩
  | .local _ .vmem, ⟨14, _⟩ => ⟨S384x1024, .bf16⟩
  | .local _ .vmem, ⟨15, _⟩ => ⟨S384x1024, .bf16⟩
  | .local _ .vmem, ⟨16, _⟩ => ⟨S256x1024, .bf16⟩
  | .local _ .vmem, ⟨17, _⟩ => ⟨S8x80x256, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S640x512, .bf16⟩
  | .local _ .vmem, ⟨23, _⟩ => ⟨S640x512, .bf16⟩
  | .local _ .vmem, ⟨24, _⟩ => ⟨S512x256, .f32⟩
  | .local _ .vmem, ⟨25, _⟩ => ⟨S512x256, .f32⟩
  | .local _ .vmem, ⟨26, _⟩ => ⟨S512x32, .f32⟩
  | .local _ .vmem, ⟨27, _⟩ => ⟨S512x32, .f32⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev main_v34_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x80x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S640x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PrepRefIdeal.lean ====
abbrev S16384x5120 : Shape := ⟨2, ![16384, 5120]⟩
abbrev S16384x16 : Shape := ⟨2, ![16384, 16]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S16384x32 : Shape := ⟨2, ![16384, 32]⟩
abbrev S16384x384 : Shape := ⟨2, ![16384, 384]⟩
abbrev S1x384 : Shape := ⟨2, ![1, 384]⟩
abbrev S16384x768 : Shape := ⟨2, ![16384, 768]⟩
abbrev S16384x8x96 : Shape := ⟨3, ![16384, 8, 96]⟩
abbrev S16384x8x64 : Shape := ⟨3, ![16384, 8, 64]⟩
abbrev S16384x8x32 : Shape := ⟨3, ![16384, 8, 32]⟩
abbrev S16384x1x16 : Shape := ⟨3, ![16384, 1, 16]⟩
abbrev S16384x8x16 : Shape := ⟨3, ![16384, 8, 16]⟩
abbrev S256x8x128 : Shape := ⟨3, ![256, 8, 128]⟩
abbrev S256x8x64 : Shape := ⟨3, ![256, 8, 64]⟩
abbrev S16384x1x32 : Shape := ⟨3, ![16384, 1, 32]⟩
abbrev S8x64x16384 : Shape := ⟨3, ![8, 64, 16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x5120, .f32⟩
  | .hbm, ⟨1, _⟩ => ⟨S16384x16, .f32⟩
  | .hbm, ⟨2, _⟩ => ⟨S16384x16, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x256, .f32⟩
  | .hbm, ⟨20, _⟩ => ⟨S16384x256, .f32⟩
  | .hbm, ⟨21, _⟩ => ⟨S1x256, .f32⟩
  | .hbm, ⟨22, _⟩ => ⟨S16384x256, .f32⟩
  | .hbm, ⟨23, _⟩ => ⟨S16384x256, .f32⟩
  | .hbm, ⟨24, _⟩ => ⟨S16384x32, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x32, .f32⟩
  | .hbm, ⟨34, _⟩ => ⟨S16384x384, .f32⟩
  | .hbm, ⟨35, _⟩ => ⟨S16384x384, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x384, .f32⟩
  | .hbm, ⟨47, _⟩ => ⟨S16384x384, .f32⟩
  | .hbm, ⟨48, _⟩ => ⟨S1x384, .f32⟩
  | .hbm, ⟨49, _⟩ => ⟨S16384x384, .f32⟩
  | .hbm, ⟨50, _⟩ => ⟨S16384x384, .f32⟩
  | .hbm, ⟨51, _⟩ => ⟨S16384x768, .f32⟩
  | .hbm, ⟨52, _⟩ => ⟨S16384x8x96, .f32⟩
  | .hbm, ⟨53, _⟩ => ⟨S16384x8x64, .f32⟩
  | .hbm, ⟨54, _⟩ => ⟨S16384x8x32, .f32⟩
  | .hbm, ⟨55, _⟩ => ⟨S16384x1x16, .f32⟩
  | .hbm, ⟨56, _⟩ => ⟨S16384x1x16, .f32⟩
  | .hbm, ⟨57, _⟩ => ⟨S16384x8x16, .f32⟩
  | .hbm, ⟨58, _⟩ => ⟨S16384x8x16, .f32⟩
  | .hbm, ⟨59, _⟩ => ⟨S16384x8x16, .f32⟩
  | .hbm, ⟨60, _⟩ => ⟨S16384x8x16, .f32⟩
  | .hbm, ⟨61, _⟩ => ⟨S16384x8x16, .f32⟩
  | .hbm, ⟨62, _⟩ => ⟨S16384x8x16, .f32⟩
  | .hbm, ⟨63, _⟩ => ⟨S16384x8x16, .f32⟩
  | .hbm, ⟨64, _⟩ => ⟨S16384x8x16, .f32⟩
  | .hbm, ⟨65, _⟩ => ⟨S16384x8x16, .f32⟩
  | .hbm, ⟨66, _⟩ => ⟨S16384x8x16, .f32⟩
  | .hbm, ⟨67, _⟩ => ⟨S16384x8x16, .f32⟩
  | .hbm, ⟨68, _⟩ => ⟨S16384x8x16, .f32⟩
  | .hbm, ⟨69, _⟩ => ⟨S16384x8x32, .f32⟩
  | .hbm, ⟨70, _⟩ => ⟨S16384x8x96, .f32⟩
  | .hbm, ⟨71, _⟩ => ⟨S_, .f32⟩
  | .hbm, ⟨72, _⟩ => ⟨S16384x8x96, .f32⟩
  | .hbm, ⟨73, _⟩ => ⟨S16384x8x96, .f32⟩
  | .hbm, ⟨74, _⟩ => ⟨S256x8x128, .f32⟩
  | .hbm, ⟨75, _⟩ => ⟨S256x8x64, .f32⟩
  | .hbm, ⟨76, _⟩ => ⟨S16384x8x64, .f32⟩
  | .hbm, ⟨77, _⟩ => ⟨S16384x1x32, .f32⟩
  | .hbm, ⟨78, _⟩ => ⟨S16384x8x32, .f32⟩
  | .hbm, ⟨79, _⟩ => ⟨S16384x8x96, .f32⟩
  | .hbm, ⟨80, _⟩ => ⟨S256x8x64, .f32⟩
  | .hbm, ⟨81, _⟩ => ⟨S8x64x16384, .f32⟩
  | .hbm, ⟨82, _⟩ => ⟨S16384x8x96, .bf16⟩
  | .hbm, ⟨83, _⟩ => ⟨S16384x8x96, .bf16⟩
  | .hbm, ⟨84, _⟩ => ⟨S8x64x16384, .bf16⟩
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== Proof.Layer.Formula.lean ====
/-
The small functions the layer's calls are made of, over the extended reals.
-/
module

public import Idealize.ShloMosaic.PureOps.Ideal

@[expose] public section

noncomputable section

namespace Cert.Layer

open Idealize.ShloMosaic

/-- The sigmoid of an extended real. -/
def sg (x : EReal) : EReal := Ideal.div 1 (1 + Ideal.exp (-x))

/-- The reciprocal root of the mean square of a row of 1024 numbers, with the layer's epsilon. -/
def rinv (x : Fin 1024 → EReal) : EReal :=
  Ideal.rsqrt (Ideal.div (∑ k, x k * x k) (Ideal.ofBits .f32 0x44800000#32) + Ideal.ofBits .f32 0x358637BD#32)

/-- A row divided by the root of its mean square, times the weights `g`. -/
def nrm (x g : Fin 1024 → EReal) (i : Fin 1024) : EReal := x i * rinv x * g i

/-- Gate `b` of one row, at its place `k`. -/
def gate (x g : Fin 1024 → EReal) (w : Fin 1024 → Fin 3072 → EReal) (b : Fin 3) (k : Fin 1024) : EReal :=
  sg (∑ l, nrm x g l * w l ⟨b.val * 1024 + k.val, by omega⟩)

/-- One row of the merge: the residual and the projection of the three gated branches. -/
def mergeRow (x g : Fin 1024 → EReal) (w : Fin 1024 → Fin 3072 → EReal) (ya : Fin 512 → EReal) (yb : Fin 1024 → EReal) (yc : Fin 512 → EReal)
    (wa : Fin 512 → Fin 1024 → EReal) (wb : Fin 1024 → Fin 1024 → EReal) (wc : Fin 512 → Fin 1024 → EReal) (wo : Fin 1024 → Fin 1024 → EReal)
    (j : Fin 1024) : EReal :=
  x j + ∑ k, (gate x g w 0 k * (∑ l, ya l * wa l k) + gate x g w 1 k * (∑ l, yb l * wb l k)
    + gate x g w 2 k * (∑ l, yc l * wc l k)) * wo k j

/-- The square of the positive part. -/
def sqRelu (x : EReal) : EReal := max x 0 * max x 0

/-- One row of the feed-forward layer over its whole hidden width: the residual and the projected hidden row. -/
def ffnMid (x g : Fin 1024 → EReal) (wu : Fin 1024 → Fin 4096 → EReal) (wd : Fin 4096 → Fin 1024 → EReal) (j : Fin 1024) : EReal :=
  x j + ∑ f, sqRelu (∑ l, nrm x g l * wu l f) * wd f j

/-- One row with the gated projection of its embedding added. -/
def ple (x g : Fin 1024 → EReal) (wg : Fin 1024 → Fin 1024 → EReal) (p : Fin 256 → EReal) (wp : Fin 256 → Fin 1024 → EReal) (j : Fin 1024) : EReal :=
  x j + sg (∑ l, nrm x g l * wg l j) * ∑ l, p l * wp l j

/-- One row normed and projected on the weights `w`. -/
def projAt (x g w : Fin 1024 → EReal) : EReal := ∑ l, nrm x g l * w l

/-- The reciprocal root of the mean square of a row, the row's length given as the word `d`, with the layer's epsilon. -/
def rinvN {n : ℕ} (d : BitVec 32) (x : Fin n → EReal) : EReal :=
  Ideal.rsqrt (Ideal.div (∑ k, x k * x k) (Ideal.ofBits .f32 d) + Ideal.ofBits .f32 0x358637BD#32)

/-- A row divided by the root of its mean square, times the weights `g`, the row's length given as the word `d`. -/
def nrmN {n : ℕ} (d : BitVec 32) (x g : Fin n → EReal) (i : Fin n) : EReal := x i * rinvN d x * g i

/-- 32 columns rotated by the angles' cosines `c` and sines `s`: the two halves of 16 are the coordinates rotated. -/
def rope (x : Fin 32 → EReal) (c s : Fin 16 → EReal) (e : Fin 32) : EReal :=
  if h : e.val < 16 then x e * c ⟨e.val, h⟩ - x ⟨e.val + 16, by omega⟩ * s ⟨e.val, h⟩
  else x ⟨e.val - 16, by omega⟩ * s ⟨e.val - 16, by omega⟩ + x e * c ⟨e.val - 16, by omega⟩

/-- A head's 96 columns: the first 64 from `a`, the other 32 from `b`. -/
def headCols (a : Fin 64 → EReal) (b : Fin 32 → EReal) (d : Fin 96) : EReal :=
  if h : d.val < 64 then a ⟨d.val, h⟩ else b ⟨d.val - 64, by omega⟩

end Cert.Layer
-- ==== Proof.Ffn.Pay.lean ====
/-
What one grid point of the feed-forward call computes from the blocks it loads, at an index.
-/
module

public import proofs.«01_k».proof.Defs
public import proofs.«01_k».proof.Proof.Gen.FfnIdeal.Skeleton
public import proofs.«01_k».proof.Proof.Layer.Formula
public import Idealize.ShloMosaic.PureOps.Ideal
public import Idealize.ShloMosaic.Lib.Pointwise
public import Idealize.ShloMosaic.Lib.ValueIdx

@[expose] public section

set_option maxRecDepth 16384
set_option Elab.async false

noncomputable section

namespace Cert.FfnIdeal.Val

open Cert.FfnIdeal Cert.FfnIdeal.Gen Cert.Layer
open Idealize.ShloMosaic

/-- The normed rows that the first point of a row of the grid keeps. -/
theorem normed_at (x : Vec Ideal S1024x1024 .f32) (g : Vec Ideal S1x1024 .f32) (i j : Fin 1024) :
    k0_pay1 x g (ix2 i j) = nrm (fun k => x (ix2 i k)) (fun k => g (ix2 0 k)) j := by
  unfold k0_pay1 nrm rinv
  pointwise

/-- The residual with which the running sum starts. -/
theorem start_at (x : Vec Ideal S1024x1024 .f32) (i j : Fin 1024) : k0_pay2 x (ix2 i j) = x (ix2 i j) := by
  unfold k0_pay2
  pointwise

/-- One tile of the hidden layer added to the running sum. -/
theorem step_at (h wu : Vec Ideal S1024x1024 .bf16) (a : Vec Ideal S1024x1024 .f32) (wd : Vec Ideal S1024x1024 .bf16) (i j : Fin 1024) :
    k0_pay3 h wu a wd (ix2 i j) = a (ix2 i j) + ∑ f : Fin 1024, sqRelu (∑ l, h (ix2 i l) * wu (ix2 l f)) * wd (ix2 f j) := by
  unfold k0_pay3 sqRelu
  pointwise

/-- The gated embedding added. -/
theorem ple_at (x : Vec Ideal S1024x1024 .f32) (g : Vec Ideal S1x1024 .f32) (w : Vec Ideal S1024x1024 .bf16) (p : Vec Ideal S1x1024x256 .f32)
    (wp : Vec Ideal S256x1024 .bf16) (i j : Fin 1024) :
    k0_pay5 x g w p wp (ix2 i j) = ple (fun k => x (ix2 i k)) (fun k => g (ix2 0 k)) (fun l k => w (ix2 l k)) (fun l => p (ix3 0 i l))
      (fun l k => wp (ix2 l k)) j := by
  unfold k0_pay5 ple sg nrm rinv
  pointwise
  simp only [sub_eq_add_neg, zero_add]

/-- The last norm. -/
theorem last_at (x : Vec Ideal S1024x1024 .f32) (g : Vec Ideal S1x1024 .f32) (w : Vec Ideal S1024x1024 .bf16) (p : Vec Ideal S1x1024x256 .f32)
    (wp : Vec Ideal S256x1024 .bf16) (gf : Vec Ideal S1x1024 .f32) (i j : Fin 1024) :
    k0_pay4 (k0_pay5 x g w p wp) (k0_pay6 gf) (k0_pay7 x g w p wp) (ix2 i j) =
      nrm (fun k => k0_pay5 x g w p wp (ix2 i k)) (fun k => gf (ix2 0 k)) j := by
  unfold k0_pay4 k0_pay6 k0_pay7 nrm rinv
  generalize k0_pay5 x g w p wp = y
  pointwise

end Cert.FfnIdeal.Val

end
-- ==== Proof.Ffn.Point.lean ====
/-
What one grid point of the feed-forward call leaves in its block of results and in what it keeps for the next point: expressions
in the blocks it loads and in what the point before kept.
-/
module

public import proofs.«01_k».proof.Proof.Ffn.Pay
public import proofs.«01_k».proof.Proof.Gen.FfnIdeal.Frame
public import Idealize.ShloMosaic.Lib.Pipeline.ValueKit

@[expose] public section

set_option maxRecDepth 16384
set_option Elab.async false

noncomputable section

namespace Cert.FfnIdeal.Val

open Cert.FfnIdeal Cert.FfnIdeal.Gen Cert.Layer
open Idealize.ShloMosaic Idealize.ShloMosaic.TcCoe

theorem hz2 : (![0, 0] : Fin 2 → ℕ) = fun _ => 0 := funext fun a => by fin_cases a <;> rfl
theorem hz3 : (![0, 0, 0] : Fin 3 → ℕ) = fun _ => 0 := funext fun a => by fin_cases a <;> rfl

/-- A kept array read back is what was kept. -/
theorem kept0 (h : scM0_0.IsWhole) (X : Vec Ideal S1024x1024 .bf16) :
    View.read (Elt Ideal) (View.whole cc0_scratch0) (h.unread X) = X := h.read_unread X
theorem kept1 (h : scM0_1.IsWhole) (X : Vec Ideal S1024x1024 .f32) :
    View.read (Elt Ideal) (View.whole cc0_scratch1) (h.unread X) = X := h.read_unread X

variable (m : (ℓ : Loc nD τ sig) → Buf (Elt Ideal) ℓ)

set_option maxHeartbeats 1000000 in
theorem first_h (c : Dev nD) (t : Fin cfg0.N) (h0 : t.val % 4 = 0) :
    (outsAt0 m c t.val t.isLt).2.1 = k0_pay1 (iblk m c 0 t) (iblk m c 1 t) := by
  rw [outsAt0_A m c t h0 (by omega)]
  dsimp only
  unfold sout0_A_0
  rw [View.read_writes_junk_eq_canon]
  unfold kernelRun0_A
  dsimp only
  unfold kernelRun0_A.sl.HS0_1
  rw [View.canon_unit_zero hz2]
  simp only [View.readAt_eq_ld, Memref.IsWhole.read_unread, View.ld_unit_zero (S := S1024x1024) hz2, View.ld_unit_zero (S := S1x1024) hz2,
    View.ld_unit_zero (S := S256x1024) hz2, View.ld_unit_zero (S := S1x1024x256) hz3]

set_option maxHeartbeats 1000000 in
theorem first_acc (c : Dev nD) (t : Fin cfg0.N) (h0 : t.val % 4 = 0) :
    (outsAt0 m c t.val t.isLt).2.2 = k0_pay3 (k0_pay1 (iblk m c 0 t) (iblk m c 1 t)) (iblk m c 2 t) (k0_pay2 (iblk m c 0 t)) (iblk m c 3 t) := by
  rw [outsAt0_A m c t h0 (by omega)]
  dsimp only
  unfold sout0_A_1
  rw [View.read_writes_junk_eq_canon]
  unfold kernelRun0_A
  dsimp only
  rw [View.canon_cons_unit_zero hz2]
  unfold kernelRun0_A.sl.v3 kernelRun0_A.sl.v9 kernelRun0_A.sl.HS0_1 kernelRun0_A.sl.HS1_1
  rw [View.readCov_unit_zero _ hz2, View.readCov_unit_zero _ hz2]
  simp only [View.readAt_eq_ld, Memref.IsWhole.read_unread, View.ld_unit_zero (S := S1024x1024) hz2, View.ld_unit_zero (S := S1x1024) hz2,
    View.ld_unit_zero (S := S256x1024) hz2, View.ld_unit_zero (S := S1x1024x256) hz3]

set_option maxHeartbeats 1000000 in
theorem next_h (c : Dev nD) (t : Fin cfg0.N) (h0 : ¬t.val % 4 = 0) (hp : t.val - 1 < cfg0.N) :
    (outsAt0 m c t.val t.isLt).2.1 = (outsAt0 m c (t.val - 1) hp).2.1 := by
  by_cases h1 : t.val % 4 = 3
  · rw [outsAt0_C m c t h0 h1]
    rfl
  · rw [outsAt0_B m c t h0 h1]
    rfl

set_option maxHeartbeats 1000000 in
theorem next_acc (c : Dev nD) (t : Fin cfg0.N) (h0 : ¬t.val % 4 = 0) (hp : t.val - 1 < cfg0.N) :
    (outsAt0 m c t.val t.isLt).2.2 = k0_pay3 (outsAt0 m c (t.val - 1) hp).2.1 (iblk m c 2 t) (outsAt0 m c (t.val - 1) hp).2.2 (iblk m c 3 t) := by
  by_cases h1 : t.val % 4 = 3
  · rw [outsAt0_C m c t h0 h1]
    dsimp only
    unfold sout0_C_1
    rw [View.read_writes_junk_eq_canon]
    unfold kernelRun0_C
    dsimp only
    unfold kernelRun0_C.sl.HS1_1
    rw [View.canon_unit_zero hz2]
    simp only [View.readAt_eq_ld, Memref.IsWhole.read_unread, View.ld_unit_zero (S := S1024x1024) hz2, View.ld_unit_zero (S := S1x1024) hz2,
    View.ld_unit_zero (S := S256x1024) hz2, View.ld_unit_zero (S := S1x1024x256) hz3]
    rw [kept0, kept1]
  · rw [outsAt0_B m c t h0 h1]
    dsimp only
    unfold sout0_B_1
    rw [View.read_writes_junk_eq_canon]
    unfold kernelRun0_B
    dsimp only
    rw [View.canon_unit_zero hz2]
    simp only [View.readAt_eq_ld, Memref.IsWhole.read_unread, View.ld_unit_zero (S := S1024x1024) hz2, View.ld_unit_zero (S := S1x1024) hz2,
    View.ld_unit_zero (S := S256x1024) hz2, View.ld_unit_zero (S := S1x1024x256) hz3]
    rw [kept0, kept1]

set_option maxHeartbeats 1000000 in
theorem last_out (c : Dev nD) (t : Fin cfg0.N) (h1 : t.val % 4 = 3) :
    (outsAt0 m c t.val t.isLt).1 = k0_pay4
      (k0_pay5 (outsAt0 m c t.val t.isLt).2.2 (iblk m c 4 t) (iblk m c 5 t) (iblk m c 6 t) (iblk m c 7 t)) (k0_pay6 (iblk m c 8 t))
      (k0_pay7 (outsAt0 m c t.val t.isLt).2.2 (iblk m c 4 t) (iblk m c 5 t) (iblk m c 6 t) (iblk m c 7 t)) := by
  rw [next_acc m c t (by omega) (lt_of_le_of_lt (Nat.sub_le _ _) t.isLt)]
  rw [outsAt0_C m c t (by omega) h1]
  dsimp only
  unfold out0_C_9
  rw [View.read_writes_junk_eq_canon]
  unfold kernelRun0_C
  dsimp only
  rw [View.canon_unit_zero hz2]
  unfold kernelRun0_C.sl.r kernelRun0_C.sl.r_1 kernelRun0_C.sl.r_2 kernelRun0_C.sl.v22 kernelRun0_C.sl.HS1_1
  rw [View.readCov_unit_zero _ hz2]
  simp only [View.readAt_eq_ld, Memref.IsWhole.read_unread, View.ld_unit_zero (S := S1024x1024) hz2, View.ld_unit_zero (S := S1x1024) hz2,
    View.ld_unit_zero (S := S256x1024) hz2, View.ld_unit_zero (S := S1x1024x256) hz3]
  rw [kept0, kept1]

end Cert.FfnIdeal.Val

end
-- ==== Proof.Ffn.Blocks.lean ====
/-
The blocks of the feed-forward call's arguments that one grid point loads, at an index of the arguments.
-/
module

public import proofs.«01_k».proof.Proof.Ffn.Point

@[expose] public section

set_option maxRecDepth 16384
set_option Elab.async false

noncomputable section

namespace Cert.FfnIdeal.Val

open Cert.FfnIdeal Cert.FfnIdeal.Gen Cert.Layer
open Idealize.ShloMosaic Idealize.ShloMosaic.TcCoe

/-- Where the blocks of grid point `t` lie: row block `t / 4`, tile `t % 4` of the hidden width, the other weights whole. -/
theorem idx : ∀ t : Fin cfg0.N,
    (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 4)
    ∧ (win0_3.index t (0 : Fin 2) = t.val % 4 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = 1 ∧ win0_6.index t (1 : Fin 3) = t.val / 4 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val / 4 ∧ win0_9.index t (1 : Fin 2) = 0) := by decide +kernel

variable (m : (ℓ : Loc nD τ sig) → Buf (Elt Ideal) ℓ)

theorem b0 (c : Dev nD) (t : Fin cfg0.N) (r k : Fin 1024) (h : t.val / 4 * 1024 + r.val < 16384) :
    iblk m c 0 t (ix2 r k) = m ((c : Thread nD τ).loc main_arg0) (ix2 ⟨t.val / 4 * 1024 + r.val, h⟩ k) := by
  have e := (idx t).1
  blk_ext [iblk, V_main_arg0, e.1, e.2]

theorem b1 (c : Dev nD) (t : Fin cfg0.N) (k : Fin 1024) :
    iblk m c 1 t (ix2 (0 : Fin 1) k) = m ((c : Thread nD τ).loc main_arg1) (ix1 k) := by
  have e := (idx t).2.1
  unfold iblk
  blk_simp
  entry_read
  pointwise
  blk_ext [e.1, e.2]

theorem b4 (c : Dev nD) (t : Fin cfg0.N) (k : Fin 1024) :
    iblk m c 4 t (ix2 (0 : Fin 1) k) = m ((c : Thread nD τ).loc main_arg4) (ix1 k) := by
  have e := (idx t).2.2.2.2.1
  unfold iblk
  blk_simp
  entry_read
  pointwise
  blk_ext [e.1, e.2]

theorem b8 (c : Dev nD) (t : Fin cfg0.N) (k : Fin 1024) :
    iblk m c 8 t (ix2 (0 : Fin 1) k) = m ((c : Thread nD τ).loc main_arg8) (ix1 k) := by
  have e := (idx t).2.2.2.2.2.2.2.2.1
  unfold iblk
  blk_simp
  entry_read
  pointwise
  blk_ext [e.1, e.2]

theorem b2 (c : Dev nD) (t : Fin cfg0.N) (l f : Fin 1024) (h : t.val % 4 * 1024 + f.val < 4096) :
    iblk m c 2 t (ix2 l f) = m ((c : Thread nD τ).loc main_arg2) (ix2 l ⟨t.val % 4 * 1024 + f.val, h⟩) := by
  have e := (idx t).2.2.1
  unfold iblk
  blk_simp
  entry_read
  pointwise
  blk_ext [e.1, e.2]

theorem b3 (c : Dev nD) (t : Fin cfg0.N) (f k : Fin 1024) (h : t.val % 4 * 1024 + f.val < 4096) :
    iblk m c 3 t (ix2 f k) = m ((c : Thread nD τ).loc main_arg3) (ix2 ⟨t.val % 4 * 1024 + f.val, h⟩ k) := by
  have e := (idx t).2.2.2.1
  unfold iblk
  blk_simp
  entry_read
  pointwise
  blk_ext [e.1, e.2]

theorem b5 (c : Dev nD) (t : Fin cfg0.N) (l k : Fin 1024) :
    iblk m c 5 t (ix2 l k) = m ((c : Thread nD τ).loc main_arg5) (ix2 l k) := by
  have e := (idx t).2.2.2.2.2.1
  unfold iblk
  blk_simp
  entry_read
  pointwise
  blk_ext [e.1, e.2]

theorem b6 (c : Dev nD) (t : Fin cfg0.N) (r : Fin 1024) (l : Fin 256) (h : t.val / 4 * 1024 + r.val < 16384) :
    iblk m c 6 t (ix3 (0 : Fin 1) r l) = m ((c : Thread nD τ).loc main_arg6) (ix4 1 0 ⟨t.val / 4 * 1024 + r.val, h⟩ l) := by
  have e := (idx t).2.2.2.2.2.2.1
  unfold iblk
  blk_simp
  entry_read
  pointwise
  blk_ext [e.1, e.2]

theorem b7 (c : Dev nD) (t : Fin cfg0.N) (l : Fin 256) (k : Fin 1024) :
    iblk m c 7 t (ix2 l k) = m ((c : Thread nD τ).loc main_arg7) (ix2 l k) := by
  have e := (idx t).2.2.2.2.2.2.2.1
  unfold iblk
  blk_simp
  entry_read
  pointwise
  blk_ext [e.1, e.2]

end Cert.FfnIdeal.Val

end
-- ==== Proof.Ffn.Sum.lean ====
/-
The running sum over the four tiles of the hidden width, and the result of the launch.
-/
module

public import proofs.«01_k».proof.Proof.Ffn.Blocks

@[expose] public section

set_option maxRecDepth 16384
set_option Elab.async false

noncomputable section

namespace Cert.FfnIdeal.Val

open Cert.FfnIdeal Cert.FfnIdeal.Gen Cert.Layer
open Idealize.ShloMosaic Idealize.ShloMosaic.TcCoe

/-- The tile `s` of a sum over the hidden width. -/
def tile (F : Fin 4096 → EReal) (s : ℕ) : EReal := ∑ f : Fin 1024, if h : s * 1024 + f.val < 4096 then F ⟨s * 1024 + f.val, h⟩ else 0

/-- The four tiles are the whole sum. -/
theorem tiles (F : Fin 4096 → EReal) : ∑ s ∈ Finset.range 4, tile F s = ∑ f, F f := by
  rw [Finset.sum_range]
  exact Fin.sum_mul_add_congr (S := 4) (n := 1024) (fun s k hl => dif_pos hl) rfl

variable (m : (ℓ : Loc nD τ sig) → Buf (Elt Ideal) ℓ)

/-- Row `i` of `x`. -/
def xrow (c : Dev nD) (i : Fin 16384) (k : Fin 1024) : EReal := m ((c : Thread nD τ).loc main_arg0) (ix2 i k)
/-- The first norm's weights. -/
def gvec (c : Dev nD) (k : Fin 1024) : EReal := m ((c : Thread nD τ).loc main_arg1) (ix1 k)
/-- The weights into the hidden width. -/
def wup (c : Dev nD) (l : Fin 1024) (f : Fin 4096) : EReal := m ((c : Thread nD τ).loc main_arg2) (ix2 l f)
/-- The weights out of the hidden width. -/
def wdown (c : Dev nD) (f : Fin 4096) (k : Fin 1024) : EReal := m ((c : Thread nD τ).loc main_arg3) (ix2 f k)

/-- The kept normed rows are those of the point's row block at every point. -/
theorem h_at (c : Dev nD) : ∀ (n : ℕ) (t : Fin cfg0.N), t.val % 4 = n → ∀ (r k : Fin 1024) (h : t.val / 4 * 1024 + r.val < 16384),
    (outsAt0 m c t.val t.isLt).2.1 (ix2 r k) = nrm (xrow m c ⟨t.val / 4 * 1024 + r.val, h⟩) (gvec m c) k := by
  intro n
  induction n with
  | zero =>
    intro t ht r k h
    rw [first_h m c t ht, normed_at]
    simp only [b0 m c t r _ h, b1]
    rfl
  | succ n ih =>
    intro t ht r k h
    have hp : t.val - 1 < cfg0.N := lt_of_le_of_lt (Nat.sub_le _ _) t.isLt
    have hd : (t.val - 1) / 4 = t.val / 4 := by omega
    rw [next_h m c t (by omega) hp]
    refine (ih ⟨t.val - 1, hp⟩ (by show (t.val - 1) % 4 = n; omega) r k (by show (t.val - 1) / 4 * 1024 + r.val < 16384; omega)).trans ?_
    simp only [hd]

/-- The term of hidden unit `f` in row `i` at place `j`. -/
def term (c : Dev nD) (i : Fin 16384) (j : Fin 1024) (f : Fin 4096) : EReal :=
  sqRelu (∑ l, nrm (xrow m c i) (gvec m c) l * wup m c l f) * wdown m c f j

/-- One tile of the point's sum. -/
theorem tile_at (c : Dev nD) (t : Fin cfg0.N) (r j : Fin 1024) (h : t.val / 4 * 1024 + r.val < 16384) (H : Vec Ideal S1024x1024 .bf16)
    (hH : ∀ k, H (ix2 r k) = nrm (xrow m c ⟨t.val / 4 * 1024 + r.val, h⟩) (gvec m c) k) :
    ∑ f : Fin 1024, sqRelu (∑ l, H (ix2 r l) * iblk m c 2 t (ix2 l f)) * iblk m c 3 t (ix2 f j)
      = tile (term m c ⟨t.val / 4 * 1024 + r.val, h⟩ j) (t.val % 4) := by
  unfold tile
  refine Finset.sum_congr rfl fun f _ => ?_
  have hf : t.val % 4 * 1024 + f.val < 4096 := by have := f.isLt; omega
  rw [dif_pos hf, b3 m c t f j hf]
  simp only [b2 m c t _ f hf, hH]
  rfl

/-- The running sum after a point: the residual and the tiles so far. -/
theorem acc_at (c : Dev nD) : ∀ (n : ℕ) (t : Fin cfg0.N), t.val % 4 = n → ∀ (r j : Fin 1024) (h : t.val / 4 * 1024 + r.val < 16384),
    (outsAt0 m c t.val t.isLt).2.2 (ix2 r j) = xrow m c ⟨t.val / 4 * 1024 + r.val, h⟩ j
      + ∑ s ∈ Finset.range (n + 1), tile (term m c ⟨t.val / 4 * 1024 + r.val, h⟩ j) s := by
  intro n
  induction n with
  | zero =>
    intro t ht r j h
    have hH : ∀ k, k0_pay1 (iblk m c 0 t) (iblk m c 1 t) (ix2 r k) = nrm (xrow m c ⟨t.val / 4 * 1024 + r.val, h⟩) (gvec m c) k := by
      intro k
      rw [← first_h m c t ht]
      exact h_at m c 0 t ht r k h
    rw [first_acc m c t ht, step_at, start_at, b0 m c t r j h, tile_at m c t r j h _ hH, ht, Finset.sum_range_one]
    rfl
  | succ n ih =>
    intro t ht r j h
    have hp : t.val - 1 < cfg0.N := lt_of_le_of_lt (Nat.sub_le _ _) t.isLt
    have hd : (t.val - 1) / 4 = t.val / 4 := by omega
    have hm : (t.val - 1) % 4 = n := by omega
    have hH : ∀ k, (outsAt0 m c (t.val - 1) hp).2.1 (ix2 r k) = nrm (xrow m c ⟨t.val / 4 * 1024 + r.val, h⟩) (gvec m c) k := by
      intro k
      rw [← next_h m c t (by omega) hp]
      exact h_at m c (n + 1) t ht r k h
    rw [next_acc m c t (by omega) hp, step_at, tile_at m c t r j h _ hH, ht, Finset.sum_range_succ _ (n + 1), ← add_assoc]
    congr 1
    refine (ih ⟨t.val - 1, hp⟩ hm r j (by show (t.val - 1) / 4 * 1024 + r.val < 16384; omega)).trans ?_
    simp only [hd]

/-- The result array: each row by the layer's formula. -/
def outF (c : Dev nD) : FVec Ideal S16384x1024 .f32 := fun i =>
  nrm (ple (ffnMid (fun k => m ((c : Thread nD τ).loc main_arg0) (ix2 (i 0) k)) (fun k => m ((c : Thread nD τ).loc main_arg1) (ix1 k))
      (fun l f => m ((c : Thread nD τ).loc main_arg2) (ix2 l f)) (fun f k => m ((c : Thread nD τ).loc main_arg3) (ix2 f k)))
    (fun k => m ((c : Thread nD τ).loc main_arg4) (ix1 k)) (fun l k => m ((c : Thread nD τ).loc main_arg5) (ix2 l k))
    (fun l => m ((c : Thread nD τ).loc main_arg6) (ix4 1 0 (i 0) l)) (fun l k => m ((c : Thread nD τ).loc main_arg7) (ix2 l k)))
    (fun k => m ((c : Thread nD τ).loc main_arg8) (ix1 k)) (i 1)

/-- What the last point of a row block writes is the result there. -/
theorem outs_apply (c : Dev nD) (t : Fin cfg0.N) (h3 : t.val % 4 = 3) (r j : Fin 1024) (h : t.val / 4 * 1024 + r.val < 16384) :
    (outsAt0 m c t.val t.isLt).1 (ix2 r j) = outF m c (ix2 ⟨t.val / 4 * 1024 + r.val, h⟩ j) := by
  have hacc : ∀ k, (outsAt0 m c t.val t.isLt).2.2 (ix2 r k)
      = ffnMid (xrow m c ⟨t.val / 4 * 1024 + r.val, h⟩) (gvec m c) (wup m c) (wdown m c) k := by
    intro k
    rw [acc_at m c 3 t h3 r k h, tiles]
    rfl
  rw [last_out m c t h3, last_at]
  simp only [ple_at, hacc, b4, b5, b6 m c t r _ h, b7, b8]
  rfl

/-- The result of the launch. -/
theorem arr_out (c : Dev nD) : (dats m 0 c).arrAt 9 cfg0.N = outF m c := by
  refine (dats m 0 c).arrAt_eq_of_covers (9 : Fin 10) _ (by decide +kernel) fun t hf y => ?_
  have e := (idx t).2.2.2.2.2.2.2.2.2
  have ht : t.val < 64 := t.isLt
  have h3 : t.val % 4 = 3 := (flush0_9 t).mp hf
  blk_simp
  rw [after0_9]
  have hy : (y : S1024x1024.Idx) = ix2 (y 0) (y 1) := by funext a; fin_cases a <;> rfl
  have hr : (y 0).val < 1024 := (y 0).isLt
  refine ((congrArg (outsAt0 m c t.val t.isLt).1 hy).trans (outs_apply m c t h3 (y 0) (y 1) (by omega))).trans ?_
  congr 1
  blk_ext [e.1, e.2]

end Cert.FfnIdeal.Val

end
-- ==== Proof.FfnRef.Value.lean ====
/-
The reference of the feed-forward call at an index.
-/
module

public import proofs.«01_k».proof.Defs
public import proofs.«01_k».proof.Proof.Gen.FfnRefIdeal.Run
public import proofs.«01_k».proof.Proof.Layer.Formula
public import Idealize.ShloMosaic.Lib.Pointwise
public import Idealize.ShloMosaic.Lib.ValueIdx

@[expose] public section

set_option maxRecDepth 16384
set_option Elab.async false

noncomputable section

namespace Cert.FfnRefIdeal.Val

open Cert.FfnRefIdeal Cert.FfnRefIdeal.Gen Cert.Layer
open Idealize.ShloMosaic Idealize.ShloMosaic.TcCoe

/-- The rows of `x` normed and weighted. -/
def normed (x : FVec Ideal S16384x1024 .f32) (g : FVec Ideal S1024 .f32) : FVec Ideal S16384x1024 .f32 :=
  (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

/-- The positive part of the hidden layer. -/
def hidden (h : FVec Ideal S16384x1024 .f32) (wu : FVec Ideal S1024x4096 .f32) : FVec Ideal S16384x4096 .f32 :=
  maximumf (Host.dotGeneral dot_S16384x1024_S1024x4096_S16384x4096_1_0_0_1_n_n none h wu) (broadcastInDim S16384x4096 ![] bcast_S_S16384x4096 (constant S_ .f32 0x00000000#32))

/-- The residual and the projection of the squared hidden layer. -/
def mid (x : FVec Ideal S16384x1024 .f32) (u : FVec Ideal S16384x4096 .f32) (wd : FVec Ideal S4096x1024 .f32) : FVec Ideal S16384x1024 .f32 :=
  addf x (Host.dotGeneral dot_S16384x4096_S4096x1024_S16384x1024_1_0_0_1_n_n none (mulf u u) wd)

/-- The gated projection of the embeddings added. -/
def withPle (x h : FVec Ideal S16384x1024 .f32) (wg : FVec Ideal S1024x1024 .f32) (p : FVec Ideal S2x1x16384x256 .f32) (wp : FVec Ideal S256x1024 .f32) :
    FVec Ideal S16384x1024 .f32 :=
  addf x (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none h wg))))) (Host.dotGeneral dot_S16384x256_S256x1024_S16384x1024_1_0_0_1_n_n none (shapeCast _ (extractStridedSlice S1x1x16384x256 ![1, 0, 0, 0] p slices_S2x1x16384x256_S1x1x16384x256_1_0_0_0) shapeCasts_S1x1x16384x256_S16384x256) wp))

/-- The whole of the reference in the stages above. -/
def whole (x : FVec Ideal S16384x1024 .f32) (g : FVec Ideal S1024 .f32) (wu : FVec Ideal S1024x4096 .f32) (wd : FVec Ideal S4096x1024 .f32)
    (gp : FVec Ideal S1024 .f32) (wg : FVec Ideal S1024x1024 .f32) (p : FVec Ideal S2x1x16384x256 .f32) (wp : FVec Ideal S256x1024 .f32)
    (gf : FVec Ideal S1024 .f32) : FVec Ideal S16384x1024 .f32 :=
  normed (withPle (mid x (hidden (normed x g) wu) wd) (normed (mid x (hidden (normed x g) wu) wd) gp) wg p wp) gf

theorem res_eq (m : (ℓ : Loc nD τ sig) → Buf (Elt Ideal) ℓ) (c : Dev nD) :
    Value.res_main_v55 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold Value.res_main_v55 whole withPle mid hidden normed
  rfl

theorem normed_apply (x : FVec Ideal S16384x1024 .f32) (g : FVec Ideal S1024 .f32) (i : Fin 16384) (j : Fin 1024) :
    normed x g (ix2 i j) = nrm (fun k => x (ix2 i k)) (fun k => g (ix1 k)) j := by
  unfold normed nrm rinv
  pointwise

theorem hidden_apply (h : FVec Ideal S16384x1024 .f32) (wu : FVec Ideal S1024x4096 .f32) (i : Fin 16384) (f : Fin 4096) :
    hidden h wu (ix2 i f) = max (∑ l, h (ix2 i l) * wu (ix2 l f)) 0 := by
  unfold hidden
  pointwise

theorem mid_apply (x : FVec Ideal S16384x1024 .f32) (u : FVec Ideal S16384x4096 .f32) (wd : FVec Ideal S4096x1024 .f32) (i : Fin 16384) (j : Fin 1024) :
    mid x u wd (ix2 i j) = x (ix2 i j) + ∑ f, u (ix2 i f) * u (ix2 i f) * wd (ix2 f j) := by
  unfold mid
  pointwise

theorem withPle_apply (x h : FVec Ideal S16384x1024 .f32) (wg : FVec Ideal S1024x1024 .f32) (p : FVec Ideal S2x1x16384x256 .f32)
    (wp : FVec Ideal S256x1024 .f32) (i : Fin 16384) (j : Fin 1024) :
    withPle x h wg p wp (ix2 i j) = x (ix2 i j) + sg (∑ l, h (ix2 i l) * wg (ix2 l j)) * ∑ l, p (ix4 1 0 i l) * wp (ix2 l j) := by
  unfold withPle sg
  pointwise

/-- An element of the reference's result is the layer's formula at its row. -/
theorem row_eq (x : FVec Ideal S16384x1024 .f32) (g : FVec Ideal S1024 .f32) (wu : FVec Ideal S1024x4096 .f32) (wd : FVec Ideal S4096x1024 .f32)
    (gp : FVec Ideal S1024 .f32) (wg : FVec Ideal S1024x1024 .f32) (p : FVec Ideal S2x1x16384x256 .f32) (wp : FVec Ideal S256x1024 .f32)
    (gf : FVec Ideal S1024 .f32) (i : Fin 16384) (j : Fin 1024) :
    whole x g wu wd gp wg p wp gf (ix2 i j) =
      nrm (ple (ffnMid (fun k => x (ix2 i k)) (fun k => g (ix1 k)) (fun l f => wu (ix2 l f)) (fun f k => wd (ix2 f k)))
        (fun k => gp (ix1 k)) (fun l k => wg (ix2 l k)) (fun l => p (ix4 1 0 i l)) (fun l k => wp (ix2 l k))) (fun k => gf (ix1 k)) j := by
  unfold whole
  simp only [normed_apply, withPle_apply, mid_apply, hidden_apply]
  rfl

end Cert.FfnRefIdeal.Val

end
-- ==== Proof.Layer.Ffn.lean ====
/-
The feed-forward call: the frames, and that the kernel's result is the reference's.
-/
module

public import proofs.«01_k».proof.Defs
public import proofs.«01_k».proof.Proof.Gen.Ffn.Frame
public import proofs.«01_k».proof.Proof.Ffn.Sum
public import proofs.«01_k».proof.Proof.FfnRef.Value
public import Idealize.ShloMosaic.Lib.Quiescent
public import Idealize.ShloMosaic.Lib.Claim

@[expose] public section

set_option maxRecDepth 16384

noncomputable section

namespace Cert.Proof

open Idealize.ShloMosaic Idealize.SL.Sem

instance factsFfn : Cert.Ffn.Facts := Cert.Ffn.Gen.facts
instance factsFfnIdeal : Cert.FfnIdeal.Facts := Cert.FfnIdeal.Gen.facts
instance factsFfnRefIdeal : Cert.FfnRefIdeal.Facts := Cert.FfnRefIdeal.Gen.facts

theorem ffn_frame : Cert.quiescent_Ffn := fun m g _ => Cert.Ffn.Gen.frame m g

theorem ffn_frame_ideal : Cert.quiescent_FfnIdeal := fun m g _ => Cert.FfnIdeal.Gen.frame m g

theorem ffn_frame_ref : Cert.quiescent_FfnRefIdeal := fun m g _ =>
  (θ_run _ _ _).mono (fun r h => ⟨fun c => (h c).2, sem_eq_zero_of_no_sems (by decide) _⟩) (Cert.FfnRefIdeal.Value.run m g)

/-- The feed-forward call: the kernel's result and the reference's are the same array. -/
theorem ffn : Cert.algebraic_FfnIdeal_FfnRefIdeal := by
  intro m g m' g' _ hag
  refine ⟨Cert.FfnIdeal.Val.outF m, ?_, ?_⟩
  · refine (θ_run _ _ _).mono (fun r h c => ⟨((h.1 c).1 (9 : Fin 10)).trans (Cert.FfnIdeal.Val.arr_out m c), h.2 c⟩)
      (θ_run_and (Cert.FfnIdeal.Gen.run_main m g) (Cert.FfnIdeal.Gen.unchanged m g))
  · refine (θ_run _ _ _).mono (fun r h c => ⟨(h c).1.trans ?_, (h c).2⟩) (Cert.FfnRefIdeal.Value.run m' g')
    obtain ⟨h0, h1, h2, h3, h4, h5, h6, h7, h8⟩ := hag c
    refine (Cert.FfnRefIdeal.Val.res_eq m' c).trans ?_
    rw [h0, h1, h2, h3, h4, h5, h6, h7, h8]
    refine funext fun (i : Cert.FfnRefIdeal.S16384x1024.Idx) => ?_
    have hi : i = ix2 (i 0) (i 1) := by funext a; fin_cases a <;> rfl
    rw [hi]
    exact Cert.FfnRefIdeal.Val.row_eq _ _ _ _ _ _ _ _ _ _ _

end Cert.Proof

end
-- ==== Proof.Merge.Pay.lean ====
/-
What one grid point of the merge computes from the blocks it loads, at an index.
-/
module

public import proofs.«01_k».proof.Defs
public import proofs.«01_k».proof.Proof.Gen.MergeIdeal.Skeleton
public import proofs.«01_k».proof.Proof.Layer.Formula
public import Idealize.ShloMosaic.PureOps.Ideal
public import Idealize.ShloMosaic.Lib.Pointwise
public import Idealize.ShloMosaic.Lib.ValueIdx

@[expose] public section

set_option maxRecDepth 16384
set_option Elab.async false

noncomputable section

namespace Cert.MergeIdeal.Val

open Cert.MergeIdeal Cert.MergeIdeal.Gen Cert.Layer
open Idealize.ShloMosaic

/-- The three gates before their sigmoid: the normed row of `x` against row `j` of the transposed weights. -/
theorem gates_at (x : Vec Ideal S512x1024 .f32) (g : Vec Ideal S1x1024 .f32) (w : Vec Ideal S1x3072x1024 .bf16)
    (i : Fin 512) (j : Fin 3072) :
    k0_pay2 x g w (ix2 i j) = ∑ k, nrm (fun k => x (ix2 i k)) (fun k => g (ix2 0 k)) k * w (ix3 0 j k) := by
  unfold k0_pay2 nrm rinv
  pointwise
  try simp only [sub_eq_add_neg, zero_add]

theorem part3_at (x : Vec Ideal S512x1024 .f32) (g : Vec Ideal S1x1024 .f32) (w : Vec Ideal S1x3072x1024 .bf16)
    (ya : Vec Ideal S512x512 .bf16) (wpa : Vec Ideal S512x1024 .bf16) (i : Fin 512) (j : Fin 1024) :
    k0_pay3 x g w ya wpa (ix2 i j) = sg (k0_pay2 x g w (ix2 i ⟨j, by omega⟩)) * ∑ k, ya (ix2 i k) * wpa (ix2 k j) := by
  unfold k0_pay3 sg
  pointwise
  try simp only [sub_eq_add_neg, zero_add]

theorem part4_at (x : Vec Ideal S512x1024 .f32) (g : Vec Ideal S1x1024 .f32) (w : Vec Ideal S1x3072x1024 .bf16)
    (i : Fin 512) (j : Fin 1024) :
    k0_pay4 x g w (ix2 i j) = 1 + Ideal.exp (-(k0_pay2 x g w (ix2 i ⟨1024 + j, by omega⟩))) := by
  unfold k0_pay4
  pointwise
  try simp only [sub_eq_add_neg, zero_add]

theorem out_at (v0 : Vec Ideal S512x1024 .f32) (v18 : FVec Ideal S512x3072 .f32) (v31 : FVec Ideal S512x1024 .f32) (v37 : FVec Ideal S512x1024 .f32) (v40 : Vec Ideal S512x1024 .bf16) (v41 : Vec Ideal S1024x1024 .bf16) (v54 : Vec Ideal S512x512 .bf16) (v55 : Vec Ideal S512x1024 .bf16) (v61 : Vec Ideal S1024x1024 .bf16)
    (i : Fin 512) (j : Fin 1024) :
    k0_pay1 v0 v18 v31 v37 v40 v41 v54 v55 v61 (ix2 i j) = v0 (ix2 i j) + ∑ k : Fin 1024,
      (v31 (ix2 i k) + Ideal.div 1 (v37 (ix2 i k)) * (∑ l, v40 (ix2 i l) * v41 (ix2 l k))
        + sg (v18 (ix2 i ⟨2048 + k, by omega⟩)) * ∑ l, v54 (ix2 l i) * v55 (ix2 l k)) * v61 (ix2 k j) := by
  unfold k0_pay1 sg
  pointwise
  try simp only [sub_eq_add_neg, zero_add]

end Cert.MergeIdeal.Val
-- ==== Proof.Merge.Point.lean ====
/-
What one grid point of the merge leaves in its block of results: one expression in the blocks it loads.
-/
module

public import proofs.«01_k».proof.Proof.Merge.Pay
public import proofs.«01_k».proof.Proof.Gen.MergeIdeal.Frame
public import Idealize.ShloMosaic.Lib.Pipeline.ValueKit

@[expose] public section

set_option maxRecDepth 16384
set_option Elab.async false

noncomputable section

namespace Cert.MergeIdeal.Val

open Cert.MergeIdeal Cert.MergeIdeal.Gen Cert.Layer
open Idealize.ShloMosaic Idealize.ShloMosaic.TcCoe

theorem hz2 : (![0, 0] : Fin 2 → ℕ) = fun _ => 0 := funext fun a => by fin_cases a <;> rfl
theorem hz3 : (![0, 0, 0] : Fin 3 → ℕ) = fun _ => 0 := funext fun a => by fin_cases a <;> rfl

variable (m : (ℓ : Loc nD τ sig) → Buf (Elt Ideal) ℓ)

set_option maxHeartbeats 1000000 in
/-- The point's result block from the blocks of its ten inputs. -/
theorem outs_eq (c : Dev nD) (t : Fin cfg0.N) :
    outsAt0 m c t = k0_pay1 (iblk m c 0 t) (k0_pay2 (iblk m c 0 t) (iblk m c 1 t) (X0_2 m c t))
      (k0_pay3 (iblk m c 0 t) (iblk m c 1 t) (X0_2 m c t) (iblk m c 3 t) (iblk m c 6 t))
      (k0_pay4 (iblk m c 0 t) (iblk m c 1 t) (X0_2 m c t)) (iblk m c 4 t) (iblk m c 7 t) (iblk m c 5 t) (iblk m c 8 t) (iblk m c 9 t) := by
  unfold outsAt0 out0_A_10
  rw [View.read_writes_junk_eq_canon]
  unfold kernelRun0_A
  dsimp only
  rw [View.canon_unit_zero hz2]
  simp only [View.readAt_eq_ld, Memref.IsWhole.read_unread, kernelRun0_A.sl.r, kernelRun0_A.sl.r_1, kernelRun0_A.sl.r_2, kernelRun0_A.sl.r_3]
  simp only [View.readAt_eq_ld, Memref.IsWhole.read_unread, View.ld_unit_zero (S := S512x1024) hz2, View.ld_unit_zero (S := S1x1024) hz2,
    View.ld_unit_zero (S := S512x512) hz2, View.ld_unit_zero (S := S1024x1024) hz2, View.ld_unit_zero (S := S1x3072x1024) hz3]

end Cert.MergeIdeal.Val

end
-- ==== Proof.Merge.Blocks.lean ====
/-
The blocks of the merge's arguments that one grid point loads, at an index of the arguments.
-/
module

public import proofs.«01_k».proof.Proof.Merge.Point

@[expose] public section

set_option maxRecDepth 16384
set_option Elab.async false

noncomputable section

namespace Cert.MergeIdeal.Val

open Cert.MergeIdeal Cert.MergeIdeal.Gen Cert.Layer
open Idealize.ShloMosaic Idealize.ShloMosaic.TcCoe

variable (m : (ℓ : Loc nD τ sig) → Buf (Elt Ideal) ℓ)

/-- Where the blocks of grid point `t` lie: block `t` of the rows, the weights whole. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = t.val)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) := by decide +kernel

/-- No block of the gates' weights is cut. -/
theorem moved2 : ∀ (t : Fin cfg0.N), (cfg0.win 2).clipped (cfg0.grid.coords t) = false := by decide +kernel

theorem b0 (c : Dev nD) (t : Fin cfg0.N) (r : Fin 512) (k : Fin 1024) (h : t.val * 512 + r.val < 16384) :
    iblk m c 0 t (ix2 r k) = m ((c : Thread nD τ).loc main_arg0) (ix2 ⟨t.val * 512 + r.val, h⟩ k) := by
  have e := (idx t).1
  blk_ext [iblk, V_main_arg0, e.1, e.2]

theorem b1 (c : Dev nD) (t : Fin cfg0.N) (k : Fin 1024) :
    iblk m c 1 t (ix2 (0 : Fin 1) k) = m ((c : Thread nD τ).loc main_arg1) (ix1 k) := by
  have e := (idx t).2.1
  unfold iblk
  blk_simp
  entry_read
  pointwise
  blk_ext [e.1, e.2]

theorem b2 (c : Dev nD) (t : Fin cfg0.N) (j : Fin 3072) (k : Fin 1024) :
    X0_2 m c t (ix3 (0 : Fin 1) j k) = m ((c : Thread nD τ).loc main_arg2) (ix3 0 k ⟨j.val, by omega⟩) := by
  have e := (idx t).2.2.1
  have hm : (cfg0.win 2).moved (cfg0.grid.coords t) (ix3 (0 : Fin 1) j k) = true := by
    have hc := ((cfg0.win 2).clipped_eq_false_iff _).mp (moved2 t)
    exact ((cfg0.win 2).moved_iff _ _).mpr fun a => by
      unfold Pipeline.Window.xsize; rw [hc a]; exact (ix3 (0 : Fin 1) j k a).isLt
  unfold X0_2 Pipeline.Window.fill
  rw [dif_pos hm]
  unfold iblk
  blk_simp
  entry_read
  pointwise
  blk_ext [e.1, e.2]

theorem b3 (c : Dev nD) (t : Fin cfg0.N) (r : Fin 512) (k : Fin 512) (h : t.val * 512 + r.val < 16384) :
    iblk m c 3 t (ix2 r k) = m ((c : Thread nD τ).loc main_arg3) (ix2 ⟨t.val * 512 + r.val, h⟩ k) := by
  have e := (idx t).2.2.2.1
  blk_ext [iblk, V_main_arg3, e.1, e.2]

theorem b4 (c : Dev nD) (t : Fin cfg0.N) (r : Fin 512) (k : Fin 1024) (h : t.val * 512 + r.val < 16384) :
    iblk m c 4 t (ix2 r k) = m ((c : Thread nD τ).loc main_arg4) (ix2 ⟨t.val * 512 + r.val, h⟩ k) := by
  have e := (idx t).2.2.2.2.1
  blk_ext [iblk, V_main_arg4, e.1, e.2]

theorem b5 (c : Dev nD) (t : Fin cfg0.N) (k r : Fin 512) (h : t.val * 512 + r.val < 16384) :
    iblk m c 5 t (ix2 k r) = m ((c : Thread nD τ).loc main_arg5) (ix2 k ⟨t.val * 512 + r.val, h⟩) := by
  have e := (idx t).2.2.2.2.2.1
  blk_ext [iblk, V_main_arg5, e.1, e.2]

theorem b6 (c : Dev nD) (t : Fin cfg0.N) (l : Fin 512) (k : Fin 1024) :
    iblk m c 6 t (ix2 l k) = m ((c : Thread nD τ).loc main_arg6) (ix2 l k) := by
  have e := (idx t).2.2.2.2.2.2.1
  unfold iblk
  blk_simp
  entry_read
  pointwise
  blk_ext [e.1, e.2]

theorem b7 (c : Dev nD) (t : Fin cfg0.N) (l : Fin 1024) (k : Fin 1024) :
    iblk m c 7 t (ix2 l k) = m ((c : Thread nD τ).loc main_arg7) (ix2 l k) := by
  have e := (idx t).2.2.2.2.2.2.2.1
  unfold iblk
  blk_simp
  entry_read
  pointwise
  blk_ext [e.1, e.2]

theorem b8 (c : Dev nD) (t : Fin cfg0.N) (l : Fin 512) (k : Fin 1024) :
    iblk m c 8 t (ix2 l k) = m ((c : Thread nD τ).loc main_arg8) (ix2 l k) := by
  have e := (idx t).2.2.2.2.2.2.2.2.1
  unfold iblk
  blk_simp
  entry_read
  pointwise
  blk_ext [e.1, e.2]

theorem b9 (c : Dev nD) (t : Fin cfg0.N) (l : Fin 1024) (k : Fin 1024) :
    iblk m c 9 t (ix2 l k) = m ((c : Thread nD τ).loc main_arg9) (ix2 l k) := by
  have e := (idx t).2.2.2.2.2.2.2.2.2.1
  unfold iblk
  blk_simp
  entry_read
  pointwise
  blk_ext [e.1, e.2]

/-- The array of results: row by row the merge of the arguments' rows. -/
def outM (c : Dev nD) : FVec Ideal S16384x1024 .f32 := fun i =>
  mergeRow (fun k => m ((c : Thread nD τ).loc main_arg0) (ix2 (i 0) k)) (fun k => m ((c : Thread nD τ).loc main_arg1) (ix1 k))
    (fun l k => m ((c : Thread nD τ).loc main_arg2) (ix3 0 l ⟨k.val, by omega⟩))
    (fun k => m ((c : Thread nD τ).loc main_arg3) (ix2 (i 0) k)) (fun k => m ((c : Thread nD τ).loc main_arg4) (ix2 (i 0) k))
    (fun k => m ((c : Thread nD τ).loc main_arg5) (ix2 k (i 0)))
    (fun l k => m ((c : Thread nD τ).loc main_arg6) (ix2 l k)) (fun l k => m ((c : Thread nD τ).loc main_arg7) (ix2 l k))
    (fun l k => m ((c : Thread nD τ).loc main_arg8) (ix2 l k)) (fun l k => m ((c : Thread nD τ).loc main_arg9) (ix2 l k)) (i 1)

/-- What a grid point leaves in its block of results is the rows of the merge. -/
theorem outs_apply (c : Dev nD) (t : Fin cfg0.N) (r : Fin 512) (j : Fin 1024) (h : t.val * 512 + r.val < 16384) :
    outsAt0 m c t (ix2 r j) = outM m c (ix2 ⟨t.val * 512 + r.val, h⟩ j) := by
  rw [outs_eq, out_at]
  simp only [part3_at, part4_at, gates_at, b0 m c t _ _ h, b1, b2, b3 m c t _ _ h, b4 m c t _ _ h, b5 m c t _ _ h, b6, b7, b8, b9]
  show _ = mergeRow _ _ _ _ _ _ _ _ _ _ _
  unfold mergeRow gate sg
  simp only [Fin.val_zero, Fin.val_one, Fin.val_two, zero_mul, zero_add, one_mul]
  rfl

/-- The array of results after the run. -/
theorem arr_out (c : Dev nD) : (dats m 0 c).arrAt (10 : Fin 11) cfg0.N = outM m c := by
  refine (dats m 0 c).arrAt_eq_of_covers (10 : Fin 11) _ (by decide +kernel) fun t hf y => ?_
  have e := (idx t).2.2.2.2.2.2.2.2.2.2
  have ht : t.val < 32 := t.isLt
  blk_simp
  rw [after0_10]
  have hy : (y : S512x1024.Idx) = ix2 (y 0) (y 1) := by funext a; fin_cases a <;> rfl
  have hr : (y 0).val < 512 := (y 0).isLt
  refine ((congrArg (outsAt0 m c t) hy).trans (outs_apply m c t (y 0) (y 1) (by omega))).trans ?_
  congr 1
  blk_ext [e.1, e.2]

end Cert.MergeIdeal.Val

end
-- ==== Proof.MergeRef.Value.lean ====
/-
The reference of the merge at an index.
-/
module

public import proofs.«01_k».proof.Defs
public import proofs.«01_k».proof.Proof.Gen.MergeRefIdeal.Run
public import proofs.«01_k».proof.Proof.Layer.Formula
public import Idealize.ShloMosaic.Lib.Pointwise
public import Idealize.ShloMosaic.Lib.ValueIdx

@[expose] public section

set_option maxRecDepth 16384
set_option Elab.async false

noncomputable section

namespace Cert.MergeRefIdeal.Val

open Cert.MergeRefIdeal Cert.MergeRefIdeal.Gen Cert.Layer
open Idealize.ShloMosaic
open Idealize.ShloMosaic.TcCoe

/-- The rows of `x` normed and weighted. -/
def normed (x : FVec Ideal S16384x1024 .f32) (g : FVec Ideal S1024 .f32) : FVec Ideal S16384x1024 .f32 :=
  (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

/-- The three gates of each row, side by side. -/
def gates (h : FVec Ideal S16384x1024 .f32) (w : FVec Ideal S2x1024x7856 .f32) : FVec Ideal S16384x3x1024 .f32 :=
  shapeCast _ (Host.divf (broadcastInDim S16384x3072 ![] bcast_S_S16384x3072 (constant S_ .f32 0x3F800000#32)) (addf (broadcastInDim S16384x3072 ![] bcast_S_S16384x3072 (constant S_ .f32 0x3F800000#32)) (Host.exp (Host.negf (Host.dotGeneral dot_S16384x1024_S1024x3072_S16384x3072_1_0_0_1_n_n none h (extractStridedSlice S1024x3072 ![0, 0] (shapeCast _ (extractStridedSlice S1x1024x7856 ![0, 0, 0] w slices_S2x1024x7856_S1x1024x7856_0_0_0) shapeCasts_S1x1024x7856_S1024x7856) slices_S1024x7856_S1024x3072_0_0)))))) shapeCasts_S16384x3072_S16384x3x1024

/-- The three gated branches, projected and summed. -/
def merged (g : FVec Ideal S16384x3x1024 .f32) (ya : FVec Ideal S16384x512 .bf16) (yb : FVec Ideal S16384x1024 .bf16) (yct : FVec Ideal S512x16384 .bf16)
    (wa : FVec Ideal S512x1024 .f32) (wb : FVec Ideal S1024x1024 .f32) (wc : FVec Ideal S512x1024 .f32) : FVec Ideal S16384x1024 .f32 :=
  (addf (addf (mulf (shapeCast _ (extractStridedSlice S16384x1x1024 ![0, 0, 0] g slices_S16384x3x1024_S16384x1x1024_0_0_0) shapeCasts_S16384x1x1024_S16384x1024) (Host.dotGeneral dot_S16384x512_S512x1024_S16384x1024_1_0_0_1_n_n none (extf .f32 ya bitsLt_bf16_f32) wa)) (mulf (shapeCast _ (extractStridedSlice S16384x1x1024 ![0, 1, 0] g slices_S16384x3x1024_S16384x1x1024_0_1_0) shapeCasts_S16384x1x1024_S16384x1024) (Host.dotGeneral dot_S16384x1024_S1024x1024_S16384x1024_1_0_0_1_n_n none (extf .f32 yb bitsLt_bf16_f32) wb))) (mulf (shapeCast _ (extractStridedSlice S16384x1x1024 ![0, 2, 0] g slices_S16384x3x1024_S16384x1x1024_0_2_0) shapeCasts_S16384x1x1024_S16384x1024) (Host.dotGeneral dot_S16384x512_S512x1024_S16384x1024_1_0_0_1_n_n none (transpose S16384x512 [1, 0] (extf .f32 yct bitsLt_bf16_f32) transposes_S512x16384_S16384x512_1_0) wc)))

/-- The residual plus the merged branches' projection. -/
def result (x : FVec Ideal S16384x1024 .f32) (y : FVec Ideal S16384x1024 .f32) (wo : FVec Ideal S1024x1024 .f32) : FVec Ideal S16384x1024 .f32 :=
  addf x (Host.dotGeneral dot_S16384x1024_S1024x1024_S16384x1024_1_0_0_1_n_n none y wo)

theorem res_eq (m : (ℓ : Loc nD τ sig) → Buf (Elt Ideal) ℓ) (c : Dev nD) :
    Value.res_main_v43 m c = result (m ((c.tc : Thread nD τ).loc main_arg0))
      (merged (gates (normed (m ((c.tc : Thread nD τ).loc main_arg0)) (m ((c.tc : Thread nD τ).loc main_arg1))) (m ((c.tc : Thread nD τ).loc main_arg2)))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)))
      (m ((c.tc : Thread nD τ).loc main_arg9)) := by
  unfold Value.res_main_v43 result merged gates normed
  rfl

theorem normed_apply (x : FVec Ideal S16384x1024 .f32) (g : FVec Ideal S1024 .f32) (i : Fin 16384) (j : Fin 1024) :
    normed x g (ix2 i j) = nrm (fun k => x (ix2 i k)) (fun k => g (ix1 k)) j := by
  unfold normed nrm rinv
  pointwise

theorem gates_apply (h : FVec Ideal S16384x1024 .f32) (w : FVec Ideal S2x1024x7856 .f32) (i : Fin 16384) (b : Fin 3) (j : Fin 1024) :
    gates h w (ix3 i b j) = sg (∑ k : Fin 1024, h (ix2 i k) * w (ix3 0 k ⟨b.val * 1024 + j.val, by omega⟩)) := by
  unfold gates sg
  pointwise

theorem merged_apply (g : FVec Ideal S16384x3x1024 .f32) (ya : FVec Ideal S16384x512 .bf16) (yb : FVec Ideal S16384x1024 .bf16) (yct : FVec Ideal S512x16384 .bf16)
    (wa : FVec Ideal S512x1024 .f32) (wb : FVec Ideal S1024x1024 .f32) (wc : FVec Ideal S512x1024 .f32) (i : Fin 16384) (j : Fin 1024) :
    merged g ya yb yct wa wb wc (ix2 i j) = g (ix3 i 0 j) * (∑ l, ya (ix2 i l) * wa (ix2 l j))
      + g (ix3 i 1 j) * (∑ l, yb (ix2 i l) * wb (ix2 l j)) + g (ix3 i 2 j) * ∑ l, yct (ix2 l i) * wc (ix2 l j) := by
  unfold merged
  pointwise

theorem result_apply (x : FVec Ideal S16384x1024 .f32) (y : FVec Ideal S16384x1024 .f32) (wo : FVec Ideal S1024x1024 .f32) (i : Fin 16384) (j : Fin 1024) :
    result x y wo (ix2 i j) = x (ix2 i j) + ∑ k, y (ix2 i k) * wo (ix2 k j) := by
  unfold result
  pointwise

end Cert.MergeRefIdeal.Val

end
-- ==== Proof.MergeRef.Row.lean ====
/-
The reference of the merge, row by row.
-/
module

public import proofs.«01_k».proof.Proof.MergeRef.Value

@[expose] public section

set_option maxRecDepth 16384
set_option Elab.async false

noncomputable section

namespace Cert.MergeRefIdeal.Val

open Cert.MergeRefIdeal Cert.MergeRefIdeal.Gen Cert.Layer
open Idealize.ShloMosaic
open Idealize.ShloMosaic.TcCoe

/-- An element of the reference's result is the merge of its row. -/
theorem row_eq (x : FVec Ideal S16384x1024 .f32) (g : FVec Ideal S1024 .f32) (w : FVec Ideal S2x1024x7856 .f32)
    (ya : FVec Ideal S16384x512 .bf16) (yb : FVec Ideal S16384x1024 .bf16) (yct : FVec Ideal S512x16384 .bf16)
    (wa : FVec Ideal S512x1024 .f32) (wb : FVec Ideal S1024x1024 .f32) (wc : FVec Ideal S512x1024 .f32) (wo : FVec Ideal S1024x1024 .f32)
    (i : Fin 16384) (j : Fin 1024) :
    result x (merged (gates (normed x g) w) ya yb yct wa wb wc) wo (ix2 i j) =
      mergeRow (fun k => x (ix2 i k)) (fun k => g (ix1 k)) (fun l k => w (ix3 0 l ⟨k.val, by omega⟩))
        (fun k => ya (ix2 i k)) (fun k => yb (ix2 i k)) (fun k => yct (ix2 k i))
        (fun l k => wa (ix2 l k)) (fun l k => wb (ix2 l k)) (fun l k => wc (ix2 l k)) (fun l k => wo (ix2 l k)) j := by
  rw [result_apply]
  simp only [merged_apply, gates_apply, normed_apply]
  rfl

end Cert.MergeRefIdeal.Val

end
-- ==== Proof.Layer.Merge.lean ====
/-
The merge of the three branches: the frames, and that the kernel's result is the reference's.
-/
module

public import proofs.«01_k».proof.Defs
public import proofs.«01_k».proof.Proof.Gen.Merge.Frame
public import proofs.«01_k».proof.Proof.Merge.Blocks
public import proofs.«01_k».proof.Proof.MergeRef.Row
public import Idealize.ShloMosaic.Lib.Quiescent
public import Idealize.ShloMosaic.Lib.Claim

@[expose] public section

set_option maxRecDepth 16384

noncomputable section

namespace Cert.Proof

open Idealize.ShloMosaic Idealize.SL.Sem

instance factsMerge : Cert.Merge.Facts := Cert.Merge.Gen.facts
instance factsMergeIdeal : Cert.MergeIdeal.Facts := Cert.MergeIdeal.Gen.facts
instance factsMergeRefIdeal : Cert.MergeRefIdeal.Facts := Cert.MergeRefIdeal.Gen.facts

theorem merge_frame : Cert.quiescent_Merge := fun m g _ => Cert.Merge.Gen.frame m g

theorem merge_frame_ideal : Cert.quiescent_MergeIdeal := fun m g _ => Cert.MergeIdeal.Gen.frame m g

theorem merge_frame_ref : Cert.quiescent_MergeRefIdeal := fun m g _ =>
  (θ_run _ _ _).mono (fun r h => ⟨fun c => (h c).2, sem_eq_zero_of_no_sems (by decide) _⟩) (Cert.MergeRefIdeal.Value.run m g)

/-- The merge: the kernel's result and the reference's are the same array. -/
theorem merge : Cert.algebraic_MergeIdeal_MergeRefIdeal := by
  intro m g m' g' _ hag
  refine ⟨Cert.MergeIdeal.Val.outM m, ?_, ?_⟩
  · refine (θ_run _ _ _).mono (fun r h c => ⟨((h.1 c).1 (10 : Fin 11)).trans (Cert.MergeIdeal.Val.arr_out m c), h.2 c⟩)
      (θ_run_and (Cert.MergeIdeal.Gen.run_main m g) (Cert.MergeIdeal.Gen.unchanged m g))
  · refine (θ_run _ _ _).mono (fun r h c => ⟨(h c).1.trans ?_, (h c).2⟩) (Cert.MergeRefIdeal.Value.run m' g')
    obtain ⟨h0, h1, h2, h3, h4, h5, h6, h7, h8, h9⟩ := hag c
    refine (Cert.MergeRefIdeal.Val.res_eq m' c).trans ?_
    rw [h0, h1, h2, h3, h4, h5, h6, h7, h8, h9]
    refine funext fun (i : Cert.MergeRefIdeal.S16384x1024.Idx) => ?_
    have hi : i = ix2 (i 0) (i 1) := by funext a; fin_cases a <;> rfl
    rw [hi]
    exact Cert.MergeRefIdeal.Val.row_eq _ _ _ _ _ _ _ _ _ _ _ _

end Cert.Proof

end
-- ==== Proof.InProj.Pay.lean ====
/-
What one grid point of the input projection computes from its blocks, at an index.
-/
module

public import proofs.«01_k».proof.Defs
public import proofs.«01_k».proof.Proof.Gen.InProjIdeal.Skeleton
public import proofs.«01_k».proof.Proof.Layer.Formula
public import Idealize.ShloMosaic.PureOps.Ideal
public import Idealize.ShloMosaic.Lib.Pointwise
public import Idealize.ShloMosaic.Lib.ValueIdx

@[expose] public section

set_option maxRecDepth 16384
set_option Elab.async false

noncomputable section

namespace Cert.InProjIdeal.Val

open Cert.InProjIdeal Cert.InProjIdeal.Gen Cert.Layer
open Idealize.ShloMosaic Idealize.ShloMosaic.TcCoe

/-- The rows of a block normed. -/
theorem normed_at (x : Vec Ideal S2048x1024 .f32) (g : Vec Ideal S1x1024 .f32) (i : Fin 2048) (j : Fin 1024) :
    k0_pay1 x g (ix2 i j) = nrm (fun k => x (ix2 i k)) (fun k => g (ix2 0 k)) j := by
  unfold k0_pay1 nrm rinv
  pointwise

/-- The tile of the rearranged columns. -/
theorem tail_at (h : Vec Ideal S2048x1024 .bf16) (w : Vec Ideal S1024x1024 .bf16) (i : Fin 2048) (j : Fin 1024) :
    k0_pay2 h w (ix2 i j) = ∑ l, h (ix2 i l) * w (ix2 j l) := by
  unfold k0_pay2
  pointwise

/-- A tile of the other columns. -/
theorem main_at (h : Vec Ideal S2048x1024 .bf16) (w : Vec Ideal S1x1024x1024 .bf16) (i : Fin 2048) (j : Fin 1024) :
    k0_pay3 h w (ix2 i j) = ∑ l, h (ix2 i l) * w (ix3 0 j l) := by
  unfold k0_pay3
  pointwise

end Cert.InProjIdeal.Val

end
-- ==== Proof.InProj.Point.lean ====
/-
What one grid point of the input projection leaves in its block of results and in what it keeps for the next point: expressions
in the blocks it loads and in what the point before kept.
-/
module

public import proofs.«01_k».proof.Proof.InProj.Pay
public import proofs.«01_k».proof.Proof.Gen.InProjIdeal.Frame
public import Idealize.ShloMosaic.Lib.Pipeline.ValueKit

@[expose] public section

set_option maxRecDepth 16384
set_option Elab.async false

noncomputable section

namespace Cert.InProjIdeal.Val

open Cert.InProjIdeal Cert.InProjIdeal.Gen Cert.Layer
open Idealize.ShloMosaic Idealize.ShloMosaic.TcCoe

theorem hz2 : (![0, 0] : Fin 2 → ℕ) = fun _ => 0 := funext fun a => by fin_cases a <;> rfl
theorem hz3 : (![0, 0, 0] : Fin 3 → ℕ) = fun _ => 0 := funext fun a => by fin_cases a <;> rfl

/-- A kept array read back is what was kept. -/
theorem kept0 (h : scM0_0.IsWhole) (X : Vec Ideal S2048x1024 .bf16) :
    View.read (Elt Ideal) (View.whole cc0_scratch0) (h.unread X) = X := h.read_unread X

variable (m : (ℓ : Loc nD τ sig) → Buf (Elt Ideal) ℓ)

set_option maxHeartbeats 1000000 in
theorem first_h (c : Dev nD) (t : Fin cfg0.N) (h0 : t.val % 5 = 0) :
    (outsAt0 m c t.val t.isLt).2 = k0_pay1 (iblk m c 0 t) (iblk m c 1 t) := by
  rw [outsAt0_A m c t h0 (by omega)]
  dsimp only
  unfold sout0_A_0
  rw [View.read_writes_junk_eq_canon]
  unfold kernelRun0_A
  dsimp only
  unfold kernelRun0_A.sl.HS0_1
  rw [View.canon_unit_zero hz2]
  simp only [View.readAt_eq_ld, Memref.IsWhole.read_unread, View.ld_unit_zero (S := S2048x1024) hz2, View.ld_unit_zero (S := S1x1024) hz2,
    View.ld_unit_zero (S := S1024x1024) hz2, View.ld_unit_zero (S := S1x1024x1024) hz3]

theorem next_h (c : Dev nD) (t : Fin cfg0.N) (h0 : ¬t.val % 5 = 0) (hp : t.val - 1 < cfg0.N) :
    (outsAt0 m c t.val t.isLt).2 = (outsAt0 m c (t.val - 1) hp).2 := by
  rw [outsAt0_B m c t h0 (by omega)]
  rfl

set_option maxHeartbeats 1000000 in
theorem first_out (c : Dev nD) (t : Fin cfg0.N) (h0 : t.val % 5 = 0) :
    (outsAt0 m c t.val t.isLt).1 = k0_pay2 (k0_pay1 (iblk m c 0 t) (iblk m c 1 t)) (iblk m c 2 t) := by
  rw [outsAt0_A m c t h0 (by omega)]
  dsimp only
  unfold out0_A_4
  rw [View.read_writes_junk_eq_canon]
  unfold kernelRun0_A
  dsimp only
  rw [View.canon_unit_zero hz2]
  unfold kernelRun0_A.sl.v25 kernelRun0_A.sl.HS0_1
  rw [View.readCov_unit_zero _ hz2]
  simp only [View.readAt_eq_ld, Memref.IsWhole.read_unread, View.ld_unit_zero (S := S2048x1024) hz2, View.ld_unit_zero (S := S1x1024) hz2,
    View.ld_unit_zero (S := S1024x1024) hz2, View.ld_unit_zero (S := S1x1024x1024) hz3]

set_option maxHeartbeats 1000000 in
theorem next_out (c : Dev nD) (t : Fin cfg0.N) (h0 : ¬t.val % 5 = 0) (hp : t.val - 1 < cfg0.N) :
    (outsAt0 m c t.val t.isLt).1 = k0_pay3 (outsAt0 m c (t.val - 1) hp).2 (X0_3 m c t) := by
  rw [outsAt0_B m c t h0 (by omega)]
  dsimp only
  unfold out0_B_4
  rw [View.read_writes_junk_eq_canon]
  unfold kernelRun0_B
  dsimp only
  rw [View.canon_unit_zero hz2]
  simp only [View.readAt_eq_ld, Memref.IsWhole.read_unread, View.ld_unit_zero (S := S2048x1024) hz2, View.ld_unit_zero (S := S1x1024) hz2,
    View.ld_unit_zero (S := S1024x1024) hz2, View.ld_unit_zero (S := S1x1024x1024) hz3]
  rw [kept0]

end Cert.InProjIdeal.Val

end
-- ==== Proof.InProj.Host.lean ====
/-
What the launch of the input projection finds in the arrays prepared for it: the weights transposed and cast, and the rearranged columns.
-/
module

public import proofs.«01_k».proof.Proof.InProj.Point
public import Idealize.ShloMosaic.Lib.Pointwise
public import Idealize.ShloMosaic.Lib.ValueIdx
public import Idealize.ShloMosaic.Lib.Claim

@[expose] public section

set_option maxRecDepth 16384
set_option Elab.async false

noncomputable section

namespace Cert.InProjIdeal.Val

open Cert.InProjIdeal Cert.InProjIdeal.Gen Cert.Layer
open Idealize.ShloMosaic Idealize.ShloMosaic.TcCoe

/-- The pieces laid end to end. -/
def laid (a : FVec Ideal S384x1024 .bf16) (b : FVec Ideal S16x1024 .bf16) (z1 : FVec Ideal S112x1024 .bf16) (d : FVec Ideal S256x1024 .bf16) (z2 : FVec Ideal S64x1024 .bf16) (e : FVec Ideal S32x1024 .bf16) (z3 : FVec Ideal S32x1024 .bf16) (z4 : FVec Ideal S64x1024 .bf16) (f : FVec Ideal S32x1024 .bf16) (z5 : FVec Ideal S32x1024 .bf16) : FVec Ideal S1024x1024 .bf16 :=
  concatenate S1024x1024 0 [⟨S384x1024, a⟩, ⟨S16x1024, b⟩, ⟨S112x1024, z1⟩, ⟨S256x1024, d⟩, ⟨S64x1024, z2⟩, ⟨S32x1024, e⟩, ⟨S32x1024, z3⟩, ⟨S64x1024, z4⟩, ⟨S32x1024, f⟩, ⟨S32x1024, z5⟩] concatenates_S384x1024_S16x1024_S112x1024_S256x1024_S64x1024_S32x1024_S32x1024_S64x1024_S32x1024_S32x1024_S1024x1024_d0

theorem laid_a (a : FVec Ideal S384x1024 .bf16) (b : FVec Ideal S16x1024 .bf16) (z1 : FVec Ideal S112x1024 .bf16) (d : FVec Ideal S256x1024 .bf16) (z2 : FVec Ideal S64x1024 .bf16) (e : FVec Ideal S32x1024 .bf16) (z3 : FVec Ideal S32x1024 .bf16) (z4 : FVec Ideal S64x1024 .bf16) (f : FVec Ideal S32x1024 .bf16) (z5 : FVec Ideal S32x1024 .bf16) (k : Fin 384) (l : Fin 1024) (h : 0 + k.val < 1024) :
    laid a b z1 d z2 e z3 z4 f z5 (ix2 ⟨0 + k.val, h⟩ l) = a (ix2 k l) := by
  have hk := k.isLt
  unfold laid
  pointwise

theorem laid_b (a : FVec Ideal S384x1024 .bf16) (b : FVec Ideal S16x1024 .bf16) (z1 : FVec Ideal S112x1024 .bf16) (d : FVec Ideal S256x1024 .bf16) (z2 : FVec Ideal S64x1024 .bf16) (e : FVec Ideal S32x1024 .bf16) (z3 : FVec Ideal S32x1024 .bf16) (z4 : FVec Ideal S64x1024 .bf16) (f : FVec Ideal S32x1024 .bf16) (z5 : FVec Ideal S32x1024 .bf16) (k : Fin 16) (l : Fin 1024) (h : 384 + k.val < 1024) :
    laid a b z1 d z2 e z3 z4 f z5 (ix2 ⟨384 + k.val, h⟩ l) = b (ix2 k l) := by
  have hk := k.isLt
  unfold laid
  pointwise

theorem laid_d (a : FVec Ideal S384x1024 .bf16) (b : FVec Ideal S16x1024 .bf16) (z1 : FVec Ideal S112x1024 .bf16) (d : FVec Ideal S256x1024 .bf16) (z2 : FVec Ideal S64x1024 .bf16) (e : FVec Ideal S32x1024 .bf16) (z3 : FVec Ideal S32x1024 .bf16) (z4 : FVec Ideal S64x1024 .bf16) (f : FVec Ideal S32x1024 .bf16) (z5 : FVec Ideal S32x1024 .bf16) (k : Fin 256) (l : Fin 1024) (h : 512 + k.val < 1024) :
    laid a b z1 d z2 e z3 z4 f z5 (ix2 ⟨512 + k.val, h⟩ l) = d (ix2 k l) := by
  have hk := k.isLt
  unfold laid
  pointwise
  rw [dif_neg (by omega), dif_neg (by omega), dif_neg (by omega), dif_pos (by omega)]
  exact congrArg (fun q => d (ix2 q l)) (Fin.ext (by show 512 + k.val - 384 - 16 - 112 = k.val; omega))

theorem laid_e (a : FVec Ideal S384x1024 .bf16) (b : FVec Ideal S16x1024 .bf16) (z1 : FVec Ideal S112x1024 .bf16) (d : FVec Ideal S256x1024 .bf16) (z2 : FVec Ideal S64x1024 .bf16) (e : FVec Ideal S32x1024 .bf16) (z3 : FVec Ideal S32x1024 .bf16) (z4 : FVec Ideal S64x1024 .bf16) (f : FVec Ideal S32x1024 .bf16) (z5 : FVec Ideal S32x1024 .bf16) (k : Fin 32) (l : Fin 1024) (h : 832 + k.val < 1024) :
    laid a b z1 d z2 e z3 z4 f z5 (ix2 ⟨832 + k.val, h⟩ l) = e (ix2 k l) := by
  have hk := k.isLt
  unfold laid
  pointwise
  rw [dif_neg (by omega), dif_neg (by omega), dif_neg (by omega), dif_neg (by omega), dif_neg (by omega), dif_pos (by omega)]
  exact congrArg (fun q => e (ix2 q l)) (Fin.ext (by show 832 + k.val - 384 - 16 - 112 - 256 - 64 = k.val; omega))

variable (m : (ℓ : Loc nD τ sig) → Buf (Elt Ideal) ℓ)

theorem v2 (c : Dev nD) : V m c main_v2 = broadcastInDim S1x1024 ![1] bcast_S1024_S1x1024_1 (m ((c : Thread nD τ).loc main_arg1)) := by
  show StableHlo.after hostOps0 _ _ = _
  simp only [hostOps0, StableHlo.after_cons, StableHlo.after_nil]
  rw [StableHlo.nary_result_ne]; rotate_left; decide
  after_results_steps

/-- The weights transposed and cast. -/
theorem v1 (c : Dev nD) : V m c main_v1 = (truncf .bf16 (transpose S2x7856x1024 [0, 2, 1] (m ((c : Thread nD τ).loc main_arg2)) transposes_S2x1024x7856_S2x7856x1024_0_2_1) bitsLt_bf16_f32 : FVec Ideal S2x7856x1024 .bf16) := by
  show StableHlo.after hostOps0 _ _ = _
  simp only [hostOps0, StableHlo.after_cons, StableHlo.after_nil]
  rw [StableHlo.nary_result_ne]; rotate_left; decide
  after_results_steps

theorem v5 (c : Dev nD) : V m c main_v5 = (extractStridedSlice S16x1024 ![0, 0] (shapeCast S688x1024 (extractStridedSlice S1x688x1024 ![0, 7168, 0]
    (truncf .bf16 (transpose S2x7856x1024 [0, 2, 1] (m ((c : Thread nD τ).loc main_arg2)) transposes_S2x1024x7856_S2x7856x1024_0_2_1) bitsLt_bf16_f32)
    slices_S2x7856x1024_S1x688x1024_0_7168_0) shapeCasts_S1x688x1024_S688x1024) slices_S688x1024_S16x1024_0_0 : FVec Ideal S16x1024 .bf16) := by
  show StableHlo.after hostOps0 _ _ = _
  simp only [hostOps0, StableHlo.after_cons, StableHlo.after_nil]
  rw [StableHlo.nary_result_ne]; rotate_left; decide
  after_results_steps
  rfl

theorem v6 (c : Dev nD) : V m c main_v6 = (extractStridedSlice S384x1024 ![16, 0] (shapeCast S688x1024 (extractStridedSlice S1x688x1024 ![0, 7168, 0]
    (truncf .bf16 (transpose S2x7856x1024 [0, 2, 1] (m ((c : Thread nD τ).loc main_arg2)) transposes_S2x1024x7856_S2x7856x1024_0_2_1) bitsLt_bf16_f32)
    slices_S2x7856x1024_S1x688x1024_0_7168_0) shapeCasts_S1x688x1024_S688x1024) slices_S688x1024_S384x1024_16_0 : FVec Ideal S384x1024 .bf16) := by
  show StableHlo.after hostOps0 _ _ = _
  simp only [hostOps0, StableHlo.after_cons, StableHlo.after_nil]
  rw [StableHlo.nary_result_ne]; rotate_left; decide
  after_results_steps
  rfl

theorem v7 (c : Dev nD) : V m c main_v7 = (extractStridedSlice S256x1024 ![400, 0] (shapeCast S688x1024 (extractStridedSlice S1x688x1024 ![0, 7168, 0]
    (truncf .bf16 (transpose S2x7856x1024 [0, 2, 1] (m ((c : Thread nD τ).loc main_arg2)) transposes_S2x1024x7856_S2x7856x1024_0_2_1) bitsLt_bf16_f32)
    slices_S2x7856x1024_S1x688x1024_0_7168_0) shapeCasts_S1x688x1024_S688x1024) slices_S688x1024_S256x1024_400_0 : FVec Ideal S256x1024 .bf16) := by
  show StableHlo.after hostOps0 _ _ = _
  simp only [hostOps0, StableHlo.after_cons, StableHlo.after_nil]
  rw [StableHlo.nary_result_ne]; rotate_left; decide
  after_results_steps
  rfl

theorem v8 (c : Dev nD) : V m c main_v8 = (extractStridedSlice S32x1024 ![656, 0] (shapeCast S688x1024 (extractStridedSlice S1x688x1024 ![0, 7168, 0]
    (truncf .bf16 (transpose S2x7856x1024 [0, 2, 1] (m ((c : Thread nD τ).loc main_arg2)) transposes_S2x1024x7856_S2x7856x1024_0_2_1) bitsLt_bf16_f32)
    slices_S2x7856x1024_S1x688x1024_0_7168_0) shapeCasts_S1x688x1024_S688x1024) slices_S688x1024_S32x1024_656_0 : FVec Ideal S32x1024 .bf16) := by
  show StableHlo.after hostOps0 _ _ = _
  simp only [hostOps0, StableHlo.after_cons, StableHlo.after_nil]
  rw [StableHlo.nary_result_ne]; rotate_left; decide
  after_results_steps
  rfl

set_option maxHeartbeats 4000000 in
theorem v17 (c : Dev nD) : V m c main_v17 = concatenate S1024x1024 0 [⟨S384x1024, V m c main_v6⟩, ⟨S16x1024, V m c main_v5⟩, ⟨S112x1024, V m c main_v12⟩, ⟨S256x1024, V m c main_v7⟩, ⟨S64x1024, V m c main_v13⟩, ⟨S32x1024, V m c main_v8⟩, ⟨S32x1024, V m c main_v14⟩, ⟨S64x1024, V m c main_v15⟩, ⟨S32x1024, V m c main_v11⟩, ⟨S32x1024, V m c main_v16⟩]
    concatenates_S384x1024_S16x1024_S112x1024_S256x1024_S64x1024_S32x1024_S32x1024_S64x1024_S32x1024_S32x1024_S1024x1024_d0 := by
  unfold V
  have h (b : Ref sig .tc) : StableHlo.after [hostOps0].flatten (fun b => m (c, b)) (Proc.devRef .tc b) = StableHlo.after hostOps0 (fun b => m (c, b)) (Proc.devRef .tc b) := rfl
  simp only [h]
  simp only [hostOps0, StableHlo.after_cons, StableHlo.after_nil]
  rw [StableHlo.nary_result]
  repeat (rw [StableHlo.nary_result_ne]; rotate_left; decide)
  rfl

/-- The rearranged columns as the launch finds them. -/
def tailW (c : Dev nD) (q l : Fin 1024) : EReal := V m c main_v17 (ix2 q l)

/-- The pieces as the launch finds them. -/
theorem tailW_eq (c : Dev nD) (q l : Fin 1024) : tailW m c q l = laid (V m c main_v6) (V m c main_v5) (V m c main_v12) (V m c main_v7)
    (V m c main_v13) (V m c main_v8) (V m c main_v14) (V m c main_v15) (V m c main_v11) (V m c main_v16) (ix2 q l) :=
  congrFun (v17 m c) (ix2 q l)

theorem tailW_a (c : Dev nD) (k : Fin 384) (l : Fin 1024) (h : 0 + k.val < 1024) (h' : 7184 + k.val < 7856) :
    tailW m c ⟨0 + k.val, h⟩ l = m ((c : Thread nD τ).loc main_arg2) (ix3 (0 : Fin 2) l ⟨7184 + k.val, h'⟩) := by
  rw [tailW_eq, laid_a, v6]
  pointwise
  exact congrArg (fun q => m ((c : Thread nD τ).loc main_arg2) (ix3 (0 : Fin 2) l q)) (Fin.ext (by show 7168 + (16 + k.val) = 7184 + k.val; omega))

theorem tailW_b (c : Dev nD) (k : Fin 16) (l : Fin 1024) (h : 384 + k.val < 1024) (h' : 7168 + k.val < 7856) :
    tailW m c ⟨384 + k.val, h⟩ l = m ((c : Thread nD τ).loc main_arg2) (ix3 (0 : Fin 2) l ⟨7168 + k.val, h'⟩) := by
  rw [tailW_eq, laid_b, v5]
  pointwise

theorem tailW_d (c : Dev nD) (k : Fin 256) (l : Fin 1024) (h : 512 + k.val < 1024) (h' : 7568 + k.val < 7856) :
    tailW m c ⟨512 + k.val, h⟩ l = m ((c : Thread nD τ).loc main_arg2) (ix3 (0 : Fin 2) l ⟨7568 + k.val, h'⟩) := by
  rw [tailW_eq, laid_d, v7]
  pointwise
  exact congrArg (fun q => m ((c : Thread nD τ).loc main_arg2) (ix3 (0 : Fin 2) l q)) (Fin.ext (by show 7168 + (400 + k.val) = 7568 + k.val; omega))

theorem tailW_e (c : Dev nD) (k : Fin 32) (l : Fin 1024) (h : 832 + k.val < 1024) (h' : 7824 + k.val < 7856) :
    tailW m c ⟨832 + k.val, h⟩ l = m ((c : Thread nD τ).loc main_arg2) (ix3 (0 : Fin 2) l ⟨7824 + k.val, h'⟩) := by
  rw [tailW_eq, laid_e, v8]
  pointwise
  exact congrArg (fun q => m ((c : Thread nD τ).loc main_arg2) (ix3 (0 : Fin 2) l q)) (Fin.ext (by show 7168 + (656 + k.val) = 7824 + k.val; omega))

end Cert.InProjIdeal.Val

end
-- ==== Proof.InProj.Blocks.lean ====
/-
The blocks of the input projection's arguments that one grid point loads, at an index of the arguments.
-/
module

public import proofs.«01_k».proof.Proof.InProj.Host

@[expose] public section

set_option maxRecDepth 16384
set_option Elab.async false

noncomputable section

namespace Cert.InProjIdeal.Val

open Cert.InProjIdeal Cert.InProjIdeal.Gen Cert.Layer
open Idealize.ShloMosaic Idealize.ShloMosaic.TcCoe

/-- Where the blocks of grid point `t` lie: row block `t / 5`, column tile `t % 5`; the first of the other tiles is the last block of weights. -/
theorem idx : ∀ t : Fin cfg0.N,
    (win0_0.index t (0 : Fin 2) = t.val / 5 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0
        ∧ (¬t.val % 5 = 0 → win0_3.index t (1 : Fin 3) = 3 + t.val % 5 % 4) ∧ win0_3.index t (2 : Fin 3) = 0)
    ∧ (win0_4.index t (0 : Fin 2) = t.val / 5 ∧ win0_4.index t (1 : Fin 2) = t.val % 5) := by decide +kernel

/-- No block of the weights reaches past the array. -/
theorem moved3 : ∀ t : Fin cfg0.N, (cfg0.win 3).clipped (cfg0.grid.coords t) = false := by decide +kernel

variable (m : (ℓ : Loc nD τ sig) → Buf (Elt Ideal) ℓ)

theorem b0 (c : Dev nD) (t : Fin cfg0.N) (r : Fin 2048) (k : Fin 1024) (h : t.val / 5 * 2048 + r.val < 16384) :
    iblk m c 0 t (ix2 r k) = m ((c : Thread nD τ).loc main_arg0) (ix2 ⟨t.val / 5 * 2048 + r.val, h⟩ k) := by
  have e := (idx t).1
  blk_ext [iblk, V_main_arg0, e.1, e.2]

theorem b1 (c : Dev nD) (t : Fin cfg0.N) (k : Fin 1024) :
    iblk m c 1 t (ix2 (0 : Fin 1) k) = m ((c : Thread nD τ).loc main_arg1) (ix1 k) := by
  have e := (idx t).2.1
  unfold iblk
  blk_simp
  refine (congrFun (v2 m c) _).trans ?_
  pointwise
  blk_ext [e.1, e.2]

theorem b2 (c : Dev nD) (t : Fin cfg0.N) (q l : Fin 1024) :
    iblk m c 2 t (ix2 q l) = tailW m c q l := by
  have e := (idx t).2.2.1
  unfold iblk tailW
  blk_simp
  blk_ext [e.1, e.2]

set_option maxHeartbeats 1000000 in
theorem b3 (c : Dev nD) (t : Fin cfg0.N) (h0 : ¬t.val % 5 = 0) (q l : Fin 1024) (h : (3 + t.val % 5 % 4) * 1024 + q.val < 7856) :
    X0_3 m c t (ix3 (0 : Fin 1) q l) = m ((c : Thread nD τ).loc main_arg2) (ix3 (0 : Fin 2) l ⟨(3 + t.val % 5 % 4) * 1024 + q.val, h⟩) := by
  have e := (idx t).2.2.2.1
  have e1 := e.2.1 h0
  have hm : (cfg0.win 3).moved (cfg0.grid.coords t) (ix3 (0 : Fin 1) q l) = true := by
    have hc := ((cfg0.win 3).clipped_eq_false_iff _).mp (moved3 t)
    exact ((cfg0.win 3).moved_iff _ _).mpr fun a => by
      unfold Pipeline.Window.xsize
      rw [hc a]
      exact (ix3 (0 : Fin 1) q l a).isLt
  unfold X0_3 Pipeline.Window.fill
  rw [dif_pos hm]
  unfold iblk
  blk_simp
  refine (congrFun (v1 m c) _).trans ?_
  pointwise
  blk_ext [e.1, e1, e.2.2]

end Cert.InProjIdeal.Val

end
-- ==== Proof.InProj.Out.lean ====
/-
What the launch of the input projection writes, and the results sliced out of it.
-/
module

public import proofs.«01_k».proof.Proof.InProj.Blocks
public import Idealize.ShloMosaic.Lib.Claim

@[expose] public section

set_option maxRecDepth 16384
set_option Elab.async false

noncomputable section

namespace Cert.InProjIdeal.Val

open Cert.InProjIdeal Cert.InProjIdeal.Gen Cert.Layer
open Idealize.ShloMosaic Idealize.ShloMosaic.TcCoe
open Idealize.SL Idealize.SL.Sem

variable (m : (ℓ : Loc nD τ sig) → Buf (Elt Ideal) ℓ)

/-- Row `i` of `x`. -/
def xrow (c : Dev nD) (i : Fin 16384) (k : Fin 1024) : EReal := m ((c : Thread nD τ).loc main_arg0) (ix2 i k)
/-- The norm's weights. -/
def gvec (c : Dev nD) (k : Fin 1024) : EReal := m ((c : Thread nD τ).loc main_arg1) (ix1 k)

/-- Column `q` of the weights as the launch lays them out: the rearranged tile first, then the tiles read from the weights. -/
def colW (c : Dev nD) (q : Fin 5120) (l : Fin 1024) : EReal :=
  if h : q.val < 1024 then tailW m c ⟨q.val, h⟩ l
  else m ((c : Thread nD τ).loc main_arg2) (ix3 (0 : Fin 2) l ⟨(3 + q.val / 1024 % 4) * 1024 + q.val % 1024, by omega⟩)

/-- What the launch writes. -/
def outI (c : Dev nD) : FVec Ideal S16384x5120 .f32 := fun i => projAt (xrow m c (i 0)) (gvec m c) (colW m c (i 1))

/-- The kept normed rows are those of the point's row block at every point. -/
theorem h_at (c : Dev nD) : ∀ (n : ℕ) (t : Fin cfg0.N), t.val % 5 = n → ∀ (r : Fin 2048) (k : Fin 1024) (h : t.val / 5 * 2048 + r.val < 16384),
    (outsAt0 m c t.val t.isLt).2 (ix2 r k) = nrm (xrow m c ⟨t.val / 5 * 2048 + r.val, h⟩) (gvec m c) k := by
  intro n
  induction n with
  | zero =>
    intro t ht r k h
    rw [first_h m c t ht, normed_at]
    simp only [b0 m c t r _ h, b1]
    rfl
  | succ n ih =>
    intro t ht r k h
    have hp : t.val - 1 < cfg0.N := lt_of_le_of_lt (Nat.sub_le _ _) t.isLt
    have hd : (t.val - 1) / 5 = t.val / 5 := by omega
    rw [next_h m c t (by omega) hp]
    refine (ih ⟨t.val - 1, hp⟩ (by show (t.val - 1) % 5 = n; omega) r k (by show (t.val - 1) / 5 * 2048 + r.val < 16384; omega)).trans ?_
    simp only [hd]

/-- What a point writes is the result at its block. -/
theorem outs_apply (c : Dev nD) (t : Fin cfg0.N) (r : Fin 2048) (j : Fin 1024) (h : t.val / 5 * 2048 + r.val < 16384)
    (hq : t.val % 5 * 1024 + j.val < 5120) :
    (outsAt0 m c t.val t.isLt).1 (ix2 r j) = outI m c (ix2 ⟨t.val / 5 * 2048 + r.val, h⟩ ⟨t.val % 5 * 1024 + j.val, hq⟩) := by
  have hj : j.val < 1024 := j.isLt
  have hh := h_at m c _ t rfl r
  by_cases h0 : t.val % 5 = 0
  · have hc : ∀ l, colW m c ⟨t.val % 5 * 1024 + j.val, hq⟩ l = tailW m c j l := by
      intro l
      unfold colW
      rw [dif_pos (by show t.val % 5 * 1024 + j.val < 1024; omega)]
      exact congrArg (fun q => tailW m c q l) (Fin.ext (by show t.val % 5 * 1024 + j.val = j.val; omega))
    rw [first_out m c t h0, tail_at, ← first_h m c t h0]
    simp only [hh _ h, b2]
    unfold outI projAt
    refine Finset.sum_congr rfl fun l _ => congrArg _ (hc l).symm
  · have hb : (3 + t.val % 5 % 4) * 1024 + j.val < 7856 := by omega
    have hc : ∀ l, colW m c ⟨t.val % 5 * 1024 + j.val, hq⟩ l
        = m ((c : Thread nD τ).loc main_arg2) (ix3 (0 : Fin 2) l ⟨(3 + t.val % 5 % 4) * 1024 + j.val, hb⟩) := by
      intro l
      unfold colW
      rw [dif_neg (by show ¬t.val % 5 * 1024 + j.val < 1024; omega)]
      refine congrArg (fun q => m ((c : Thread nD τ).loc main_arg2) (ix3 (0 : Fin 2) l q)) (Fin.ext ?_)
      show (3 + (t.val % 5 * 1024 + j.val) / 1024 % 4) * 1024 + (t.val % 5 * 1024 + j.val) % 1024 = (3 + t.val % 5 % 4) * 1024 + j.val
      omega
    have hp : t.val - 1 < cfg0.N := lt_of_le_of_lt (Nat.sub_le _ _) t.isLt
    rw [next_out m c t h0 hp, main_at, ← next_h m c t h0 hp]
    simp only [hh _ h, b3 m c t h0 _ _ hb]
    unfold outI projAt
    refine Finset.sum_congr rfl fun l _ => congrArg _ (hc l).symm

/-- The array the launch leaves. -/
theorem arr_out (c : Dev nD) : (dats m 0 c).arrAt 4 cfg0.N = outI m c := by
  refine (dats m 0 c).arrAt_eq_of_covers (4 : Fin 5) _ (by decide +kernel) fun t hf y => ?_
  have e := (idx t).2.2.2.2
  have ht : t.val < 40 := t.isLt
  blk_simp
  rw [after0_4]
  have hy : (y : S2048x1024.Idx) = ix2 (y 0) (y 1) := by funext a; fin_cases a <;> rfl
  have hr : (y 0).val < 2048 := (y 0).isLt
  have hj : (y 1).val < 1024 := (y 1).isLt
  refine ((congrArg (outsAt0 m c t.val t.isLt).1 hy).trans (outs_apply m c t (y 0) (y 1) (by omega) (by omega))).trans ?_
  congr 1
  blk_ext [e.1, e.2]

/-- The result at a column of the layout that holds column `f` of the weights. -/
theorem out_col (c : Dev nD) (i : Fin 16384) (q : Fin 5120) (f : Fin 7856)
    (h : ∀ l, colW m c q l = m ((c : Thread nD τ).loc main_arg2) (ix3 (0 : Fin 2) l f)) :
    outI m c (ix2 i q) = projAt (fun k => m ((c : Thread nD τ).loc main_arg0) (ix2 i k)) (fun k => m ((c : Thread nD τ).loc main_arg1) (ix1 k))
      (fun l => m ((c : Thread nD τ).loc main_arg2) (ix3 (0 : Fin 2) l f)) :=
  congrArg (projAt _ _) (funext h)

/-- The tiles read from the weights. -/
theorem col_main (c : Dev nD) (q : Fin 5120) (f : Fin 7856) (l : Fin 1024) (h0 : 1024 ≤ q.val)
    (h : (3 + q.val / 1024 % 4) * 1024 + q.val % 1024 = f.val) :
    colW m c q l = m ((c : Thread nD τ).loc main_arg2) (ix3 (0 : Fin 2) l f) := by
  unfold colW
  rw [dif_neg (by omega)]
  exact congrArg (fun q => m ((c : Thread nD τ).loc main_arg2) (ix3 (0 : Fin 2) l q)) (Fin.ext h)

/-- The rearranged tile. -/
theorem col_tail (c : Dev nD) (q : Fin 5120) (l : Fin 1024) (h : q.val < 1024) : colW m c q l = tailW m c ⟨q.val, h⟩ l := dif_pos h

/-- The array the launch leaves, read after it. -/
theorem written (c : Dev nD) (W : Valuation τ sig (Elt Ideal)) :
    Pipeline.withArrays (cfgs 0).spec c W (fun w => (dats m 0 c).arrAt w (cfgs 0).N) (Proc.devRef .tc main_v18) = outI m c :=
  (Pipeline.withArrays_arr (cfgs 0).spec (by decide) c W (fun w => (dats m 0 c).arrAt w (cfgs 0).N) (4 : Fin 5)).trans (arr_out m c)

/-- The slices after the launch. -/
theorem tails (c : Dev nD) :
    Pipeline.afterTail₀ cfgs (dats m) 0 (V0 m) [hostOps1] c main_v19 = extractStridedSlice S16384x512 ![0, 4096] (outI m c) slices_S16384x5120_S16384x512_0_4096
    ∧ Pipeline.afterTail₀ cfgs (dats m) 0 (V0 m) [hostOps1] c main_v20 = extractStridedSlice S16384x512 ![0, 4608] (outI m c) slices_S16384x5120_S16384x512_0_4608
    ∧ Pipeline.afterTail₀ cfgs (dats m) 0 (V0 m) [hostOps1] c main_v21 = extractStridedSlice S16384x1024 ![0, 1024] (outI m c) slices_S16384x5120_S16384x1024_0_1024
    ∧ Pipeline.afterTail₀ cfgs (dats m) 0 (V0 m) [hostOps1] c main_v22 = extractStridedSlice S16384x2048 ![0, 2048] (outI m c) slices_S16384x5120_S16384x2048_0_2048
    ∧ Pipeline.afterTail₀ cfgs (dats m) 0 (V0 m) [hostOps1] c main_v23 = extractStridedSlice S16384x16 ![0, 384] (outI m c) slices_S16384x5120_S16384x16_0_384
    ∧ Pipeline.afterTail₀ cfgs (dats m) 0 (V0 m) [hostOps1] c main_v24 = extractStridedSlice S16384x384 ![0, 0] (outI m c) slices_S16384x5120_S16384x384_0_0
    ∧ Pipeline.afterTail₀ cfgs (dats m) 0 (V0 m) [hostOps1] c main_v25 = extractStridedSlice S16384x256 ![0, 512] (outI m c) slices_S16384x5120_S16384x256_0_512
    ∧ Pipeline.afterTail₀ cfgs (dats m) 0 (V0 m) [hostOps1] c main_v26 = extractStridedSlice S16384x32 ![0, 832] (outI m c) slices_S16384x5120_S16384x32_0_832
    ∧ Pipeline.afterTail₀ cfgs (dats m) 0 (V0 m) [hostOps1] c main_v27 = extractStridedSlice S3x2048 ![16381, 2048] (outI m c) slices_S16384x5120_S3x2048_16381_2048 := by
  have h (b : Ref sig .tc) : Pipeline.afterTail₀ cfgs (dats m) 0 (V0 m) [hostOps1] c b
      = StableHlo.after hostOps1 (Pipeline.withArrays (cfgs 0).spec c (V0 m c) fun w => (dats m 0 c).arrAt w (cfgs 0).N) (Proc.devRef .tc b) := rfl
  refine ⟨?_, ?_, ?_, ?_, ?_, ?_, ?_, ?_, ?_⟩ <;>
  · rw [h]
    simp only [hostOps1, StableHlo.after_cons, StableHlo.after_nil]
    after_results_steps
    rw [written]

/-- The run of the call: the results are slices of what the launch writes, the arguments are unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v19) = extractStridedSlice S16384x512 ![0, 4096] (outI m c) slices_S16384x5120_S16384x512_0_4096
      ∧ r.2.mem ((c.tc : Thread nD τ).loc main_v20) = extractStridedSlice S16384x512 ![0, 4608] (outI m c) slices_S16384x5120_S16384x512_0_4608
      ∧ r.2.mem ((c.tc : Thread nD τ).loc main_v21) = extractStridedSlice S16384x1024 ![0, 1024] (outI m c) slices_S16384x5120_S16384x1024_0_1024
      ∧ r.2.mem ((c.tc : Thread nD τ).loc main_v22) = extractStridedSlice S16384x2048 ![0, 2048] (outI m c) slices_S16384x5120_S16384x2048_0_2048
      ∧ r.2.mem ((c.tc : Thread nD τ).loc main_v23) = extractStridedSlice S16384x16 ![0, 384] (outI m c) slices_S16384x5120_S16384x16_0_384
      ∧ r.2.mem ((c.tc : Thread nD τ).loc main_v24) = extractStridedSlice S16384x384 ![0, 0] (outI m c) slices_S16384x5120_S16384x384_0_0
      ∧ r.2.mem ((c.tc : Thread nD τ).loc main_v25) = extractStridedSlice S16384x256 ![0, 512] (outI m c) slices_S16384x5120_S16384x256_0_512
      ∧ r.2.mem ((c.tc : Thread nD τ).loc main_v26) = extractStridedSlice S16384x32 ![0, 832] (outI m c) slices_S16384x5120_S16384x32_0_832
      ∧ r.2.mem ((c.tc : Thread nD τ).loc main_v27) = extractStridedSlice S3x2048 ![16381, 2048] (outI m c) slices_S16384x5120_S3x2048_16381_2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => by
    obtain ⟨t0, t1, t2, t3, t4, t5, t6, t7, t8⟩ := tails m c
    exact ⟨
      ((h.1 c).2 main_v19 (by decide)).trans t0,
      ((h.1 c).2 main_v20 (by decide)).trans t1,
      ((h.1 c).2 main_v21 (by decide)).trans t2,
      ((h.1 c).2 main_v22 (by decide)).trans t3,
      ((h.1 c).2 main_v23 (by decide)).trans t4,
      ((h.1 c).2 main_v24 (by decide)).trans t5,
      ((h.1 c).2 main_v25 (by decide)).trans t6,
      ((h.1 c).2 main_v26 (by decide)).trans t7,
      ((h.1 c).2 main_v27 (by decide)).trans t8,
      h.2 c⟩) (θ_run_and (run_main m g) (unchanged m g))

end Cert.InProjIdeal.Val

end
-- ==== Proof.InProjRef.Value.lean ====
/-
The reference of the input projection at an index.
-/
module

public import proofs.«01_k».proof.Defs
public import proofs.«01_k».proof.Proof.Gen.InProjRefIdeal.Run
public import proofs.«01_k».proof.Proof.Layer.Formula
public import Idealize.ShloMosaic.Lib.Pointwise
public import Idealize.ShloMosaic.Lib.ValueIdx

@[expose] public section

set_option maxRecDepth 16384
set_option Elab.async false

noncomputable section

namespace Cert.InProjRefIdeal.Val

open Cert.InProjRefIdeal Cert.InProjRefIdeal.Gen Cert.Layer
open Idealize.ShloMosaic Idealize.ShloMosaic.TcCoe
open Idealize.SL Idealize.SL.Sem

/-- The rows of `x` normed and weighted. -/
def normed (x : FVec Ideal S16384x1024 .f32) (g : FVec Ideal S1024 .f32) : FVec Ideal S16384x1024 .f32 :=
  (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

/-- The rows projected on every column of the first layer's weights. -/
def proj (x : FVec Ideal S16384x1024 .f32) (g : FVec Ideal S1024 .f32) (w : FVec Ideal S2x1024x7856 .f32) : FVec Ideal S16384x7856 .f32 :=
  Host.dotGeneral dot_S16384x1024_S1024x7856_S16384x7856_1_0_0_1_n_n none (normed x g)
    (shapeCast _ (extractStridedSlice S1x1024x7856 ![0, 0, 0] w slices_S2x1024x7856_S1x1024x7856_0_0_0) shapeCasts_S1x1024x7856_S1024x7856)

theorem normed_apply (x : FVec Ideal S16384x1024 .f32) (g : FVec Ideal S1024 .f32) (i : Fin 16384) (j : Fin 1024) :
    normed x g (ix2 i j) = nrm (fun k => x (ix2 i k)) (fun k => g (ix1 k)) j := by
  unfold normed nrm rinv
  pointwise

theorem proj_apply (x : FVec Ideal S16384x1024 .f32) (g : FVec Ideal S1024 .f32) (w : FVec Ideal S2x1024x7856 .f32) (i : Fin 16384) (f : Fin 7856) :
    proj x g w (ix2 i f) = projAt (fun k => x (ix2 i k)) (fun k => g (ix1 k)) (fun l => w (ix3 0 l f)) := by
  have e : proj x g w (ix2 i f) = ∑ l, normed x g (ix2 i l) * w (ix3 0 l f) := by
    unfold proj
    pointwise
  rw [e]
  simp only [normed_apply]
  rfl

/-- The projection of a memory's arguments. -/
def projOf (m : (ℓ : Loc nD τ sig) → Buf (Elt Ideal) ℓ) (c : Dev nD) : FVec Ideal S16384x7856 .f32 :=
  proj (m ((c.tc : Thread nD τ).loc main_arg0)) (m ((c.tc : Thread nD τ).loc main_arg1)) (m ((c.tc : Thread nD τ).loc main_arg2))

/-- The reference run with the projection named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17) = extractStridedSlice S16384x512 ![0, 3072] (projOf m c) slices_S16384x7856_S16384x512_0_3072
      ∧ r.2.mem ((c.tc : Thread nD τ).loc main_v18) = extractStridedSlice S16384x512 ![0, 3584] (projOf m c) slices_S16384x7856_S16384x512_0_3584
      ∧ r.2.mem ((c.tc : Thread nD τ).loc main_v19) = extractStridedSlice S16384x1024 ![0, 4096] (projOf m c) slices_S16384x7856_S16384x1024_0_4096
      ∧ r.2.mem ((c.tc : Thread nD τ).loc main_v20) = extractStridedSlice S16384x2048 ![0, 5120] (projOf m c) slices_S16384x7856_S16384x2048_0_5120
      ∧ r.2.mem ((c.tc : Thread nD τ).loc main_v21) = extractStridedSlice S16384x16 ![0, 7168] (projOf m c) slices_S16384x7856_S16384x16_0_7168
      ∧ r.2.mem ((c.tc : Thread nD τ).loc main_v22) = extractStridedSlice S16384x384 ![0, 7184] (projOf m c) slices_S16384x7856_S16384x384_0_7184
      ∧ r.2.mem ((c.tc : Thread nD τ).loc main_v23) = extractStridedSlice S16384x256 ![0, 7568] (projOf m c) slices_S16384x7856_S16384x256_0_7568
      ∧ r.2.mem ((c.tc : Thread nD τ).loc main_v24) = extractStridedSlice S16384x32 ![0, 7824] (projOf m c) slices_S16384x7856_S16384x32_0_7824
      ∧ r.2.mem ((c.tc : Thread nD τ).loc main_v25) = extractStridedSlice S3x2048 ![16381, 0]
          (extractStridedSlice S16384x2048 ![0, 5120] (projOf m c) slices_S16384x7856_S16384x2048_0_5120) slices_S16384x2048_S3x2048_16381_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Value.run m ρ

end Cert.InProjRefIdeal.Val

end
-- ==== Proof.Layer.InProj.lean ====
/-
The input projection: the frames, and that the kernel's results are the reference's.
-/
module

public import proofs.«01_k».proof.Defs
public import proofs.«01_k».proof.Proof.Gen.InProj.Frame
public import proofs.«01_k».proof.Proof.InProj.Out
public import proofs.«01_k».proof.Proof.InProjRef.Value
public import Idealize.ShloMosaic.Lib.Quiescent
public import Idealize.ShloMosaic.Lib.Claim

@[expose] public section

set_option maxRecDepth 16384

noncomputable section

namespace Cert.Proof

open Idealize.ShloMosaic Idealize.SL.Sem

instance factsInProj : Cert.InProj.Facts := Cert.InProj.Gen.facts
instance factsInProjIdeal : Cert.InProjIdeal.Facts := Cert.InProjIdeal.Gen.facts
instance factsInProjRefIdeal : Cert.InProjRefIdeal.Facts := Cert.InProjRefIdeal.Gen.facts

theorem inproj_frame : Cert.quiescent_InProj := fun m g _ => Cert.InProj.Gen.frame m g

theorem inproj_frame_ideal : Cert.quiescent_InProjIdeal := fun m g _ => Cert.InProjIdeal.Gen.frame m g

theorem inproj_frame_ref : Cert.quiescent_InProjRefIdeal := fun m g _ =>
  (θ_run _ _ _).mono (fun r h => ⟨fun c => (h c).2.2.2.2.2.2.2.2.2, sem_eq_zero_of_no_sems (by decide) _⟩) (Cert.InProjRefIdeal.Val.run m g)

/-- Two slices of the same rows agree where the arrays agree at the sliced columns. -/
theorem slices_eq {R n : ℕ} (p o o' : ℕ) (A : FVec Ideal ⟨2, ![16384, 5120]⟩ .f32) (B : FVec Ideal ⟨2, ![16384, 7856]⟩ .f32)
    (hA : Shape.Slices ⟨2, ![16384, 5120]⟩ ![p, o] ⟨2, ![R, n]⟩) (hB : Shape.Slices ⟨2, ![16384, 7856]⟩ ![p, o'] ⟨2, ![R, n]⟩)
    (hAB : ∀ (i : Fin 16384) (k : Fin n) (h : o + k.val < 5120) (h' : o' + k.val < 7856), A (ix2 i ⟨o + k.val, h⟩) = B (ix2 i ⟨o' + k.val, h'⟩)) :
    extractStridedSlice ⟨2, ![R, n]⟩ ![p, o] A hA = extractStridedSlice ⟨2, ![R, n]⟩ ![p, o'] B hB := by
  funext j
  have r0 : p + (j 0).val < 16384 := Nat.lt_of_lt_of_le (Nat.add_lt_add_left (j 0).isLt _) (hA.2 0)
  have r1 : o + (j 1).val < 5120 := Nat.lt_of_lt_of_le (Nat.add_lt_add_left (j 1).isLt _) (hA.2 1)
  have r2 : o' + (j 1).val < 7856 := Nat.lt_of_lt_of_le (Nat.add_lt_add_left (j 1).isLt _) (hB.2 1)
  rw [extractStridedSlice_apply _ A hA j (ix2 ⟨p + (j 0).val, r0⟩ ⟨o + (j 1).val, r1⟩) (by intro a; fin_cases a <;> rfl),
    extractStridedSlice_apply _ B hB j (ix2 ⟨p + (j 0).val, r0⟩ ⟨o' + (j 1).val, r2⟩) (by intro a; fin_cases a <;> rfl)]
  exact hAB _ _ r1 r2

/-- Rows sliced out of sliced columns are one slice. -/
theorem slice_slice {R n : ℕ} (p o : ℕ) (B : FVec Ideal ⟨2, ![16384, 7856]⟩ .f32) (h1 : Shape.Slices ⟨2, ![16384, 7856]⟩ ![0, o] ⟨2, ![16384, n]⟩)
    (h2 : Shape.Slices ⟨2, ![16384, n]⟩ ![p, 0] ⟨2, ![R, n]⟩) (h : Shape.Slices ⟨2, ![16384, 7856]⟩ ![p, o] ⟨2, ![R, n]⟩) :
    extractStridedSlice ⟨2, ![R, n]⟩ ![p, 0] (extractStridedSlice ⟨2, ![16384, n]⟩ ![0, o] B h1) h2 = extractStridedSlice ⟨2, ![R, n]⟩ ![p, o] B h := by
  funext j
  refine congrArg B (funext fun a => Fin.ext ?_)
  fin_cases a
  · show 0 + (p + (j 0).val) = p + (j 0).val
    omega
  · show o + (0 + (j 1).val) = o + (j 1).val
    omega

/-- The input projection: the kernel's results and the reference's are the same arrays. -/
theorem inproj : Cert.algebraic_InProjIdeal_InProjRefIdeal := by
  intro m g m' g' _ hag
  have col (c : Dev Cert.InProjIdeal.nD) (i : Fin 16384) (q : Fin 5120) (f : Fin 7856)
      (h : ∀ l, Cert.InProjIdeal.Val.colW m c q l = m ((c.tc : Thread Cert.InProjIdeal.nD Cert.InProjIdeal.τ).loc Cert.InProjIdeal.main_arg2) (ix3 (0 : Fin 2) l f)) :
      Cert.InProjIdeal.Val.outI m c (ix2 i q) = Cert.InProjRefIdeal.Val.projOf m' c (ix2 i f) := by
    obtain ⟨h0, h1, h2⟩ := hag c
    unfold Cert.InProjRefIdeal.Val.projOf
    rw [h0, h1, h2]
    exact (Cert.InProjIdeal.Val.out_col m c i q f h).trans (Cert.InProjRefIdeal.Val.proj_apply _ _ _ i f).symm
  refine ⟨_, _, _, _, _, _, _, _, _, Cert.InProjIdeal.Val.run m g, ?_⟩
  refine (θ_run _ _ _).mono (fun r h c => ?_) (Cert.InProjRefIdeal.Val.run m' g')
  obtain ⟨e0, e1, e2, e3, e4, e5, e6, e7, e8, ea⟩ := h c
  refine ⟨e0.trans (Eq.symm (slices_eq 0 4096 3072 _ _ _ _ fun i k h h' => col c i _ _ fun l => Cert.InProjIdeal.Val.col_main m c _ _ l ?_ ?_)),
    e1.trans (Eq.symm (slices_eq 0 4608 3584 _ _ _ _ fun i k h h' => col c i _ _ fun l => Cert.InProjIdeal.Val.col_main m c _ _ l ?_ ?_)),
    e2.trans (Eq.symm (slices_eq 0 1024 4096 _ _ _ _ fun i k h h' => col c i _ _ fun l => Cert.InProjIdeal.Val.col_main m c _ _ l ?_ ?_)),
    e3.trans (Eq.symm (slices_eq 0 2048 5120 _ _ _ _ fun i k h h' => col c i _ _ fun l => Cert.InProjIdeal.Val.col_main m c _ _ l ?_ ?_)),
    e4.trans (Eq.symm (slices_eq 0 384 7168 _ _ _ _ fun i k h h' => col c i _ _ fun l =>
      (Cert.InProjIdeal.Val.col_tail m c _ l ?_).trans (Cert.InProjIdeal.Val.tailW_b m c k l ?_ h'))),
    e5.trans (Eq.symm (slices_eq 0 0 7184 _ _ _ _ fun i k h h' => col c i _ _ fun l =>
      (Cert.InProjIdeal.Val.col_tail m c _ l ?_).trans (Cert.InProjIdeal.Val.tailW_a m c k l ?_ h'))),
    e6.trans (Eq.symm (slices_eq 0 512 7568 _ _ _ _ fun i k h h' => col c i _ _ fun l =>
      (Cert.InProjIdeal.Val.col_tail m c _ l ?_).trans (Cert.InProjIdeal.Val.tailW_d m c k l ?_ h'))),
    e7.trans (Eq.symm (slices_eq 0 832 7824 _ _ _ _ fun i k h h' => col c i _ _ fun l =>
      (Cert.InProjIdeal.Val.col_tail m c _ l ?_).trans (Cert.InProjIdeal.Val.tailW_e m c k l ?_ h'))),
    e8.trans ((slice_slice 16381 5120 _ _ _ (by decide)).trans (Eq.symm (slices_eq 16381 2048 5120 _ _ _ _ fun i k h h' =>
      col c i _ _ fun l => Cert.InProjIdeal.Val.col_main m c _ _ l ?_ ?_))), ea⟩ <;>
  · have := k.isLt
    try dsimp only
    omega

end Cert.Proof

end
-- ==== Proof.Prep.Pay.lean ====
/-
What one grid point of the preparation of the attention computes from the blocks it loads, at an index.
-/
module

public import proofs.«01_k».proof.Defs
public import proofs.«01_k».proof.Proof.Gen.PrepIdeal.Skeleton
public import proofs.«01_k».proof.Proof.Layer.Formula
public import Idealize.ShloMosaic.PureOps.Ideal
public import Idealize.ShloMosaic.Lib.Pointwise
public import Idealize.ShloMosaic.Lib.ValueIdx
public import Idealize.ShloMosaic.Lib.Pipeline.Value

@[expose] public section

set_option maxRecDepth 16384
set_option Elab.async false

noncomputable section

namespace Cert.PrepIdeal.Val

open Cert.PrepIdeal Cert.PrepIdeal.Gen Cert.Layer
open Idealize.ShloMosaic

/-- A table of 128 columns repeated for the eight heads. -/
def eight (x : FVec Ideal S512x128 .f32) : FVec Ideal S512x1024 .f32 :=
  concatenate S512x1024 1 [⟨S512x128, x⟩, ⟨S512x128, x⟩, ⟨S512x128, x⟩, ⟨S512x128, x⟩, ⟨S512x128, x⟩, ⟨S512x128, x⟩, ⟨S512x128, x⟩, ⟨S512x128, x⟩]
    concatenates_S512x128_S512x128_S512x128_S512x128_S512x128_S512x128_S512x128_S512x128_S512x1024_d1

theorem eight_at (x : FVec Ideal S512x128 .f32) (r : Fin 512) (h : Fin 8) (d : Fin 128) (hd : h.val * 128 + d.val < 1024) :
    eight x (ix2 r ⟨h.val * 128 + d.val, hd⟩) = x (ix2 r d) := by
  have hh := d.isLt
  refine concatenate_ofFn_apply (t := S512x1024) (s₁ := S512x128) 1 (fun _ : Fin 8 => x) _ rfl 128 rfl _ h ?_ (ix2 r d) ?_ ?_
  · show (h.val * 128 + d.val) / 128 = h.val
    omega
  · show d.val = (h.val * 128 + d.val) % 128
    omega
  · intro b hb
    fin_cases b
    · rfl
    · exact absurd rfl hb

theorem q_at (cs sn : FVec Ideal S512x128 .f32) (x : FVec Ideal S512x384 .f32) (g : FVec Ideal S1x384 .f32) (w1 w2 : FVec Ideal S384x1024 .bf16)
    (r : Fin 512) (h : Fin 8) (d : Fin 128) (hd : h.val * 128 + d.val < 1024) :
    k0_pay5 (F := Ideal) cs sn x g w1 w2 (ix2 r ⟨h.val * 128 + d.val, hd⟩)
      = ((∑ l, nrmN 0x43C00000#32 (fun k => x (ix2 r k)) (fun k => g (ix2 0 k)) l * w1 (ix2 l ⟨h.val * 128 + d.val, hd⟩)) * cs (ix2 r d)
        + (∑ l, nrmN 0x43C00000#32 (fun k => x (ix2 r k)) (fun k => g (ix2 0 k)) l * w2 (ix2 l ⟨h.val * 128 + d.val, hd⟩)) * sn (ix2 r d))
        * Ideal.ofBits .f32 0x3E16C740#32 := by
  have e1 := eight_at (k0_pay3 cs) r h d hd
  have e2 := eight_at (k0_pay4 sn) r h d hd
  have c1 : k0_pay3 (F := Ideal) cs (ix2 r d) = cs (ix2 r d) := by unfold k0_pay3; pointwise
  have c2 : k0_pay4 (F := Ideal) sn (ix2 r d) = sn (ix2 r d) := by unfold k0_pay4; pointwise
  rw [c1] at e1
  rw [c2] at e2
  rw [← e1, ← e2]
  unfold k0_pay5 nrmN rinvN eight
  change (_ : EReal) = _
  pointwise

theorem kv_at (x : FVec Ideal S512x256 .f32) (g : FVec Ideal S1x256 .f32) (r : Fin 512) (k : Fin 256) :
    k0_pay6 (F := Ideal) x g (ix2 r k) = nrmN 0x43800000#32 (fun k => x (ix2 r k)) (fun k => g (ix2 0 k)) k := by
  unfold k0_pay6 nrmN rinvN
  pointwise

theorem kv9_at (x : FVec Ideal S512x256 .f32) (g : FVec Ideal S1x256 .f32) (r : Fin 512) (k : Fin 256) :
    k0_pay9 (F := Ideal) x g (ix2 r k) = nrmN 0x43800000#32 (fun k => x (ix2 r k)) (fun k => g (ix2 0 k)) k := by
  refine Eq.trans ?_ (kv_at x g r k)
  unfold k0_pay9
  pointwise

theorem kr_at (cs sn a b : FVec Ideal S512x128 .f32) (r : Fin 512) (d : Fin 128) :
    k0_pay7 (F := Ideal) (k0_pay3 cs) (k0_pay4 sn) a b (ix2 r d) = a (ix2 r d) * cs (ix2 r d) + b (ix2 r d) * sn (ix2 r d) := by
  unfold k0_pay7 k0_pay3 k0_pay4
  pointwise

theorem kr32_at (cs sn a b : FVec Ideal S512x128 .f32) (r : Fin 512) (d : Fin 32) :
    k0_pay8 (F := Ideal) (k0_pay3 cs) (k0_pay4 sn) a b (ix2 r d)
      = a (ix2 r ⟨64 + d, by omega⟩) * cs (ix2 r ⟨64 + d, by omega⟩) + b (ix2 r ⟨64 + d, by omega⟩) * sn (ix2 r ⟨64 + d, by omega⟩) := by
  unfold k0_pay8 k0_pay7 k0_pay3 k0_pay4
  pointwise

theorem k_at (cs sn a b : FVec Ideal S512x128 .f32) (x : FVec Ideal S512x256 .f32) (g : FVec Ideal S1x256 .f32) (w : FVec Ideal S256x1024 .bf16)
    (r : Fin 512) (h : Fin 8) (d : Fin 128) (hd : h.val * 128 + d.val < 1024) :
    k0_pay10 (F := Ideal) (k0_pay3 cs) (k0_pay4 sn) x g a b w (ix2 r ⟨h.val * 128 + d.val, hd⟩)
      = (∑ l, nrmN 0x43800000#32 (fun k => x (ix2 r k)) (fun k => g (ix2 0 k)) l * w (ix2 l ⟨h.val * 128 + d.val, hd⟩))
        + (a (ix2 r d) * cs (ix2 r d) + b (ix2 r d) * sn (ix2 r d)) := by
  rw [← kr_at, ← eight_at (k0_pay7 (F := Ideal) (k0_pay3 (F := Ideal) cs) (k0_pay4 (F := Ideal) sn) a b) r h d hd]
  simp only [← kv9_at]
  unfold k0_pay10
  generalize k0_pay7 (F := Ideal) (k0_pay3 (F := Ideal) cs) (k0_pay4 (F := Ideal) sn) a b = y
  unfold eight
  pointwise

/-- A head's rows of the values below the row of ones. -/
theorem v_at (y : FVec Ideal S512x256 .bf16) (w : FVec Ideal S1x80x256 .bf16) (d : Fin 80) (hd : d.val < 64) (r : Fin 512) :
    k0_pay2 (F := Ideal) y (iota Kind.tc S80x1 32 [0] iota_S80x1_d0_w32) w (ix2 d r) = ∑ l, w (ix3 0 d l) * y (ix2 r l) := by
  unfold k0_pay2
  pointwise
  have e : ∀ d : Fin 80, d.val < 64 → IntOp.cmpi CmpIPredicate.eq (BitVec.ofNat 32 d.val) 64#32 = 0#1 := by decide
  rw [e d hd]
  rfl

end Cert.PrepIdeal.Val

end
-- ==== Proof.Prep.Point.lean ====
/-
What one grid point of the preparation of the attention leaves in its blocks of results, at an index.
-/
module

public import proofs.«01_k».proof.Proof.Prep.Pay
public import proofs.«01_k».proof.Proof.Gen.PrepIdeal.Frame
public import Idealize.ShloMosaic.Lib.Pipeline.ValueKit

@[expose] public section

set_option maxRecDepth 16384
set_option Elab.async false

noncomputable section

namespace Cert.PrepIdeal.Val

open Cert.PrepIdeal Cert.PrepIdeal.Gen Cert.Layer
open Idealize.ShloMosaic Idealize.ShloMosaic.TcCoe

/-- Head `h`'s slab of the value weights. -/
def slab (x : FVec Ideal S8x80x256 .bf16) (h : Fin 8) : FVec Ideal S1x80x256 .bf16 := fun j => x (ix3 h (j 1) (j 2))

theorem ld_slab (x : FVec Ideal S8x80x256 .bf16) (n : ℕ) (hn : n < 8)
    (inb : ∀ a, (![n, 0, 0] : Fin 3 → ℕ) a + (![1, 80, 256] : Fin _ → ℕ) a ≤ S8x80x256.size a) :
    View.ld (Val := Elt Ideal) (e' := .bf16) x (Rect.unit (s := S8x80x256) ![n, 0, 0] ![1, 80, 256] inb) = slab x ⟨n, hn⟩ := by
  funext j
  refine congrArg x (funext fun a => ?_)
  fin_cases a <;> apply Fin.ext
  · show n + 1 * (j 0).val = n; have h : (j 0).val < 1 := (j 0).isLt; omega
  · show 0 + 1 * (j 1).val = (j 1).val; omega
  · show 0 + 1 * (j 2).val = (j 2).val; omega

/-- A block of rows stored over a block of 80-row slabs, read at a row of slab `h`. -/
theorem canon_slab (n : ℕ) (inb : ∀ a, (![n, 0] : Fin 2 → ℕ) a + (![80, 512] : Fin _ → ℕ) a ≤ S640x512.size a)
    (w : FVec Ideal S80x512 .bf16) (L : List (View.Piece (Elt Ideal) S640x512 .bf16)) (k : ℕ) (hk : n = k * 80)
    (h : Fin 8) (d : Fin 80) (r : Fin 512) (hd : h.val * 80 + d.val < 640) :
    View.canon ((⟨Rect.unit (s := S640x512) ![n, 0] ![80, 512] inb, w⟩ : View.Piece (Elt Ideal) S640x512 .bf16) :: L) (ix2 ⟨h.val * 80 + d.val, hd⟩ r)
      = if h.val = k then w (ix2 d r) else View.canon L (ix2 ⟨h.val * 80 + d.val, hd⟩ r) := by
  have hd' := d.isLt
  split
  · rename_i hn
    refine Eq.trans (congrArg _ ?_) (View.canon_cons_emb (Rect.unit (s := S640x512) ![n, 0] ![80, 512] inb) w L (ix2 d r))
    funext a
    fin_cases a <;> apply Fin.ext
    · show h.val * 80 + d.val = n + 1 * d.val; omega
    · show r.val = 0 + 1 * r.val; omega
  · rename_i hn
    refine View.canon_cons_of_not_mem _ _ fun hm => ?_
    have e := (Rect.mem_set_unit (inb := inb)).mp hm (0 : Fin 2)
    have e1 : n ≤ h.val * 80 + d.val := e.1
    have e2 : h.val * 80 + d.val < n + 80 := e.2
    omega

theorem piece (x : FVec Ideal S8x80x256 .bf16) (y : FVec Ideal S512x256 .bf16) (n : ℕ)
    (inb : ∀ a, (![n, 0, 0] : Fin 3 → ℕ) a + (![1, 80, 256] : Fin _ → ℕ) a ≤ S8x80x256.size a) (h : Fin 8) (e : h.val = n) :
    k0_pay2 (F := Ideal) y (iota Kind.tc S80x1 32 [0] iota_S80x1_d0_w32)
        (View.ld (Val := Elt Ideal) (e' := .bf16) x (Rect.unit (s := S8x80x256) ![n, 0, 0] ![1, 80, 256] inb))
      = k0_pay2 (F := Ideal) y (iota Kind.tc S80x1 32 [0] iota_S80x1_d0_w32) (slab x h) := by
  subst e
  exact congrArg (fun s => k0_pay2 (F := Ideal) y (iota Kind.tc S80x1 32 [0] iota_S80x1_d0_w32) s) (ld_slab x h.val h.isLt inb)

variable (m : (ℓ : Loc nD τ sig) → Buf (Elt Ideal) ℓ)

theorem q_point (c : Dev nD) (t : Fin cfg0.N) : (dats m 0 c).after 12 t
    = k0_pay5 (F := Ideal) (iblk m c 4 t) (iblk m c 5 t) (X0_0 m c t) (iblk m c 6 t) (iblk m c 8 t) (iblk m c 9 t) := by
  rw [after0_12]
  frame_out

theorem k_point (c : Dev nD) (t : Fin cfg0.N) : (dats m 0 c).after 13 t
    = k0_pay10 (F := Ideal) (k0_pay3 (iblk m c 4 t)) (k0_pay4 (iblk m c 5 t)) (iblk m c 1 t) (iblk m c 7 t) (iblk m c 2 t) (iblk m c 3 t) (iblk m c 10 t) := by
  rw [after0_13]
  frame_out

theorem kv_point (c : Dev nD) (t : Fin cfg0.N) : (dats m 0 c).after 15 t = k0_pay6 (F := Ideal) (iblk m c 1 t) (iblk m c 7 t) := by
  rw [after0_15]
  frame_out

theorem kr_point (c : Dev nD) (t : Fin cfg0.N) : (dats m 0 c).after 16 t
    = k0_pay8 (F := Ideal) (k0_pay3 (iblk m c 4 t)) (k0_pay4 (iblk m c 5 t)) (iblk m c 2 t) (iblk m c 3 t) := by
  rw [after0_16]
  frame_out

theorem v_point (c : Dev nD) (t : Fin cfg0.N) (h : Fin 8) (d : Fin 80) (r : Fin 512) (hd : h.val * 80 + d.val < 640) :
    ((dats m 0 c).after 14 t : FVec Ideal S640x512 .bf16) (ix2 ⟨h.val * 80 + d.val, hd⟩ r)
    = k0_pay2 (F := Ideal) (k0_pay9 (iblk m c 1 t) (iblk m c 7 t)) (iota Kind.tc S80x1 32 [0] iota_S80x1_d0_w32) (slab (iblk m c 11 t) h) (ix2 d r) := by
  rw [after0_14]
  frame_out
  rw [canon_slab 560 _ _ _ 7 rfl, canon_slab 480 _ _ _ 6 rfl, canon_slab 400 _ _ _ 5 rfl, canon_slab 320 _ _ _ 4 rfl,
    canon_slab 240 _ _ _ 3 rfl, canon_slab 160 _ _ _ 2 rfl, canon_slab 80 _ _ _ 1 rfl, canon_slab 0 _ _ _ 0 rfl]
  have hh := h.isLt
  split_ifs with h7 h6 h5 h4 h3 h2 h1 h0
  · exact congrFun (piece _ _ 7 _ h h7) _
  · exact congrFun (piece _ _ 6 _ h h6) _
  · exact congrFun (piece _ _ 5 _ h h5) _
  · exact congrFun (piece _ _ 4 _ h h4) _
  · exact congrFun (piece _ _ 3 _ h h3) _
  · exact congrFun (piece _ _ 2 _ h h2) _
  · exact congrFun (piece _ _ 1 _ h h1) _
  · exact congrFun (piece _ _ 0 _ h h0) _
  · omega

end Cert.PrepIdeal.Val

end
-- ==== Proof.Prep.Host.lean ====
/-
The arrays the host prepares for the launch, at an index: the cosines and sines laid out for a head's columns, the
query weights twice (as they are, and with the roped halves exchanged), the key and the value weights padded.
-/
module

public import proofs.«01_k».proof.Defs
public import proofs.«01_k».proof.Proof.Gen.PrepIdeal.Frame
public import Idealize.ShloMosaic.Lib.Claim
public import Idealize.ShloMosaic.Lib.Pointwise
public import Idealize.ShloMosaic.Lib.ValueIdx
public import Idealize.ShloMosaic.PureOps.Ideal

@[expose] public section

set_option maxRecDepth 16384
set_option Elab.async false

noncomputable section

namespace Cert.PrepIdeal.Val

open Cert.PrepIdeal Cert.PrepIdeal.Gen
open Idealize.ShloMosaic Idealize.ShloMosaic.TcCoe

/-- The cosines beside ones and zeros. -/
def cosT (x : FVec Ideal S16384x16 .f32) : FVec Ideal S16384x128 .f32 :=
  concatenate S16384x128 1 [⟨S16384x64, broadcastInDim S16384x64 ![] bcast_S_S16384x64 (constant (F := Ideal) S_ .f32 0x3F800000#32)⟩, ⟨S16384x16, x⟩, ⟨S16384x16, x⟩,
    ⟨S16384x32, broadcastInDim S16384x32 ![] bcast_S_S16384x32 (constant (F := Ideal) S_ .f32 0x00000000#32)⟩]
    concatenates_S16384x64_S16384x16_S16384x16_S16384x32_S16384x128_d1

/-- The sines beside zeros, the first half negated. -/
def sinT (x : FVec Ideal S16384x16 .f32) : FVec Ideal S16384x128 .f32 :=
  concatenate S16384x128 1 [⟨S16384x64, broadcastInDim S16384x64 ![] bcast_S_S16384x64 (constant (F := Ideal) S_ .f32 0x00000000#32)⟩, ⟨S16384x16, Host.negf x⟩, ⟨S16384x16, x⟩,
    ⟨S16384x32, broadcastInDim S16384x32 ![] bcast_S_S16384x32 (constant (F := Ideal) S_ .f32 0x00000000#32)⟩]
    concatenates_S16384x64_S16384x16_S16384x16_S16384x32_S16384x128_d1

/-- The query weights, each head's 96 columns filled up to 128. -/
def wqA (w : FVec Ideal S384x768 .f32) : FVec Ideal S384x1024 .bf16 :=
  truncf .bf16 (shapeCast S384x1024 (concatenate S384x8x128 2
    [⟨S384x8x64, extractStridedSlice S384x8x64 ![0, 0, 0] (shapeCast S384x8x96 w shapeCasts_S384x768_S384x8x96) slices_S384x8x96_S384x8x64_0_0_0⟩,
     ⟨S384x8x32, extractStridedSlice S384x8x32 ![0, 0, 64] (shapeCast S384x8x96 w shapeCasts_S384x768_S384x8x96) slices_S384x8x96_S384x8x32_0_0_64⟩,
     ⟨S384x8x32, broadcastInDim S384x8x32 ![] bcast_S_S384x8x32 (constant (F := Ideal) S_ .f32 0x00000000#32)⟩]
    concatenates_S384x8x64_S384x8x32_S384x8x32_S384x8x128_d2) shapeCasts_S384x8x128_S384x1024) bitsLt_bf16_f32

/-- The roped columns of the query weights with their halves exchanged, beside zeros. -/
def wqB (w : FVec Ideal S384x768 .f32) : FVec Ideal S384x1024 .bf16 :=
  truncf .bf16 (shapeCast S384x1024 (concatenate S384x8x128 2
    [⟨S384x8x64, broadcastInDim S384x8x64 ![] bcast_S_S384x8x64 (constant (F := Ideal) S_ .f32 0x00000000#32)⟩,
     ⟨S384x8x32, concatenate S384x8x32 2
       [⟨S384x8x16, extractStridedSlice S384x8x16 ![0, 0, 16] (extractStridedSlice S384x8x32 ![0, 0, 64] (shapeCast S384x8x96 w shapeCasts_S384x768_S384x8x96) slices_S384x8x96_S384x8x32_0_0_64) slices_S384x8x32_S384x8x16_0_0_16⟩,
        ⟨S384x8x16, extractStridedSlice S384x8x16 ![0, 0, 0] (extractStridedSlice S384x8x32 ![0, 0, 64] (shapeCast S384x8x96 w shapeCasts_S384x768_S384x8x96) slices_S384x8x96_S384x8x32_0_0_64) slices_S384x8x32_S384x8x16_0_0_0⟩]
       concatenates_S384x8x16_S384x8x16_S384x8x32_d2⟩,
     ⟨S384x8x32, broadcastInDim S384x8x32 ![] bcast_S_S384x8x32 (constant (F := Ideal) S_ .f32 0x00000000#32)⟩]
    concatenates_S384x8x64_S384x8x32_S384x8x32_S384x8x128_d2) shapeCasts_S384x8x128_S384x1024) bitsLt_bf16_f32

/-- The key weights, each head's 64 columns filled up to 128. -/
def wkT (w : FVec Ideal S256x1024 .f32) : FVec Ideal S256x1024 .bf16 :=
  truncf .bf16 (shapeCast S256x1024 (concatenate S256x8x128 2
    [⟨S256x8x64, extractStridedSlice S256x8x64 ![0, 0, 0] (shapeCast S256x8x128 w shapeCasts_S256x1024_S256x8x128) slices_S256x8x128_S256x8x64_0_0_0⟩,
     ⟨S256x8x64, broadcastInDim S256x8x64 ![] bcast_S_S256x8x64 (constant (F := Ideal) S_ .f32 0x00000000#32)⟩]
    concatenates_S256x8x64_S256x8x64_S256x8x128_d2) shapeCasts_S256x8x128_S256x1024) bitsLt_bf16_f32

/-- The value weights with the heads and their columns in front, each head's 64 rows filled up to 80. -/
def wvT (w : FVec Ideal S256x1024 .f32) : FVec Ideal S8x80x256 .bf16 :=
  truncf .bf16 (transpose S8x80x256 [1, 2, 0] (concatenate S256x8x80 2
    [⟨S256x8x64, extractStridedSlice S256x8x64 ![0, 0, 64] (shapeCast S256x8x128 w shapeCasts_S256x1024_S256x8x128) slices_S256x8x128_S256x8x64_0_0_64⟩,
     ⟨S256x8x16, broadcastInDim S256x8x16 ![] bcast_S_S256x8x16 (constant (F := Ideal) S_ .f32 0x00000000#32)⟩]
    concatenates_S256x8x64_S256x8x16_S256x8x80_d2) transposes_S256x8x80_S8x80x256_1_2_0) bitsLt_bf16_f32

theorem cosT_at (x : FVec Ideal S16384x16 .f32) (i : Fin 16384) (d : Fin 128) :
    (d.val < 64 → cosT x (ix2 i d) = 1) ∧ (∀ h : d.val - 64 < 16, 64 ≤ d.val → cosT x (ix2 i d) = x (ix2 i ⟨d.val - 64, h⟩))
      ∧ (∀ h : d.val - 80 < 16, 80 ≤ d.val → cosT x (ix2 i d) = x (ix2 i ⟨d.val - 80, h⟩)) := by
  have hd := d.isLt
  have e : cosT x (ix2 i d) = if d.val < 64 then (1 : EReal) else if h : d.val - 64 < 16 then x (ix2 i ⟨d.val - 64, h⟩)
      else if h : d.val - 64 - 16 < 16 then x (ix2 i ⟨d.val - 64 - 16, h⟩) else 0 := by
    unfold cosT
    pointwise
    try rfl
  rw [e]
  refine ⟨fun h => if_pos h, fun h h' => ?_, fun h h' => ?_⟩
  · rw [if_neg (by omega), dif_pos h]
  · rw [if_neg (by omega), dif_neg (by omega), dif_pos (by omega)]
    exact congrArg (fun q => x (ix2 i q)) (Fin.ext (by show d.val - 64 - 16 = d.val - 80; omega))

theorem sinT_at (x : FVec Ideal S16384x16 .f32) (i : Fin 16384) (d : Fin 128) :
    (d.val < 64 → sinT x (ix2 i d) = 0) ∧ (∀ h : d.val - 64 < 16, 64 ≤ d.val → sinT x (ix2 i d) = -x (ix2 i ⟨d.val - 64, h⟩))
      ∧ (∀ h : d.val - 80 < 16, 80 ≤ d.val → sinT x (ix2 i d) = x (ix2 i ⟨d.val - 80, h⟩)) := by
  have hd := d.isLt
  have e : sinT x (ix2 i d) = if d.val < 64 then (0 : EReal) else if h : d.val - 64 < 16 then -x (ix2 i ⟨d.val - 64, h⟩)
      else if h : d.val - 64 - 16 < 16 then x (ix2 i ⟨d.val - 64 - 16, h⟩) else 0 := by
    unfold sinT
    pointwise
    try rfl
  rw [e]
  refine ⟨fun h => if_pos h, fun h h' => ?_, fun h h' => ?_⟩
  · rw [if_neg (by omega), dif_pos h]
  · rw [if_neg (by omega), dif_neg (by omega), dif_pos (by omega)]
    exact congrArg (fun q => x (ix2 i q)) (Fin.ext (by show d.val - 64 - 16 = d.val - 80; omega))

theorem wqA_at (w : FVec Ideal S384x768 .f32) (l : Fin 384) (h : Fin 8) (d : Fin 128) (hq : h.val * 128 + d.val < 1024) (hd : d.val < 96)
    (hw : h.val * 96 + d.val < 768) : wqA w (ix2 l ⟨h.val * 128 + d.val, hq⟩) = w (ix2 l ⟨h.val * 96 + d.val, hw⟩) := by
  unfold wqA
  pointwise
  by_cases h1 : d.val < 64
  · rw [dif_pos h1]
  · rw [dif_neg h1, dif_pos (by omega)]
    exact congrArg (fun q => w (ix2 l q)) (Fin.ext (by show h.val * 96 + (64 + (d.val - 64)) = h.val * 96 + d.val; omega))

theorem wqB_at (w : FVec Ideal S384x768 .f32) (l : Fin 384) (h : Fin 8) (d : Fin 128) (hq : h.val * 128 + d.val < 1024) :
    (d.val < 64 → wqB w (ix2 l ⟨h.val * 128 + d.val, hq⟩) = 0)
      ∧ (∀ hw : h.val * 96 + (d.val + 16) < 768, 64 ≤ d.val → d.val < 80 → wqB w (ix2 l ⟨h.val * 128 + d.val, hq⟩) = w (ix2 l ⟨h.val * 96 + (d.val + 16), hw⟩))
      ∧ (∀ hw : h.val * 96 + (d.val - 16) < 768, 80 ≤ d.val → d.val < 96 → wqB w (ix2 l ⟨h.val * 128 + d.val, hq⟩) = w (ix2 l ⟨h.val * 96 + (d.val - 16), hw⟩)) := by
  unfold wqB
  pointwise
  refine ⟨fun h0 => dif_pos h0, fun hw h0 h1 => ?_, fun hw h0 h1 => ?_⟩
  · rw [dif_neg (by omega), dif_pos (by omega), dif_pos (by omega)]
    exact congrArg (fun q => w (ix2 l q)) (Fin.ext (by show h.val * 96 + (64 + (16 + (d.val - 64))) = h.val * 96 + (d.val + 16); omega))
  · rw [dif_neg (by omega), dif_pos (by omega), dif_neg (by omega)]
    exact congrArg (fun q => w (ix2 l q)) (Fin.ext (by show h.val * 96 + (64 + (d.val - 64 - 16)) = h.val * 96 + (d.val - 16); omega))

theorem wk_at (w : FVec Ideal S256x1024 .f32) (l : Fin 256) (h : Fin 8) (d : Fin 128) (hq : h.val * 128 + d.val < 1024) :
    wkT w (ix2 l ⟨h.val * 128 + d.val, hq⟩) = if d.val < 64 then w (ix2 l ⟨h.val * 128 + d.val, hq⟩) else 0 := by
  unfold wkT
  pointwise
  rfl

theorem wv_at (w : FVec Ideal S256x1024 .f32) (l : Fin 256) (h : Fin 8) (d : Fin 80) (hd : d.val < 64) (hw : h.val * 128 + (64 + d.val) < 1024) :
    wvT w (ix3 h d l) = w (ix2 l ⟨h.val * 128 + (64 + d.val), hw⟩) := by
  unfold wvT
  pointwise
  exact dif_pos hd

end Cert.PrepIdeal.Val

end
-- ==== Proof.Prep.HostRead.lean ====
/-
The launch finds the arrays the host prepared.
-/
module

public import proofs.«01_k».proof.Proof.Prep.Host
public import proofs.«01_k».proof.Proof.Gen.PrepIdeal.Frame
public import Idealize.ShloMosaic.Lib.Claim
public import Idealize.ShloMosaic.Lib.Pointwise
public import Idealize.ShloMosaic.Lib.ValueIdx
public import Idealize.ShloMosaic.PureOps.Ideal

@[expose] public section

set_option maxRecDepth 16384
set_option Elab.async false

noncomputable section

namespace Cert.PrepIdeal.Val

open Cert.PrepIdeal Cert.PrepIdeal.Gen
open Idealize.ShloMosaic Idealize.ShloMosaic.TcCoe

/-- An operation of three operands leaves its function of the three arrays it reads. -/
theorem three_read (x a b y : Ref sig .tc)
    (f : ((k : Fin 3) → ((![x, a, b] : Fin 3 → Ref sig .tc) k).ty.Contents (Elt Ideal)) → y.ty.Contents (Elt Ideal)) (hxs hy)
    (W : Valuation τ sig (Elt Ideal)) :
    (StableHlo.nary (τ := τ) ![x, a, b] y f hxs hy).result W (Proc.devRef .tc y)
      = f (Fin.cons (W (Proc.devRef .tc x)) (Fin.cons (W (Proc.devRef .tc a)) (Fin.cons (W (Proc.devRef .tc b)) fun i => i.elim0))) := by
  refine (StableHlo.nary_result _ _ f hxs hy W).trans (congrArg f (funext fun k => ?_))
  fin_cases k <;> rfl

variable (m : (ℓ : Loc nD τ sig) → Buf (Elt Ideal) ℓ)

theorem read_cos (c : Dev nD) : V m c main_v2 = cosT (m ((c : Thread nD τ).loc main_arg1)) := by
  show StableHlo.after hostOps0 _ _ = _
  simp only [hostOps0, StableHlo.after_cons, StableHlo.after_nil]
  after_results_steps
  rfl

theorem read_sin (c : Dev nD) : V m c main_v5 = sinT (m ((c : Thread nD τ).loc main_arg2)) := by
  show StableHlo.after hostOps0 _ _ = _
  simp only [hostOps0, StableHlo.after_cons, StableHlo.after_nil]
  after_results_steps
  rfl

theorem read_qn (c : Dev nD) : V m c main_v6 = broadcastInDim S1x384 ![1] bcast_S384_S1x384_1 (m ((c : Thread nD τ).loc main_arg3)) := by
  show StableHlo.after hostOps0 _ _ = _
  simp only [hostOps0, StableHlo.after_cons, StableHlo.after_nil]
  after_results_steps

theorem read_kvn (c : Dev nD) : V m c main_v7 = broadcastInDim S1x256 ![1] bcast_S256_S1x256_1 (m ((c : Thread nD τ).loc main_arg5)) := by
  show StableHlo.after hostOps0 _ _ = _
  simp only [hostOps0, StableHlo.after_cons, StableHlo.after_nil]
  after_results_steps

set_option maxHeartbeats 2000000 in
theorem read_wqA (c : Dev nD) : V m c main_v17 = wqA (m ((c : Thread nD τ).loc main_arg4)) := by
  show StableHlo.after hostOps0 _ _ = _
  simp only [hostOps0, StableHlo.after_cons, StableHlo.after_nil]
  repeat first | rw [three_read] | after_results_step
  rfl

set_option maxHeartbeats 2000000 in
theorem read_wqB (c : Dev nD) : V m c main_v22 = wqB (m ((c : Thread nD τ).loc main_arg4)) := by
  show StableHlo.after hostOps0 _ _ = _
  simp only [hostOps0, StableHlo.after_cons, StableHlo.after_nil]
  repeat first | rw [three_read] | after_results_step
  rfl

theorem read_wk (c : Dev nD) : V m c main_v29 = wkT (m ((c : Thread nD τ).loc main_arg6)) := by
  show StableHlo.after hostOps0 _ _ = _
  simp only [hostOps0, StableHlo.after_cons, StableHlo.after_nil]
  after_results_steps
  rfl

theorem read_wv (c : Dev nD) : V m c main_v33 = wvT (m ((c : Thread nD τ).loc main_arg6)) := by
  show StableHlo.after hostOps0 _ _ = _
  simp only [hostOps0, StableHlo.after_cons, StableHlo.after_nil]
  after_results_steps
  rfl

end Cert.PrepIdeal.Val

end
-- ==== Proof.Prep.Blocks.lean ====
/-
The blocks of one grid point of the preparation, at an index of the arrays they are cut from.
-/
module

public import proofs.«01_k».proof.Proof.Prep.HostRead
public import Idealize.ShloMosaic.Lib.Pipeline.Value
public import Idealize.ShloMosaic.Lib.Pipeline.ValueKit

@[expose] public section

set_option maxRecDepth 16384
set_option Elab.async false

noncomputable section

namespace Cert.PrepIdeal.Val

open Cert.PrepIdeal Cert.PrepIdeal.Gen
open Idealize.ShloMosaic Idealize.ShloMosaic.TcCoe

theorem idx : ∀ t : Fin cfg0.N,
    (win0_0.index t (0 : Fin 2) = t.val ∧ win0_0.index t (1 : Fin 2) = 0)
    ∧ (win0_1.index t (0 : Fin 2) = t.val ∧ win0_1.index t (1 : Fin 2) = 2)
    ∧ (win0_2.index t (0 : Fin 2) = t.val ∧ win0_2.index t (1 : Fin 2) = 6)
    ∧ (win0_3.index t (0 : Fin 2) = t.val ∧ win0_3.index t (1 : Fin 2) = 7)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 3) = 0 ∧ win0_11.index t (1 : Fin 3) = 0 ∧ win0_11.index t (2 : Fin 3) = 0) := by decide +kernel

theorem idx' : ∀ t : Fin cfg0.N,
    (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = 0 ∧ win0_14.index t (1 : Fin 2) = t.val)
    ∧ (win0_15.index t (0 : Fin 2) = t.val ∧ win0_15.index t (1 : Fin 2) = 0)
    ∧ (win0_16.index t (0 : Fin 2) = t.val ∧ win0_16.index t (1 : Fin 2) = 0) := by decide +kernel

/-- No block of the query's columns reaches past the array. -/
theorem moved0 : ∀ t : Fin cfg0.N, (cfg0.win 0).clipped (cfg0.grid.coords t) = false := by decide +kernel

variable (m : (ℓ : Loc nD τ sig) → Buf (Elt Ideal) ℓ)

theorem b0 (c : Dev nD) (t : Fin cfg0.N) (r : Fin 512) (k : Fin 384) (h : t.val * 512 + r.val < 16384) :
    X0_0 m c t (ix2 r k) = m ((c : Thread nD τ).loc main_arg0) (ix2 ⟨t.val * 512 + r.val, h⟩ ⟨0 + k.val, by omega⟩) := by
  have e := (idx t).1
  have hm : (cfg0.win 0).moved (cfg0.grid.coords t) (ix2 r k) = true := by
    have hc := ((cfg0.win 0).clipped_eq_false_iff _).mp (moved0 t)
    exact ((cfg0.win 0).moved_iff _ _).mpr fun a => by
      unfold Pipeline.Window.xsize
      rw [hc a]
      exact (ix2 r k a).isLt
  unfold X0_0 Pipeline.Window.fill
  rw [dif_pos hm]
  blk_ext [iblk, V_main_arg0, e.1, e.2]

theorem b1 (c : Dev nD) (t : Fin cfg0.N) (r : Fin 512) (k : Fin 256) (h : t.val * 512 + r.val < 16384) :
    iblk m c 1 t (ix2 r k) = m ((c : Thread nD τ).loc main_arg0) (ix2 ⟨t.val * 512 + r.val, h⟩ ⟨512 + k.val, by omega⟩) := by
  have e := (idx t).2.1
  blk_ext [iblk, V_main_arg0, e.1, e.2]

theorem b2 (c : Dev nD) (t : Fin cfg0.N) (r : Fin 512) (k : Fin 128) (h : t.val * 512 + r.val < 16384) :
    iblk m c 2 t (ix2 r k) = m ((c : Thread nD τ).loc main_arg0) (ix2 ⟨t.val * 512 + r.val, h⟩ ⟨768 + k.val, by omega⟩) := by
  have e := (idx t).2.2.1
  blk_ext [iblk, V_main_arg0, e.1, e.2]

theorem b3 (c : Dev nD) (t : Fin cfg0.N) (r : Fin 512) (k : Fin 128) (h : t.val * 512 + r.val < 16384) :
    iblk m c 3 t (ix2 r k) = m ((c : Thread nD τ).loc main_arg0) (ix2 ⟨t.val * 512 + r.val, h⟩ ⟨896 + k.val, by omega⟩) := by
  have e := (idx t).2.2.2.1
  blk_ext [iblk, V_main_arg0, e.1, e.2]

theorem b4 (c : Dev nD) (t : Fin cfg0.N) (r : Fin 512) (k : Fin 128) (h : t.val * 512 + r.val < 16384) :
    iblk m c 4 t (ix2 r k) = cosT (m ((c : Thread nD τ).loc main_arg1)) (ix2 ⟨t.val * 512 + r.val, h⟩ k) := by
  have e := (idx t).2.2.2.2.1
  unfold iblk
  blk_simp
  refine (congrFun (read_cos m c) _).trans ?_
  blk_ext [e.1, e.2]

theorem b5 (c : Dev nD) (t : Fin cfg0.N) (r : Fin 512) (k : Fin 128) (h : t.val * 512 + r.val < 16384) :
    iblk m c 5 t (ix2 r k) = sinT (m ((c : Thread nD τ).loc main_arg2)) (ix2 ⟨t.val * 512 + r.val, h⟩ k) := by
  have e := (idx t).2.2.2.2.2.1
  unfold iblk
  blk_simp
  refine (congrFun (read_sin m c) _).trans ?_
  blk_ext [e.1, e.2]

theorem b6 (c : Dev nD) (t : Fin cfg0.N) (k : Fin 384) :
    iblk m c 6 t (ix2 (0 : Fin 1) k) = m ((c : Thread nD τ).loc main_arg3) (ix1 k) := by
  have e := (idx t).2.2.2.2.2.2.1
  unfold iblk
  blk_simp
  refine (congrFun (read_qn m c) _).trans ?_
  pointwise
  blk_ext [e.1, e.2]

theorem b7 (c : Dev nD) (t : Fin cfg0.N) (k : Fin 256) :
    iblk m c 7 t (ix2 (0 : Fin 1) k) = m ((c : Thread nD τ).loc main_arg5) (ix1 k) := by
  have e := (idx t).2.2.2.2.2.2.2.1
  unfold iblk
  blk_simp
  refine (congrFun (read_kvn m c) _).trans ?_
  pointwise
  blk_ext [e.1, e.2]

theorem b8 (c : Dev nD) (t : Fin cfg0.N) (l : Fin 384) (q : Fin 1024) :
    iblk m c 8 t (ix2 l q) = wqA (m ((c : Thread nD τ).loc main_arg4)) (ix2 l q) := by
  have e := (idx t).2.2.2.2.2.2.2.2.1
  unfold iblk
  blk_simp
  refine (congrFun (read_wqA m c) _).trans ?_
  blk_ext [e.1, e.2]

theorem b9 (c : Dev nD) (t : Fin cfg0.N) (l : Fin 384) (q : Fin 1024) :
    iblk m c 9 t (ix2 l q) = wqB (m ((c : Thread nD τ).loc main_arg4)) (ix2 l q) := by
  have e := (idx t).2.2.2.2.2.2.2.2.2.1
  unfold iblk
  blk_simp
  refine (congrFun (read_wqB m c) _).trans ?_
  blk_ext [e.1, e.2]

theorem b10 (c : Dev nD) (t : Fin cfg0.N) (l : Fin 256) (q : Fin 1024) :
    iblk m c 10 t (ix2 l q) = wkT (m ((c : Thread nD τ).loc main_arg6)) (ix2 l q) := by
  have e := (idx t).2.2.2.2.2.2.2.2.2.2.1
  unfold iblk
  blk_simp
  refine (congrFun (read_wk m c) _).trans ?_
  blk_ext [e.1, e.2]

theorem b11 (c : Dev nD) (t : Fin cfg0.N) (h : Fin 8) (d : Fin 80) (l : Fin 256) :
    iblk m c 11 t (ix3 h d l) = wvT (m ((c : Thread nD τ).loc main_arg6)) (ix3 h d l) := by
  have e := (idx t).2.2.2.2.2.2.2.2.2.2.2
  unfold iblk
  blk_simp
  refine (congrFun (read_wv m c) _).trans ?_
  blk_ext [e.1, e.2.1, e.2.2]

end Cert.PrepIdeal.Val

end
-- ==== Proof.Prep.Values.lean ====
/-
What one grid point of the preparation leaves, in the arguments: the reference's formulas at the point's rows.
-/
module

public import proofs.«01_k».proof.Proof.Prep.Point
public import proofs.«01_k».proof.Proof.Prep.Blocks
public import proofs.«01_k».proof.Proof.Layer.Formula

@[expose] public section

set_option maxRecDepth 16384
set_option Elab.async false

noncomputable section

namespace Cert.PrepIdeal.Val

open Cert.PrepIdeal Cert.PrepIdeal.Gen Cert.Layer
open Idealize.ShloMosaic Idealize.ShloMosaic.TcCoe

variable (m : (ℓ : Loc nD τ sig) → Buf (Elt Ideal) ℓ)

/-- Row `i` of the projection. -/
def prow (c : Dev nD) (i : Fin 16384) (q : Fin 5120) : EReal := m ((c : Thread nD τ).loc main_arg0) (ix2 i q)
/-- The cosines and the sines of row `i`. -/
def crow (c : Dev nD) (i : Fin 16384) (e : Fin 16) : EReal := m ((c : Thread nD τ).loc main_arg1) (ix2 i e)
def srow (c : Dev nD) (i : Fin 16384) (e : Fin 16) : EReal := m ((c : Thread nD τ).loc main_arg2) (ix2 i e)
/-- The key and value weights. -/
def ukv (c : Dev nD) (l : Fin 256) (q : Fin 1024) : EReal := m ((c : Thread nD τ).loc main_arg6) (ix2 l q)
/-- The normed query columns of row `i`. -/
def qnorm (c : Dev nD) (i : Fin 16384) (l : Fin 384) : EReal :=
  nrmN 0x43C00000#32 (fun k => prow m c i ⟨0 + k.val, by omega⟩) (fun k => m ((c : Thread nD τ).loc main_arg3) (ix1 k)) l
/-- The normed key and value columns of row `i`. -/
def kvnorm (c : Dev nD) (i : Fin 16384) (l : Fin 256) : EReal :=
  nrmN 0x43800000#32 (fun k => prow m c i ⟨512 + k.val, by omega⟩) (fun k => m ((c : Thread nD τ).loc main_arg5) (ix1 k)) l
/-- Column `d` of head `h` of the projected queries of row `i`. -/
def qcol (c : Dev nD) (i : Fin 16384) (h : Fin 8) (d : Fin 96) : EReal :=
  ∑ l, qnorm m c i l * m ((c : Thread nD τ).loc main_arg4) (ix2 l ⟨h.val * 96 + d.val, by omega⟩)
/-- The roped key columns of row `i`. -/
def krow (c : Dev nD) (i : Fin 16384) (e : Fin 32) : EReal :=
  rope (fun e => prow m c i ⟨832 + e.val, by omega⟩) (crow m c i) (srow m c i) e
/-- The queries, the keys and the values of row `i` and head `h`. -/
def qval (c : Dev nD) (i : Fin 16384) (h : Fin 8) (d : Fin 96) : EReal :=
  headCols (fun d => qcol m c i h ⟨d.val, by omega⟩) (rope (fun e => qcol m c i h ⟨64 + e.val, by omega⟩) (crow m c i) (srow m c i)) d
    * Ideal.ofBits .f32 0x3E16C740#32
def kval (c : Dev nD) (i : Fin 16384) (h : Fin 8) (d : Fin 96) : EReal :=
  headCols (fun d => ∑ l, kvnorm m c i l * ukv m c l ⟨h.val * 128 + d.val, by omega⟩) (krow m c i) d
def vval (c : Dev nD) (i : Fin 16384) (h : Fin 8) (d : Fin 64) : EReal :=
  ∑ l, ukv m c l ⟨h.val * 128 + (64 + d.val), by omega⟩ * kvnorm m c i l

/-- The arrangement of the projection's columns: zeros beside the roped key columns, and a copy with their halves exchanged. -/
structure LaidOut (c : Dev nD) : Prop where
  zero : ∀ (i : Fin 16384) (d : Fin 64), prow m c i ⟨768 + d.val, by omega⟩ = 0
  lower : ∀ (i : Fin 16384) (e : Fin 16), prow m c i ⟨960 + e.val, by omega⟩ = prow m c i ⟨848 + e.val, by omega⟩
  upper : ∀ (i : Fin 16384) (e : Fin 16), prow m c i ⟨976 + e.val, by omega⟩ = prow m c i ⟨832 + e.val, by omega⟩

theorem kv_value (c : Dev nD) (t : Fin cfg0.N) (r : Fin 512) (k : Fin 256) (hi : t.val * 512 + r.val < 16384) :
    ((dats m 0 c).after 15 t : FVec Ideal S512x256 .f32) (ix2 r k) = kvnorm m c ⟨t.val * 512 + r.val, hi⟩ k := by
  rw [kv_point, kv_at]
  simp only [b1 m c t r _ hi, b7]
  rfl

theorem v_value (c : Dev nD) (t : Fin cfg0.N) (r : Fin 512) (h : Fin 8) (d : Fin 64) (hd : h.val * 80 + d.val < 640) (hi : t.val * 512 + r.val < 16384) :
    ((dats m 0 c).after 14 t : FVec Ideal S640x512 .bf16) (ix2 ⟨h.val * 80 + d.val, hd⟩ r) = vval m c ⟨t.val * 512 + r.val, hi⟩ h d := by
  have hd' := d.isLt
  refine (v_point m c t h ⟨d.val, by omega⟩ r hd).trans ((v_at _ _ ⟨d.val, by omega⟩ hd' r).trans ?_)
  unfold vval
  refine Finset.sum_congr rfl fun l _ => congrArg₂ _ ?_ ?_
  · exact (b11 m c t h ⟨d.val, by omega⟩ l).trans (wv_at _ l h ⟨d.val, by omega⟩ hd' _)
  · rw [kv9_at]
    simp only [b1 m c t r _ hi, b7]
    rfl

/-- The two key column blocks of a point, roped. -/
theorem kr_cols (c : Dev nD) (H : LaidOut m c) (i : Fin 16384) (e : Fin 32) :
    prow m c i ⟨768 + (64 + e.val), by omega⟩ * cosT (m ((c : Thread nD τ).loc main_arg1)) (ix2 i ⟨64 + e.val, by omega⟩)
      + prow m c i ⟨896 + (64 + e.val), by omega⟩ * sinT (m ((c : Thread nD τ).loc main_arg2)) (ix2 i ⟨64 + e.val, by omega⟩) = krow m c i e := by
  have he := e.isLt
  unfold krow rope
  by_cases h : e.val < 16
  · rw [dif_pos h, (cosT_at _ i ⟨64 + e.val, by omega⟩).2.1 (by show 64 + e.val - 64 < 16; omega) (by show 64 ≤ 64 + e.val; omega),
      (sinT_at _ i ⟨64 + e.val, by omega⟩).2.1 (by show 64 + e.val - 64 < 16; omega) (by show 64 ≤ 64 + e.val; omega)]
    have e1 : (⟨64 + e.val - 64, by omega⟩ : Fin 16) = ⟨e.val, h⟩ := Fin.ext (by show 64 + e.val - 64 = e.val; omega)
    have e2 : (⟨768 + (64 + e.val), by omega⟩ : Fin 5120) = ⟨832 + e.val, by omega⟩ := Fin.ext (by show 768 + (64 + e.val) = 832 + e.val; omega)
    have e3 : prow m c i ⟨896 + (64 + e.val), by omega⟩ = prow m c i ⟨832 + (e.val + 16), by omega⟩ := by
      refine Eq.trans (congrArg _ (Fin.ext ?_)) ((H.lower i ⟨e.val, h⟩).trans (congrArg _ (Fin.ext ?_)))
      · show 896 + (64 + e.val) = 960 + e.val; omega
      · show 848 + e.val = 832 + (e.val + 16); omega
    rw [e1, e2, e3, mul_neg, ← sub_eq_add_neg]
    rfl
  · rw [dif_neg h, (cosT_at _ i ⟨64 + e.val, by omega⟩).2.2 (by show 64 + e.val - 80 < 16; omega) (by show 80 ≤ 64 + e.val; omega),
      (sinT_at _ i ⟨64 + e.val, by omega⟩).2.2 (by show 64 + e.val - 80 < 16; omega) (by show 80 ≤ 64 + e.val; omega)]
    have e1 : (⟨64 + e.val - 80, by omega⟩ : Fin 16) = ⟨e.val - 16, by omega⟩ := Fin.ext (by show 64 + e.val - 80 = e.val - 16; omega)
    have e2 : (⟨768 + (64 + e.val), by omega⟩ : Fin 5120) = ⟨832 + e.val, by omega⟩ := Fin.ext (by show 768 + (64 + e.val) = 832 + e.val; omega)
    have e3 : prow m c i ⟨896 + (64 + e.val), by omega⟩ = prow m c i ⟨832 + (e.val - 16), by omega⟩ := by
      refine Eq.trans (congrArg _ (Fin.ext ?_)) ((H.upper i ⟨e.val - 16, by omega⟩).trans rfl)
      show 896 + (64 + e.val) = 976 + (e.val - 16); omega
    rw [e1, e2, e3, add_comm]
    rfl

theorem kr_value (c : Dev nD) (H : LaidOut m c) (t : Fin cfg0.N) (r : Fin 512) (e : Fin 32) (hi : t.val * 512 + r.val < 16384) :
    ((dats m 0 c).after 16 t : FVec Ideal S512x32 .f32) (ix2 r e) = krow m c ⟨t.val * 512 + r.val, hi⟩ e := by
  rw [kr_point, kr32_at, b2 m c t r _ hi, b3 m c t r _ hi, b4 m c t r _ hi, b5 m c t r _ hi]
  exact kr_cols m c H _ e

theorem k_value (c : Dev nD) (H : LaidOut m c) (t : Fin cfg0.N) (r : Fin 512) (h : Fin 8) (d : Fin 96) (hd : h.val * 128 + d.val < 1024) (hi : t.val * 512 + r.val < 16384) :
    ((dats m 0 c).after 13 t : FVec Ideal S512x1024 .bf16) (ix2 r ⟨h.val * 128 + d.val, hd⟩) = kval m c ⟨t.val * 512 + r.val, hi⟩ h d := by
  have hd' := d.isLt
  rw [k_point]
  refine (k_at _ _ _ _ _ _ _ r h ⟨d.val, by omega⟩ hd).trans ?_
  rw [b2 m c t r _ hi, b3 m c t r _ hi, b4 m c t r _ hi, b5 m c t r _ hi]
  simp only [b1 m c t r _ hi, b7]
  have ew (l : Fin 256) := (b10 m c t l ⟨h.val * 128 + d.val, hd⟩).trans (wk_at _ l h ⟨d.val, by omega⟩ hd)
  have e1 := cosT_at (m ((c : Thread nD τ).loc main_arg1)) ⟨t.val * 512 + r.val, hi⟩ ⟨d.val, by omega⟩
  have e2 := sinT_at (m ((c : Thread nD τ).loc main_arg2)) ⟨t.val * 512 + r.val, hi⟩ ⟨d.val, by omega⟩
  unfold kval headCols
  by_cases h0 : d.val < 64
  · have hz : m ((c : Thread nD τ).loc main_arg0) (ix2 (⟨t.val * 512 + r.val, hi⟩ : Fin 16384) (⟨768 + d.val, by omega⟩ : Fin 5120)) = (0 : EReal) :=
      H.zero ⟨t.val * 512 + r.val, hi⟩ ⟨d.val, h0⟩
    rw [dif_pos h0, e1.1 h0, e2.1 h0, mul_zero, add_zero, mul_one, hz, add_zero]
    refine Finset.sum_congr rfl fun l _ => congrArg₂ _ rfl ((ew l).trans (if_pos h0))
  · rw [dif_neg h0]
    have hs : ∀ l : Fin 256, iblk m c 10 t (ix2 l ⟨h.val * 128 + d.val, hd⟩) = (0 : EReal) := fun l => (ew l).trans (if_neg h0)
    simp only [hs, mul_zero, Finset.sum_const_zero, zero_add]
    refine Eq.trans ?_ (kr_cols m c H ⟨t.val * 512 + r.val, hi⟩ ⟨d.val - 64, by omega⟩)
    have e : (⟨64 + (d.val - 64), by omega⟩ : Fin 128) = ⟨d.val, by omega⟩ := Fin.ext (by show 64 + (d.val - 64) = d.val; omega)
    have e' : 64 + (d.val - 64) = d.val := by omega
    simp only [e, e']
    rfl

theorem q_value (c : Dev nD) (t : Fin cfg0.N) (r : Fin 512) (h : Fin 8) (d : Fin 96) (hd : h.val * 128 + d.val < 1024) (hi : t.val * 512 + r.val < 16384) :
    ((dats m 0 c).after 12 t : FVec Ideal S512x1024 .bf16) (ix2 r ⟨h.val * 128 + d.val, hd⟩) = qval m c ⟨t.val * 512 + r.val, hi⟩ h d := by
  have hd' := d.isLt
  rw [q_point]
  refine (q_at _ _ _ _ _ _ r h ⟨d.val, by omega⟩ hd).trans ?_
  rw [b4 m c t r _ hi, b5 m c t r _ hi]
  simp only [b0 m c t r _ hi, b6]
  have ea (l : Fin 384) := (b8 m c t l ⟨h.val * 128 + d.val, hd⟩).trans (wqA_at _ l h ⟨d.val, by omega⟩ hd hd' (by show h.val * 96 + d.val < 768; omega))
  have eb (l : Fin 384) := b9 m c t l ⟨h.val * 128 + d.val, hd⟩
  have ew (l : Fin 384) := wqB_at (m ((c : Thread nD τ).loc main_arg4)) l h ⟨d.val, by omega⟩ hd
  have e1 := cosT_at (m ((c : Thread nD τ).loc main_arg1)) ⟨t.val * 512 + r.val, hi⟩ ⟨d.val, by omega⟩
  have e2 := sinT_at (m ((c : Thread nD τ).loc main_arg2)) ⟨t.val * 512 + r.val, hi⟩ ⟨d.val, by omega⟩
  simp only [ea, eb]
  unfold qval headCols rope
  refine congrArg (· * Ideal.ofBits .f32 0x3E16C740#32) ?_
  by_cases h0 : d.val < 64
  · rw [dif_pos h0, e1.1 h0, e2.1 h0, mul_zero, add_zero, mul_one]
    rfl
  · rw [dif_neg h0]
    by_cases h1 : d.val - 64 < 16
    · have hb (l : Fin 384) := (ew l).2.1 (by show h.val * 96 + (d.val + 16) < 768; omega) (by show 64 ≤ d.val; omega) (by show d.val < 80; omega)
      simp only [hb]
      rw [dif_pos h1, e1.2.1 h1 (by show 64 ≤ d.val; omega), e2.2.1 h1 (by show 64 ≤ d.val; omega), mul_neg, ← sub_eq_add_neg]
      have f1 : 64 + (d.val - 64) = d.val := by omega
      have f2 : 64 + (d.val - 64 + 16) = d.val + 16 := by omega
      simp only [f1, f2]
      rfl
    · have hb (l : Fin 384) := (ew l).2.2 (by show h.val * 96 + (d.val - 16) < 768; omega) (by show 80 ≤ d.val; omega) (by show d.val < 96; omega)
      simp only [hb]
      have h2 : d.val - 80 < 16 := by omega
      rw [dif_neg h1, e1.2.2 h2 (by show 80 ≤ d.val; omega), e2.2.2 h2 (by show 80 ≤ d.val; omega), add_comm]
      have f1 : 64 + (d.val - 64) = d.val := by omega
      have f2 : 64 + (d.val - 64 - 16) = d.val - 16 := by omega
      have f3 : d.val - 64 - 16 = d.val - 80 := by omega
      have f4 : 64 + (d.val - 80) = d.val - 16 := by omega
      simp only [f1, f2, f3, f4]
      rfl

end Cert.PrepIdeal.Val

end
-- ==== Proof.Prep.Out.lean ====
/-
What the launch of the preparation leaves in its arrays, the results cut out of them, and the call's run.
-/
module

public import proofs.«01_k».proof.Proof.Prep.Values
public import Idealize.ShloMosaic.Lib.Pointwise
public import Idealize.ShloMosaic.Lib.Claim

@[expose] public section

set_option maxRecDepth 16384
set_option Elab.async false

noncomputable section

namespace Cert.PrepIdeal.Val

open Cert.PrepIdeal Cert.PrepIdeal.Gen Cert.Layer
open Idealize.ShloMosaic Idealize.ShloMosaic.TcCoe
open Idealize.SL Idealize.SL.Sem

/-- The array whose rows `512 t` to `512 t + 511` are block `t`. -/
def rowsOf {n : ℕ} {φ : FTy} (A : Fin cfg0.N → FVec Ideal ⟨2, ![512, n]⟩ φ) : FVec Ideal ⟨2, ![16384, n]⟩ φ := fun j =>
  A ⟨(j 0).val / 512, Nat.div_lt_of_lt_mul (j 0).isLt⟩ (ix2 ⟨(j 0).val % 512, Nat.mod_lt _ (by decide)⟩ (j 1))

/-- The array whose columns `512 t` to `512 t + 511` are block `t`. -/
def colsOf {n : ℕ} {φ : FTy} (A : Fin cfg0.N → FVec Ideal ⟨2, ![n, 512]⟩ φ) : FVec Ideal ⟨2, ![n, 16384]⟩ φ := fun j =>
  A ⟨(j 1).val / 512, Nat.div_lt_of_lt_mul (j 1).isLt⟩ (ix2 (j 0) ⟨(j 1).val % 512, Nat.mod_lt _ (by decide)⟩)

theorem rowsOf_at {n : ℕ} {φ : FTy} (A : Fin cfg0.N → FVec Ideal ⟨2, ![512, n]⟩ φ) (t : Fin cfg0.N) (r : Fin 512) (k : Fin n) (h : t.val * 512 + r.val < 16384) :
    rowsOf A (ix2 ⟨t.val * 512 + r.val, h⟩ k) = A t (ix2 r k) := by
  have hr := r.isLt
  have e1 : (⟨(t.val * 512 + r.val) / 512, Nat.div_lt_of_lt_mul h⟩ : Fin cfg0.N) = t := Fin.ext (by show (t.val * 512 + r.val) / 512 = t.val; omega)
  have e2 : (⟨(t.val * 512 + r.val) % 512, Nat.mod_lt _ (by decide)⟩ : Fin 512) = r := Fin.ext (by show (t.val * 512 + r.val) % 512 = r.val; omega)
  show A ⟨(t.val * 512 + r.val) / 512, _⟩ (ix2 ⟨(t.val * 512 + r.val) % 512, _⟩ k) = A t (ix2 r k)
  rw [e1, e2]

theorem colsOf_at {n : ℕ} {φ : FTy} (A : Fin cfg0.N → FVec Ideal ⟨2, ![n, 512]⟩ φ) (t : Fin cfg0.N) (r : Fin 512) (k : Fin n) (h : t.val * 512 + r.val < 16384) :
    colsOf A (ix2 k ⟨t.val * 512 + r.val, h⟩) = A t (ix2 k r) := by
  have hr := r.isLt
  have e1 : (⟨(t.val * 512 + r.val) / 512, Nat.div_lt_of_lt_mul h⟩ : Fin cfg0.N) = t := Fin.ext (by show (t.val * 512 + r.val) / 512 = t.val; omega)
  have e2 : (⟨(t.val * 512 + r.val) % 512, Nat.mod_lt _ (by decide)⟩ : Fin 512) = r := Fin.ext (by show (t.val * 512 + r.val) % 512 = r.val; omega)
  show A ⟨(t.val * 512 + r.val) / 512, _⟩ (ix2 k ⟨(t.val * 512 + r.val) % 512, _⟩) = A t (ix2 k r)
  rw [e1, e2]

variable (m : (ℓ : Loc nD τ sig) → Buf (Elt Ideal) ℓ)

/-- What each point leaves of them. -/
def qBlk (c : Dev nD) (t : Fin cfg0.N) : FVec Ideal S512x1024 .bf16 := (dats m 0 c).after 12 t
def kBlk (c : Dev nD) (t : Fin cfg0.N) : FVec Ideal S512x1024 .bf16 := (dats m 0 c).after 13 t
def vBlk (c : Dev nD) (t : Fin cfg0.N) : FVec Ideal S640x512 .bf16 := (dats m 0 c).after 14 t
def kvBlk (c : Dev nD) (t : Fin cfg0.N) : FVec Ideal S512x256 .f32 := (dats m 0 c).after 15 t
def krBlk (c : Dev nD) (t : Fin cfg0.N) : FVec Ideal S512x32 .f32 := (dats m 0 c).after 16 t

/-- The arrays the launch leaves: queries, keys, values, normed keys and values, roped keys. -/
def qArr (c : Dev nD) : FVec Ideal S16384x1024 .bf16 := rowsOf (qBlk m c)
def kArr (c : Dev nD) : FVec Ideal S16384x1024 .bf16 := rowsOf (kBlk m c)
def vArr (c : Dev nD) : FVec Ideal S640x16384 .bf16 := colsOf (vBlk m c)
def kvArr (c : Dev nD) : FVec Ideal S16384x256 .f32 := rowsOf (kvBlk m c)
def krArr (c : Dev nD) : FVec Ideal S16384x32 .f32 := rowsOf (krBlk m c)

theorem arr_q (c : Dev nD) : (dats m 0 c).arrAt 12 cfg0.N = qArr m c := by
  refine (dats m 0 c).arrAt_eq_of_covers (12 : Fin 17) _ (by decide +kernel) fun t hf y => ?_
  have e := (idx' t).1
  have ht : t.val < 32 := t.isLt
  blk_simp
  have hy : (y : S512x1024.Idx) = ix2 (y 0) (y 1) := by funext a; fin_cases a <;> rfl
  have hr : (y 0).val < 512 := (y 0).isLt
  refine ((congrArg (qBlk m c t) hy).trans (rowsOf_at (qBlk m c) t (y 0) (y 1) (by omega)).symm).trans ?_
  unfold qArr
  congr 1
  blk_ext [e.1, e.2]

theorem arr_k (c : Dev nD) : (dats m 0 c).arrAt 13 cfg0.N = kArr m c := by
  refine (dats m 0 c).arrAt_eq_of_covers (13 : Fin 17) _ (by decide +kernel) fun t hf y => ?_
  have e := (idx' t).2.1
  have ht : t.val < 32 := t.isLt
  blk_simp
  have hy : (y : S512x1024.Idx) = ix2 (y 0) (y 1) := by funext a; fin_cases a <;> rfl
  have hr : (y 0).val < 512 := (y 0).isLt
  refine ((congrArg (kBlk m c t) hy).trans (rowsOf_at (kBlk m c) t (y 0) (y 1) (by omega)).symm).trans ?_
  unfold kArr
  congr 1
  blk_ext [e.1, e.2]

theorem arr_v (c : Dev nD) : (dats m 0 c).arrAt 14 cfg0.N = vArr m c := by
  refine (dats m 0 c).arrAt_eq_of_covers (14 : Fin 17) _ (by decide +kernel) fun t hf y => ?_
  have e := (idx' t).2.2.1
  have ht : t.val < 32 := t.isLt
  blk_simp
  have hy : (y : S640x512.Idx) = ix2 (y 0) (y 1) := by funext a; fin_cases a <;> rfl
  have hr : (y 1).val < 512 := (y 1).isLt
  refine ((congrArg (vBlk m c t) hy).trans (colsOf_at (vBlk m c) t (y 1) (y 0) (by omega)).symm).trans ?_
  unfold vArr
  congr 1
  blk_ext [e.1, e.2]

theorem arr_kv (c : Dev nD) : (dats m 0 c).arrAt 15 cfg0.N = kvArr m c := by
  refine (dats m 0 c).arrAt_eq_of_covers (15 : Fin 17) _ (by decide +kernel) fun t hf y => ?_
  have e := (idx' t).2.2.2.1
  have ht : t.val < 32 := t.isLt
  blk_simp
  have hy : (y : S512x256.Idx) = ix2 (y 0) (y 1) := by funext a; fin_cases a <;> rfl
  have hr : (y 0).val < 512 := (y 0).isLt
  refine ((congrArg (kvBlk m c t) hy).trans (rowsOf_at (kvBlk m c) t (y 0) (y 1) (by omega)).symm).trans ?_
  unfold kvArr
  congr 1
  blk_ext [e.1, e.2]

theorem arr_kr (c : Dev nD) : (dats m 0 c).arrAt 16 cfg0.N = krArr m c := by
  refine (dats m 0 c).arrAt_eq_of_covers (16 : Fin 17) _ (by decide +kernel) fun t hf y => ?_
  have e := (idx' t).2.2.2.2
  have ht : t.val < 32 := t.isLt
  blk_simp
  have hy : (y : S512x32.Idx) = ix2 (y 0) (y 1) := by funext a; fin_cases a <;> rfl
  have hr : (y 0).val < 512 := (y 0).isLt
  refine ((congrArg (krBlk m c t) hy).trans (rowsOf_at (krBlk m c) t (y 0) (y 1) (by omega)).symm).trans ?_
  unfold krArr
  congr 1
  blk_ext [e.1, e.2]

/-- The results cut out of the arrays. -/
def qOut (c : Dev nD) : FVec Ideal S16384x8x96 .bf16 :=
  extractStridedSlice S16384x8x96 ![0, 0, 0] (shapeCast S16384x8x128 (qArr m c) shapeCasts_S16384x1024_S16384x8x128) slices_S16384x8x128_S16384x8x96_0_0_0
def kOut (c : Dev nD) : FVec Ideal S16384x8x96 .bf16 :=
  extractStridedSlice S16384x8x96 ![0, 0, 0] (shapeCast S16384x8x128 (kArr m c) shapeCasts_S16384x1024_S16384x8x128) slices_S16384x8x128_S16384x8x96_0_0_0
def vOut (c : Dev nD) : FVec Ideal S8x64x16384 .bf16 :=
  extractStridedSlice S8x64x16384 ![0, 0, 0] (shapeCast S8x80x16384 (vArr m c) shapeCasts_S640x16384_S8x80x16384) slices_S8x80x16384_S8x64x16384_0_0_0

theorem headRows_at (A : FVec Ideal S16384x1024 .bf16) (i : Fin 16384) (h : Fin 8) (d : Fin 96) :
    extractStridedSlice S16384x8x96 ![0, 0, 0] (shapeCast S16384x8x128 A shapeCasts_S16384x1024_S16384x8x128) slices_S16384x8x128_S16384x8x96_0_0_0 (ix3 i h d)
      = A (ix2 i ⟨h.val * 128 + d.val, by omega⟩) := by
  pointwise

theorem headCols_at (A : FVec Ideal S640x16384 .bf16) (h : Fin 8) (d : Fin 64) (i : Fin 16384) :
    extractStridedSlice S8x64x16384 ![0, 0, 0] (shapeCast S8x80x16384 A shapeCasts_S640x16384_S8x80x16384) slices_S8x80x16384_S8x64x16384_0_0_0 (ix3 h d i)
      = A (ix2 ⟨h.val * 80 + d.val, by omega⟩ i) := by
  pointwise

/-- Every row lies in one block. -/
theorem row_split (i : Fin 16384) : ∃ (t : Fin cfg0.N) (r : Fin 512) (h : t.val * 512 + r.val < 16384), i = ⟨t.val * 512 + r.val, h⟩ := by
  have hi := i.isLt
  have e : i.val / 512 * 512 + i.val % 512 = i.val := by omega
  exact ⟨⟨i.val / 512, Nat.div_lt_of_lt_mul i.isLt⟩, ⟨i.val % 512, Nat.mod_lt _ (by decide)⟩, by show i.val / 512 * 512 + i.val % 512 < 16384; omega, Fin.ext e.symm⟩

theorem kvArr_at (c : Dev nD) (i : Fin 16384) (k : Fin 256) : kvArr m c (ix2 i k) = kvnorm m c i k := by
  obtain ⟨t, r, h, rfl⟩ := row_split i
  exact (rowsOf_at (kvBlk m c) t r k h).trans (kv_value m c t r k h)

theorem krArr_at (c : Dev nD) (H : LaidOut m c) (i : Fin 16384) (e : Fin 32) : krArr m c (ix2 i e) = krow m c i e := by
  obtain ⟨t, r, h, rfl⟩ := row_split i
  exact (rowsOf_at (krBlk m c) t r e h).trans (kr_value m c H t r e h)

theorem qOut_at (c : Dev nD) (i : Fin 16384) (h : Fin 8) (d : Fin 96) : qOut m c (ix3 i h d) = qval m c i h d := by
  obtain ⟨t, r, hi, rfl⟩ := row_split i
  exact (headRows_at _ _ h d).trans ((rowsOf_at (qBlk m c) t r _ hi).trans (q_value m c t r h d _ hi))

theorem kOut_at (c : Dev nD) (H : LaidOut m c) (i : Fin 16384) (h : Fin 8) (d : Fin 96) : kOut m c (ix3 i h d) = kval m c i h d := by
  obtain ⟨t, r, hi, rfl⟩ := row_split i
  exact (headRows_at _ _ h d).trans ((rowsOf_at (kBlk m c) t r _ hi).trans (k_value m c H t r h d _ hi))

theorem vOut_at (c : Dev nD) (h : Fin 8) (d : Fin 64) (i : Fin 16384) : vOut m c (ix3 h d i) = vval m c i h d := by
  obtain ⟨t, r, hi, rfl⟩ := row_split i
  exact (headCols_at _ h d _).trans ((colsOf_at (vBlk m c) t r _ hi).trans (v_value m c t r h d _ hi))

/-- An array of one window alone is read after the launch at what that window leaves. -/
theorem read_alone {gr W : ℕ} (win : Fin W → Pipeline.WinSpec sig gr) (c : Dev nD) (V : Valuation τ sig (Elt Ideal))
    (A : (w : Fin W) → Buf (Elt Ideal) ((win w).arr.view.loc (c.tc : Thread nD τ))) (w : Fin W)
    (h : ∀ w', Pipeline.arrRef win w' = Pipeline.arrRef win w → w' = w) :
    Pipeline.withArrays win c V A (Proc.devRef .tc (Pipeline.arrRef win w)) = A w := by
  have one : ∀ (w' : Fin W) (e : Proc.devRef .tc (Pipeline.arrRef win w') = Proc.devRef (τ := τ) .tc (Pipeline.arrRef win w)),
      cast (congrArg (fun b : DevRef τ sig => b.ty.Contents (Elt Ideal)) e) (A w') = A w := by
    intro w' e
    obtain rfl := h w' (Proc.devRef_injective _ e)
    rfl
  have some : ∃ w', Proc.devRef .tc (Pipeline.arrRef win w') = Proc.devRef (τ := τ) .tc (Pipeline.arrRef win w) := ⟨w, rfl⟩
  unfold Pipeline.withArrays
  rw [dif_pos some]
  exact one _ some.choose_spec

theorem written_q (c : Dev nD) (W : Valuation τ sig (Elt Ideal)) :
    Pipeline.withArrays (cfgs 0).spec c W (fun w => (dats m 0 c).arrAt w (cfgs 0).N) (Proc.devRef .tc main_v34_0) = qArr m c :=
  (read_alone (cfgs 0).spec c W (fun w => (dats m 0 c).arrAt w (cfgs 0).N) (12 : Fin 17) (by decide)).trans (arr_q m c)

theorem written_k (c : Dev nD) (W : Valuation τ sig (Elt Ideal)) :
    Pipeline.withArrays (cfgs 0).spec c W (fun w => (dats m 0 c).arrAt w (cfgs 0).N) (Proc.devRef .tc main_v34_1) = kArr m c :=
  (read_alone (cfgs 0).spec c W (fun w => (dats m 0 c).arrAt w (cfgs 0).N) (13 : Fin 17) (by decide)).trans (arr_k m c)

theorem written_v (c : Dev nD) (W : Valuation τ sig (Elt Ideal)) :
    Pipeline.withArrays (cfgs 0).spec c W (fun w => (dats m 0 c).arrAt w (cfgs 0).N) (Proc.devRef .tc main_v34_2) = vArr m c :=
  (read_alone (cfgs 0).spec c W (fun w => (dats m 0 c).arrAt w (cfgs 0).N) (14 : Fin 17) (by decide)).trans (arr_v m c)

/-- The operations after the launch. -/
theorem tails (c : Dev nD) :
    Pipeline.afterTail₀ cfgs (dats m) 0 (V0 m) [hostOps1] c main_v36 = qOut m c
    ∧ Pipeline.afterTail₀ cfgs (dats m) 0 (V0 m) [hostOps1] c main_v38 = kOut m c
    ∧ Pipeline.afterTail₀ cfgs (dats m) 0 (V0 m) [hostOps1] c main_v40 = vOut m c := by
  have h (b : Ref sig .tc) : Pipeline.afterTail₀ cfgs (dats m) 0 (V0 m) [hostOps1] c b
      = StableHlo.after hostOps1 (Pipeline.withArrays (cfgs 0).spec c (V0 m c) fun w => (dats m 0 c).arrAt w (cfgs 0).N) (Proc.devRef .tc b) := rfl
  refine ⟨?_, ?_, ?_⟩
  · rw [h]
    simp only [hostOps1, StableHlo.after_cons, StableHlo.after_nil]
    after_results_steps
    rw [written_q]
    rfl
  · rw [h]
    simp only [hostOps1, StableHlo.after_cons, StableHlo.after_nil]
    after_results_steps
    rw [written_k]
    rfl
  · rw [h]
    simp only [hostOps1, StableHlo.after_cons, StableHlo.after_nil]
    after_results_steps
    rw [written_v]
    rfl

/-- The run of the call: its five results, and the arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v34_3) = kvArr m c
      ∧ r.2.mem ((c.tc : Thread nD τ).loc main_v34_4) = krArr m c
      ∧ r.2.mem ((c.tc : Thread nD τ).loc main_v36) = qOut m c
      ∧ r.2.mem ((c.tc : Thread nD τ).loc main_v38) = kOut m c
      ∧ r.2.mem ((c.tc : Thread nD τ).loc main_v40) = vOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => by
    obtain ⟨tq, tk, tv⟩ := tails m c
    exact ⟨
      ((h.1 c).1 (15 : Fin 17)).trans (arr_kv m c),
      ((h.1 c).1 (16 : Fin 17)).trans (arr_kr m c),
      ((h.1 c).2 main_v36 (by decide)).trans tq,
      ((h.1 c).2 main_v38 (by decide)).trans tk,
      ((h.1 c).2 main_v40 (by decide)).trans tv,
      h.2 c⟩) (θ_run_and (run_main m g) (unchanged m g))

end Cert.PrepIdeal.Val

end
-- ==== Proof.PrepRef.Value.lean ====
/-
The reference of the preparation: its results named, and read at an index.
-/
module

public import proofs.«01_k».proof.Defs
public import proofs.«01_k».proof.Proof.Gen.PrepRefIdeal.Run
public import proofs.«01_k».proof.Proof.Layer.Formula
public import Idealize.ShloMosaic.PureOps.Ideal
public import Idealize.ShloMosaic.Lib.Pointwise
public import Idealize.ShloMosaic.Lib.ValueIdx

@[expose] public section

set_option maxRecDepth 16384
set_option Elab.async false

noncomputable section

namespace Cert.PrepRefIdeal.Val

open Cert.PrepRefIdeal Cert.PrepRefIdeal.Gen Cert.Layer
open Idealize.ShloMosaic Idealize.ShloMosaic.TcCoe
open Idealize.SL Idealize.SL.Sem

/-- The key and value columns normed. -/
def kvR (x : FVec Ideal S16384x5120 .f32) (g : FVec Ideal S256 .f32) : FVec Ideal S16384x256 .f32 :=
  mulf (mulf (extractStridedSlice S16384x256 ![0, 512] x slices_S16384x5120_S16384x256_0_512) (broadcastInDim S16384x256 ![0, 1]
    bcast_S16384x1_S16384x256_0_1 (Host.rsqrt (addf (Host.divf (broadcastInDim S16384x1 ![0] bcast_S16384_S16384x1_0 (Host.reduceAdd (mulf
    (extractStridedSlice S16384x256 ![0, 512] x slices_S16384x5120_S16384x256_0_512) (extractStridedSlice S16384x256 ![0, 512] x
    slices_S16384x5120_S16384x256_0_512)) (constant (F := Ideal) S_ .f32 0x00000000#32) reducesTo_S16384x256_S16384_d1 h_S_)) (broadcastInDim S16384x1 ![]
    bcast_S_S16384x1 (constant (F := Ideal) S_ .f32 0x43800000#32))) (broadcastInDim S16384x1 ![] bcast_S_S16384x1 (constant (F := Ideal) S_ .f32
    0x358637BD#32)))))) (broadcastInDim S16384x256 ![0, 1] bcast_S1x256_S16384x256_0_1 (broadcastInDim S1x256 ![1] bcast_S256_S1x256_1 g))

/-- The query columns normed. -/
def qnR (x : FVec Ideal S16384x5120 .f32) (g : FVec Ideal S384 .f32) : FVec Ideal S16384x384 .f32 :=
  mulf (mulf (extractStridedSlice S16384x384 ![0, 0] x slices_S16384x5120_S16384x384_0_0) (broadcastInDim S16384x384 ![0, 1]
    bcast_S16384x1_S16384x384_0_1 (Host.rsqrt (addf (Host.divf (broadcastInDim S16384x1 ![0] bcast_S16384_S16384x1_0 (Host.reduceAdd (mulf
    (extractStridedSlice S16384x384 ![0, 0] x slices_S16384x5120_S16384x384_0_0) (extractStridedSlice S16384x384 ![0, 0] x
    slices_S16384x5120_S16384x384_0_0)) (constant (F := Ideal) S_ .f32 0x00000000#32) reducesTo_S16384x384_S16384_d1 h_S_)) (broadcastInDim S16384x1 ![]
    bcast_S_S16384x1 (constant (F := Ideal) S_ .f32 0x43C00000#32))) (broadcastInDim S16384x1 ![] bcast_S_S16384x1 (constant (F := Ideal) S_ .f32
    0x358637BD#32)))))) (broadcastInDim S16384x384 ![0, 1] bcast_S1x384_S16384x384_0_1 (broadcastInDim S1x384 ![1] bcast_S384_S1x384_1 g))

/-- The queries before the rotation, by heads. -/
def q3R (y : FVec Ideal S16384x384 .f32) (w : FVec Ideal S384x768 .f32) : FVec Ideal S16384x8x96 .f32 :=
  (shapeCast _ (Host.dotGeneral dot_S16384x384_S384x768_S16384x768_1_0_0_1_n_n none y w) shapeCasts_S16384x768_S16384x8x96)

/-- The roped key columns. -/
def krR (x : FVec Ideal S16384x5120 .f32) (cs sn : FVec Ideal S16384x16 .f32) : FVec Ideal S16384x32 .f32 :=
  concatenate S16384x32 1 [⟨S16384x16, (subf (mulf (extractStridedSlice S16384x16 ![0, 0] (extractStridedSlice S16384x32 ![0, 832] x
    slices_S16384x5120_S16384x32_0_832) slices_S16384x32_S16384x16_0_0) cs) (mulf (extractStridedSlice S16384x16 ![0, 16] (extractStridedSlice S16384x32
    ![0, 832] x slices_S16384x5120_S16384x32_0_832) slices_S16384x32_S16384x16_0_16) sn))⟩, ⟨S16384x16, (addf (mulf (extractStridedSlice S16384x16 ![0, 0]
    (extractStridedSlice S16384x32 ![0, 832] x slices_S16384x5120_S16384x32_0_832) slices_S16384x32_S16384x16_0_0) sn) (mulf (extractStridedSlice S16384x16
    ![0, 16] (extractStridedSlice S16384x32 ![0, 832] x slices_S16384x5120_S16384x32_0_832) slices_S16384x32_S16384x16_0_16) cs))⟩]
    concatenates_S16384x16_S16384x16_S16384x32_d1

/-- The queries. -/
def qR (y : FVec Ideal S16384x8x96 .f32) (cs sn : FVec Ideal S16384x16 .f32) : FVec Ideal S16384x8x96 .bf16 :=
  truncf .bf16 (mulf (concatenate S16384x8x96 2 [⟨S16384x8x64, (extractStridedSlice S16384x8x64 ![0, 0, 0] y slices_S16384x8x96_S16384x8x64_0_0_0)⟩,
    ⟨S16384x8x32, (concatenate S16384x8x32 2 [⟨S16384x8x16, (subf (mulf (extractStridedSlice S16384x8x16 ![0, 0, 0] (extractStridedSlice S16384x8x32 ![0,
    0, 64] y slices_S16384x8x96_S16384x8x32_0_0_64) slices_S16384x8x32_S16384x8x16_0_0_0) (broadcastInDim S16384x8x16 ![0, 1, 2]
    bcast_S16384x1x16_S16384x8x16_0_1_2 (broadcastInDim S16384x1x16 ![0, 2] bcast_S16384x16_S16384x1x16_0_2 cs))) (mulf (extractStridedSlice S16384x8x16
    ![0, 0, 16] (extractStridedSlice S16384x8x32 ![0, 0, 64] y slices_S16384x8x96_S16384x8x32_0_0_64) slices_S16384x8x32_S16384x8x16_0_0_16)
    (broadcastInDim S16384x8x16 ![0, 1, 2] bcast_S16384x1x16_S16384x8x16_0_1_2 (broadcastInDim S16384x1x16 ![0, 2] bcast_S16384x16_S16384x1x16_0_2 sn))))⟩,
    ⟨S16384x8x16, (addf (mulf (extractStridedSlice S16384x8x16 ![0, 0, 0] (extractStridedSlice S16384x8x32 ![0, 0, 64] y
    slices_S16384x8x96_S16384x8x32_0_0_64) slices_S16384x8x32_S16384x8x16_0_0_0) (broadcastInDim S16384x8x16 ![0, 1, 2] bcast_S16384x1x16_S16384x8x16_0_1_2
    (broadcastInDim S16384x1x16 ![0, 2] bcast_S16384x16_S16384x1x16_0_2 sn))) (mulf (extractStridedSlice S16384x8x16 ![0, 0, 16] (extractStridedSlice
    S16384x8x32 ![0, 0, 64] y slices_S16384x8x96_S16384x8x32_0_0_64) slices_S16384x8x32_S16384x8x16_0_0_16) (broadcastInDim S16384x8x16 ![0, 1, 2]
    bcast_S16384x1x16_S16384x8x16_0_1_2 (broadcastInDim S16384x1x16 ![0, 2] bcast_S16384x16_S16384x1x16_0_2 cs))))⟩]
    concatenates_S16384x8x16_S16384x8x16_S16384x8x32_d2)⟩] concatenates_S16384x8x64_S16384x8x32_S16384x8x96_d2) (broadcastInDim S16384x8x96 ![]
    bcast_S_S16384x8x96 (constant (F := Ideal) S_ .f32 0x3E16C740#32))) bitsLt_bf16_f32

/-- The keys. -/
def kR (y : FVec Ideal S16384x256 .f32) (z : FVec Ideal S16384x32 .f32) (w : FVec Ideal S256x1024 .f32) : FVec Ideal S16384x8x96 .bf16 :=
  truncf .bf16 (concatenate S16384x8x96 2 [⟨S16384x8x64, (Host.dotGeneral dot_S16384x256_S256x8x64_S16384x8x64_1_0_0_12_n_n none y (extractStridedSlice
    S256x8x64 ![0, 0, 0] (shapeCast _ w shapeCasts_S256x1024_S256x8x128) slices_S256x8x128_S256x8x64_0_0_0))⟩, ⟨S16384x8x32, (broadcastInDim S16384x8x32
    ![0, 1, 2] bcast_S16384x1x32_S16384x8x32_0_1_2 (broadcastInDim S16384x1x32 ![0, 2] bcast_S16384x32_S16384x1x32_0_2 z))⟩]
    concatenates_S16384x8x64_S16384x8x32_S16384x8x96_d2) bitsLt_bf16_f32

/-- The values. -/
def vR (y : FVec Ideal S16384x256 .f32) (w : FVec Ideal S256x1024 .f32) : FVec Ideal S8x64x16384 .bf16 :=
  truncf .bf16 (Host.dotGeneral dot_S256x8x64_S16384x256_S8x64x16384_0_1_12_0_n_n none (extractStridedSlice S256x8x64 ![0, 0, 64] (shapeCast _ w
    shapeCasts_S256x1024_S256x8x128) slices_S256x8x128_S256x8x64_0_0_64) y) bitsLt_bf16_f32

theorem kvR_at (x : FVec Ideal S16384x5120 .f32) (g : FVec Ideal S256 .f32) (i : Fin 16384) (l : Fin 256) :
    kvR x g (ix2 i l) = nrmN 0x43800000#32 (fun k => x (ix2 i ⟨512 + k.val, by omega⟩)) (fun k => g (ix1 k)) l := by
  unfold kvR nrmN rinvN
  pointwise

theorem qnR_at (x : FVec Ideal S16384x5120 .f32) (g : FVec Ideal S384 .f32) (i : Fin 16384) (l : Fin 384) :
    qnR x g (ix2 i l) = nrmN 0x43C00000#32 (fun k => x (ix2 i ⟨0 + k.val, by omega⟩)) (fun k => g (ix1 k)) l := by
  unfold qnR nrmN rinvN
  pointwise

theorem q3R_at (y : FVec Ideal S16384x384 .f32) (w : FVec Ideal S384x768 .f32) (i : Fin 16384) (h : Fin 8) (d : Fin 96) :
    q3R y w (ix3 i h d) = ∑ l, y (ix2 i l) * w (ix2 l ⟨h.val * 96 + d.val, by omega⟩) := by
  unfold q3R
  pointwise

theorem krR_at (x : FVec Ideal S16384x5120 .f32) (cs sn : FVec Ideal S16384x16 .f32) (i : Fin 16384) (e : Fin 32) :
    krR x cs sn (ix2 i e) = rope (fun e => x (ix2 i ⟨832 + e.val, by omega⟩)) (fun k => cs (ix2 i k)) (fun k => sn (ix2 i k)) e := by
  unfold krR rope
  pointwise
  by_cases h : e.val < 16
  · rw [dif_pos h, dif_pos h]
    simp only [Nat.add_comm 16 e.val]
  · rw [dif_neg h, dif_neg h]
    simp only [show 16 + (e.val - 16) = e.val from by omega]

theorem qR_at (y : FVec Ideal S16384x8x96 .f32) (cs sn : FVec Ideal S16384x16 .f32) (i : Fin 16384) (h : Fin 8) (d : Fin 96) :
    qR y cs sn (ix3 i h d) = headCols (fun d => y (ix3 i h ⟨d.val, by omega⟩))
      (rope (fun e => y (ix3 i h ⟨64 + e.val, by omega⟩)) (fun k => cs (ix2 i k)) (fun k => sn (ix2 i k))) d * Ideal.ofBits .f32 0x3E16C740#32 := by
  unfold qR headCols rope
  pointwise
  by_cases h1 : d.val < 64
  · rw [dif_pos h1, dif_pos h1]
  · rw [dif_neg h1, dif_neg h1]
    by_cases h2 : d.val - 64 < 16
    · rw [dif_pos h2, dif_pos h2]
      simp only [Nat.add_comm 16 (d.val - 64)]
    · rw [dif_neg h2, dif_neg h2]
      simp only [show 16 + (d.val - 64 - 16) = d.val - 64 from by omega]

theorem kR_at (y : FVec Ideal S16384x256 .f32) (z : FVec Ideal S16384x32 .f32) (w : FVec Ideal S256x1024 .f32) (i : Fin 16384) (h : Fin 8) (d : Fin 96) :
    kR y z w (ix3 i h d) = headCols (fun d => ∑ l, y (ix2 i l) * w (ix2 l ⟨h.val * 128 + d.val, by omega⟩)) (fun e => z (ix2 i e)) d := by
  unfold kR headCols
  pointwise

theorem vR_at (y : FVec Ideal S16384x256 .f32) (w : FVec Ideal S256x1024 .f32) (h : Fin 8) (d : Fin 64) (i : Fin 16384) :
    vR y w (ix3 h d i) = ∑ l, w (ix2 l ⟨h.val * 128 + (64 + d.val), by omega⟩) * y (ix2 i l) := by
  unfold vR
  pointwise

variable (m : (ℓ : Loc nD τ sig) → Buf (Elt Ideal) ℓ)

/-- The reference's results. -/
def kvOut (c : Dev nD) : FVec Ideal S16384x256 .f32 := kvR (m ((c.tc : Thread nD τ).loc main_arg0)) (m ((c.tc : Thread nD τ).loc main_arg5))
def krOut (c : Dev nD) : FVec Ideal S16384x32 .f32 := krR (m ((c.tc : Thread nD τ).loc main_arg0)) (m ((c.tc : Thread nD τ).loc main_arg1)) (m ((c.tc : Thread nD τ).loc main_arg2))
def qOut (c : Dev nD) : FVec Ideal S16384x8x96 .bf16 := qR (q3R (qnR (m ((c.tc : Thread nD τ).loc main_arg0)) (m ((c.tc : Thread nD τ).loc main_arg3))) (m ((c.tc : Thread nD τ).loc main_arg4))) (m ((c.tc : Thread nD τ).loc main_arg1)) (m ((c.tc : Thread nD τ).loc main_arg2))
def kOut (c : Dev nD) : FVec Ideal S16384x8x96 .bf16 := kR (kvOut m c) (krOut m c) (m ((c.tc : Thread nD τ).loc main_arg6))
def vOut (c : Dev nD) : FVec Ideal S8x64x16384 .bf16 := vR (kvOut m c) (m ((c.tc : Thread nD τ).loc main_arg6))

/-- The reference's run: its five results, and the arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v13) = kvOut m c
      ∧ r.2.mem ((c.tc : Thread nD τ).loc main_v23) = krOut m c
      ∧ r.2.mem ((c.tc : Thread nD τ).loc main_v68) = qOut m c
      ∧ r.2.mem ((c.tc : Thread nD τ).loc main_v69) = kOut m c
      ∧ r.2.mem ((c.tc : Thread nD τ).loc main_v70) = vOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Value.run m g

end Cert.PrepRefIdeal.Val

end
-- ==== Proof.PrepRef.Pre.lean ====
/-
What the precondition says of the projection's columns.
-/
module

public import proofs.«01_k».proof.Proof.Gen.Pre_laid_out
public import proofs.«01_k».proof.Proof.Gen.PrepRefIdeal
public import Idealize.ShloMosaic.Lib.Pointwise
public import Idealize.ShloMosaic.Lib.ReduceAll
public import Idealize.ShloMosaic.Lib.WordArith

@[expose] public section

set_option maxRecDepth 16384
set_option Elab.async false

noncomputable section

namespace Cert.PrepRefIdeal.Val

open Cert.PrepRefIdeal Cert.PrepRefIdeal.Gen
open Idealize.ShloMosaic

instance preScalar : Subsingleton Cert.Pre_laid_out.S_.Idx := ⟨fun a b => by funext i; exact i.elim0⟩

/-- Columns 768 to 831 are zero; columns 960 to 991 are columns 832 to 863 with their halves exchanged. -/
theorem pre_read (x : FVec Ideal Cert.Pre_laid_out.S16384x5120 .f32) (cs sn : FVec Ideal Cert.Pre_laid_out.S16384x16 .f32) (g1 : FVec Ideal Cert.Pre_laid_out.S384 .f32)
    (w1 : FVec Ideal Cert.Pre_laid_out.S384x768 .f32) (g2 : FVec Ideal Cert.Pre_laid_out.S256 .f32) (w2 : FVec Ideal Cert.Pre_laid_out.S256x1024 .f32)
    (hp : Cert.Pre_laid_out.fn (F := Ideal) x cs sn g1 w1 g2 w2 = fun _ => 1#1) :
    (∀ (i : Fin 16384) (d : Fin 64), x (ix2 i ⟨768 + d.val, by omega⟩) = (0 : EReal))
      ∧ (∀ (i : Fin 16384) (e : Fin 16), x (ix2 i ⟨960 + e.val, by omega⟩) = x (ix2 i ⟨848 + e.val, by omega⟩))
      ∧ ∀ (i : Fin 16384) (e : Fin 16), x (ix2 i ⟨976 + e.val, by omega⟩) = x (ix2 i ⟨832 + e.val, by omega⟩) := by
  have e := congrFun hp ix0
  unfold Cert.Pre_laid_out.fn at e
  obtain ⟨e1, e3⟩ := IntOp.andi_eq_one.1 e
  obtain ⟨e1, e2⟩ := IntOp.andi_eq_one.1 e1
  refine ⟨fun i d => ?_, fun i k => ?_, fun i k => ?_⟩
  · have e := Host.reduce_andi_all _ _ _ _ _ e1 (ix2 i d)
    revert e
    pointwise
    exact fun e => of_decide_eq_true ((WordArith.ofBool_eq_one_iff _).1 e)
  · have e := Host.reduce_andi_all _ _ _ _ _ e2 (ix2 i k)
    revert e
    pointwise
    intro e
    have e := of_decide_eq_true ((WordArith.ofBool_eq_one_iff _).1 e)
    have f1 : 960 + (0 + k.val) = 960 + k.val := by omega
    have f2 : 832 + (16 + k.val) = 848 + k.val := by omega
    simp only [f1, f2] at e
    exact e
  · have e := Host.reduce_andi_all _ _ _ _ _ e3 (ix2 i k)
    revert e
    pointwise
    intro e
    have e := of_decide_eq_true ((WordArith.ofBool_eq_one_iff _).1 e)
    have f1 : 960 + (16 + k.val) = 976 + k.val := by omega
    have f2 : 832 + (0 + k.val) = 832 + k.val := by omega
    simp only [f1, f2] at e
    exact e

end Cert.PrepRefIdeal.Val

end
-- ==== Proof.Layer.Prep.lean ====
/-
The preparation of queries, keys and values: the frames, and that the kernel's results are the reference's.
-/
module

public import proofs.«01_k».proof.Defs
public import proofs.«01_k».proof.Proof.Gen.Prep.Frame
public import proofs.«01_k».proof.Proof.Prep.Out
public import proofs.«01_k».proof.Proof.PrepRef.Value
public import proofs.«01_k».proof.Proof.PrepRef.Pre
public import Idealize.ShloMosaic.Lib.Quiescent
public import Idealize.ShloMosaic.Lib.Claim

@[expose] public section

set_option maxRecDepth 16384

noncomputable section

namespace Cert.Proof

open Idealize.ShloMosaic Idealize.SL Idealize.SL.Sem

instance factsPrep : Cert.Prep.Facts := Cert.Prep.Gen.facts
instance factsPrepIdeal : Cert.PrepIdeal.Facts := Cert.PrepIdeal.Gen.facts
instance factsPrepRefIdeal : Cert.PrepRefIdeal.Facts := Cert.PrepRefIdeal.Gen.facts
instance factsPre_laid_out : Cert.Pre_laid_out.Facts := Cert.Pre_laid_out.Gen.facts

theorem prep_frame : Cert.quiescent_Prep := fun m g _ => Cert.Prep.Gen.frame m g

theorem prep_frame_ideal : Cert.quiescent_PrepIdeal := fun m g _ => Cert.PrepIdeal.Gen.frame m g

theorem prep_frame_ideal_pre : Cert.quiescent_PrepIdeal_pre_laid_out := fun m g _ => Cert.PrepIdeal.Gen.frame m g

theorem prep_frame_ref : Cert.quiescent_PrepRefIdeal := fun m g _ =>
  (θ_run _ _ _).mono (fun r h => ⟨fun c => (h c).2.2.2.2.2, sem_eq_zero_of_no_sems (by decide) _⟩) (Cert.PrepRefIdeal.Val.run m g)

theorem prep_frame_ref_pre : Cert.quiescent_PrepRefIdeal_pre_laid_out := fun m g _ => prep_frame_ref m g trivial

/-- The preparation: the kernel's results and the reference's are the same arrays. -/
theorem prep : Cert.algebraic_PrepIdeal_PrepRefIdeal_pre_laid_out := by
  intro m g m' g' hp hag
  have H (c : Dev Cert.PrepIdeal.nD) : Cert.PrepIdeal.Val.LaidOut m c := by
    obtain ⟨z, l, u⟩ := Cert.PrepRefIdeal.Val.pre_read _ _ _ _ _ _ _ (hp c)
    exact ⟨z, l, u⟩
  have ekv (c : Dev Cert.PrepIdeal.nD) (i : Fin 16384) (l : Fin 256) :
      Cert.PrepRefIdeal.Val.kvOut m' c (ix2 i l) = Cert.PrepIdeal.Val.kvnorm m c i l := by
    obtain ⟨h0, h1, h2, h3, h4, h5, h6⟩ := hag c
    unfold Cert.PrepRefIdeal.Val.kvOut
    rw [h0, h5]
    exact Cert.PrepRefIdeal.Val.kvR_at _ _ i l
  have ekr (c : Dev Cert.PrepIdeal.nD) (i : Fin 16384) (e : Fin 32) :
      Cert.PrepRefIdeal.Val.krOut m' c (ix2 i e) = Cert.PrepIdeal.Val.krow m c i e := by
    obtain ⟨h0, h1, h2, h3, h4, h5, h6⟩ := hag c
    unfold Cert.PrepRefIdeal.Val.krOut
    rw [h0, h1, h2]
    exact Cert.PrepRefIdeal.Val.krR_at _ _ _ i e
  have eq (c : Dev Cert.PrepIdeal.nD) (i : Fin 16384) (h : Fin 8) (d : Fin 96) :
      Cert.PrepRefIdeal.Val.qOut m' c (ix3 i h d) = Cert.PrepIdeal.Val.qval m c i h d := by
    obtain ⟨h0, h1, h2, h3, h4, h5, h6⟩ := hag c
    unfold Cert.PrepRefIdeal.Val.qOut
    rw [h0, h1, h2, h3, h4]
    refine (Cert.PrepRefIdeal.Val.qR_at _ _ _ i h d).trans ?_
    simp only [Cert.PrepRefIdeal.Val.q3R_at, Cert.PrepRefIdeal.Val.qnR_at]
    rfl
  have ek (c : Dev Cert.PrepIdeal.nD) (i : Fin 16384) (h : Fin 8) (d : Fin 96) :
      Cert.PrepRefIdeal.Val.kOut m' c (ix3 i h d) = Cert.PrepIdeal.Val.kval m c i h d := by
    unfold Cert.PrepRefIdeal.Val.kOut
    rw [(hag c).2.2.2.2.2.2]
    refine (Cert.PrepRefIdeal.Val.kR_at _ _ _ i h d).trans ?_
    simp only [ekv, ekr]
    rfl
  have ev (c : Dev Cert.PrepIdeal.nD) (h : Fin 8) (d : Fin 64) (i : Fin 16384) :
      Cert.PrepRefIdeal.Val.vOut m' c (ix3 h d i) = Cert.PrepIdeal.Val.vval m c i h d := by
    unfold Cert.PrepRefIdeal.Val.vOut
    rw [(hag c).2.2.2.2.2.2]
    refine (Cert.PrepRefIdeal.Val.vR_at _ _ h d i).trans ?_
    simp only [ekv]
    rfl
  refine ⟨_, _, _, _, _, Cert.PrepIdeal.Val.run m g, ?_⟩
  refine (θ_run _ _ _).mono (fun r h c => ?_) (Cert.PrepRefIdeal.Val.run m' g')
  obtain ⟨e0, e1, e2, e3, e4, ea⟩ := h c
  have two {a b : ℕ} (j : (⟨2, ![a, b]⟩ : Shape).Idx) : j = ix2 (j 0) (j 1) := by funext x; fin_cases x <;> rfl
  have three {a b d : ℕ} (j : (⟨3, ![a, b, d]⟩ : Shape).Idx) : j = ix3 (j 0) (j 1) (j 2) := by funext x; fin_cases x <;> rfl
  refine ⟨e0.trans (funext fun j => ?_), e1.trans (funext fun j => ?_), e2.trans (funext fun j => ?_),
    e3.trans (funext fun j => ?_), e4.trans (funext fun j => ?_), ea⟩
  · rw [two j]
    exact (ekv c _ _).trans (Cert.PrepIdeal.Val.kvArr_at m c _ _).symm
  · rw [two j]
    exact (ekr c _ _).trans (Cert.PrepIdeal.Val.krArr_at m c (H c) _ _).symm
  · rw [three j]
    exact (eq c _ _ _).trans (Cert.PrepIdeal.Val.qOut_at m c _ _ _).symm
  · rw [three j]
    exact (ek c _ _ _).trans (Cert.PrepIdeal.Val.kOut_at m c (H c) _ _ _).symm
  · rw [three j]
    exact (ev c _ _ _).trans (Cert.PrepIdeal.Val.vOut_at m c _ _ _).symm

end Cert.Proof

end
-- ==== Proof.Flash.Pins.lean ====
/-
The two block tables of the flash attention kernel, and the words a grid point reads of them.
-/
module

public import proofs.«01_k».proof.Defs
public import proofs.«01_k».proof.Proof.Gen.Flash
public import proofs.«01_k».proof.Proof.Gen.Flash.Launch
public import proofs.«01_k».proof.Proof.Gen.Flash.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

noncomputable section

namespace Cert.Flash.Att

open Cert.Flash Cert.Flash.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables and the three scratch buffers as the kernel is handed them, whole. -/
abbrev tbM0_0 : Memref sig .tc .smem S136 .i32 := Memref.whole main_c
abbrev tbM0_1 : Memref sig .tc .smem S136 .i32 := Memref.whole main_c_0
abbrev scM0_0 : Memref sig .tc .vmem S8x8x1024 .f32 := Memref.whole cc0_scratch0
abbrev scM0_1 : Memref sig .tc .vmem S8x80x1024 .f32 := Memref.whole cc0_scratch1
abbrev scM0_2 : Memref sig .tc .vmem S3x1024x1024 .f32 := Memref.whole cc0_scratch2

/-- The word that grid point `i` reads of a table with contents `T`: its block of queries (table 0), its block of keys (table 1). -/
abbrev word0 (i : grid0.Coords) (T : S136.Idx → Elt Bits .i32) : Elt Bits .i32 :=
  View.readAt (Elt Bits) (tbM0_0).view (Rect.unit (s := S136) (k0_off1 i) S1.size (k0_off1_inb i)).toLoadRect T (Shape.Idx.first (numel1_S1.symm ▸ Nat.one_pos))
abbrev word1 (i : grid0.Coords) (T : S136.Idx → Elt Bits .i32) : Elt Bits .i32 :=
  View.readAt (Elt Bits) (tbM0_1).view (Rect.unit (s := S136) (k0_off1 i) S1.size (k0_off1_inb i)).toLoadRect T (Shape.Idx.first (numel1_S1.symm ▸ Nat.one_pos))

/-- The tables' contents: the lower triangle of 16 by 16 blocks, row after row. -/
def pinT_0 : S136.Idx → BitVec 32 := fun x => lit0 (S136.rowMajor x)
def pinT_1 : S136.Idx → BitVec 32 := fun x => lit1 (S136.rowMajor x)

set_option backward.proofsInPublic true in
/-- Both tables, as the pipeline's windows read them. -/
def pfN : pre0.Contents (Elt Bits) := fun | ⟨0, _⟩ => pinT_0 | ⟨1, _⟩ => pinT_1 | ⟨_ + 2, h⟩ => absurd h (by simp)

end Cert.Flash.Att

end
-- ==== Proof.Flash.Runs.lean ====
/-
The body of the kernel, run once per control path.
-/
module

public import proofs.«01_k».proof.Proof.Flash.Pins

@[expose] public section

set_option maxRecDepth 16384
set_option Elab.async false

noncomputable section

namespace Cert.Flash.Att

open Cert.Flash Cert.Flash.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev VO0_3 : View sig .tc .vmem S512x1024 .bf16 := (Memref.whole cc0_stg3_0 : Memref sig .tc .vmem S512x1024 .bf16).view

set_option backward.proofsInPublic true in
set_option maxHeartbeats 8000000 in
noncomputable def kernelRun0_A (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Bits .i32)) (T1 : (S136.Idx → Elt Bits .i32))
     (x0 : (S1024x1024.Idx → Elt Bits .bf16)) (x1 : (S1024x1024.Idx → Elt Bits .bf16)) (x2 : (S640x1024.Idx → Elt Bits .bf16)) (hc0 : (Scalar.cmpi .ne (Scalar.extui (Scalar.cmpi .eq (word1 i T1) 0#32)) 0#32) = 1#1) (hc1 : ¬((Scalar.cmpi .ne (Scalar.extui (Scalar.cmpi .slt (word1 i T1) (word0 i T0))) 0#32) = 1#1)) (k0_h3 : k0_cond3 (word0 i T0) (word1 i T1) = 1#1) :
    Σ' (out0 : List (View.Piece (Elt Bits) S512x1024 .bf16)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_flash_prompt i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_flash_prompt_eq_skeleton]; unfold cc0_flash_prompt_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

theorem cover0_A_3 (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Bits .i32)) (T1 : (S136.Idx → Elt Bits .i32))
     (x0 : (S1024x1024.Idx → Elt Bits .bf16)) (x1 : (S1024x1024.Idx → Elt Bits .bf16)) (x2 : (S640x1024.Idx → Elt Bits .bf16)) (hc0 : (Scalar.cmpi .ne (Scalar.extui (Scalar.cmpi .eq (word1 i T1) 0#32)) 0#32) = 1#1) (hc1 : ¬((Scalar.cmpi .ne (Scalar.extui (Scalar.cmpi .slt (word1 i T1) (word0 i T0))) 0#32) = 1#1)) (k0_h3 : k0_cond3 (word0 i T0) (word1 i T1) = 1#1) (y : S512x1024.Idx) :
    ∃ pc ∈ (kernelRun0_A c i arg4 harg4 arg5 harg5 arg6 harg6 arg7 harg7 T0 T1 x0 x1 x2 hc0 hc1 k0_h3).1, y ∈ pc.1.set :=
  View.cover_of_tiledL (kernelRun0_A c i arg4 harg4 arg5 harg5 arg6 harg6 arg7 harg7 T0 T1 x0 x1 x2 hc0 hc1 k0_h3).1 S64x1024.size (by sl_kernel_rfl) y

def out0_A_3 (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Bits .i32)) (T1 : (S136.Idx → Elt Bits .i32))
     (x0 : (S1024x1024.Idx → Elt Bits .bf16)) (x1 : (S1024x1024.Idx → Elt Bits .bf16)) (x2 : (S640x1024.Idx → Elt Bits .bf16)) (hc0 : (Scalar.cmpi .ne (Scalar.extui (Scalar.cmpi .eq (word1 i T1) 0#32)) 0#32) = 1#1) (hc1 : ¬((Scalar.cmpi .ne (Scalar.extui (Scalar.cmpi .slt (word1 i T1) (word0 i T0))) 0#32) = 1#1)) (k0_h3 : k0_cond3 (word0 i T0) (word1 i T1) = 1#1) : (S512x1024.Idx → Elt Bits .bf16) :=
  VO0_3.read (Elt Bits) (VO0_3.writes (Elt Bits) VO0_3.junk (kernelRun0_A c i arg4 harg4 arg5 harg5 arg6 harg6 arg7 harg7 T0 T1 x0 x1 x2 hc0 hc1 k0_h3).1)

set_option backward.proofsInPublic true in
set_option maxHeartbeats 8000000 in
noncomputable def kernelRun0_B (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Bits .i32)) (T1 : (S136.Idx → Elt Bits .i32))
     (x0 : (S1024x1024.Idx → Elt Bits .bf16)) (x1 : (S1024x1024.Idx → Elt Bits .bf16)) (x2 : (S640x1024.Idx → Elt Bits .bf16)) (hc0 : (Scalar.cmpi .ne (Scalar.extui (Scalar.cmpi .eq (word1 i T1) 0#32)) 0#32) = 1#1) (hc1 : (Scalar.cmpi .ne (Scalar.extui (Scalar.cmpi .slt (word1 i T1) (word0 i T0))) 0#32) = 1#1) (k0_h3 : ¬(k0_cond3 (word0 i T0) (word1 i T1) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S512x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_flash_prompt i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, fun (y3 : (S512x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_flash_prompt_eq_skeleton]; unfold cc0_flash_prompt_skel
    iintro ⟨H0, H1, H2, HT0, HT1, ⟨%f3, %hf3, HO3⟩, HS0, HS1, HS2, Hk⟩
    obtain rfl := harg7.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

set_option backward.proofsInPublic true in
set_option maxHeartbeats 8000000 in
noncomputable def kernelRun0_C (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Bits .i32)) (T1 : (S136.Idx → Elt Bits .i32))
     (x0 : (S1024x1024.Idx → Elt Bits .bf16)) (x1 : (S1024x1024.Idx → Elt Bits .bf16)) (x2 : (S640x1024.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (word1 i T1) 0#32)) 0#32) = 1#1)) (hc1 : ¬((Scalar.cmpi .ne (Scalar.extui (Scalar.cmpi .slt (word1 i T1) (word0 i T0))) 0#32) = 1#1)) (k0_h3 : k0_cond3 (word0 i T0) (word1 i T1) = 1#1) :
    Σ' (out0 : List (View.Piece (Elt Bits) S512x1024 .bf16)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_flash_prompt i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, _, fun (xa2 : Buf (Elt Bits) ((c : Thread nD τ).loc cc0_scratch2)) K => by
    unfold owns
    rw [cc0_flash_prompt_eq_skeleton]; unfold cc0_flash_prompt_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

theorem cover0_C_3 (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Bits .i32)) (T1 : (S136.Idx → Elt Bits .i32))
     (x0 : (S1024x1024.Idx → Elt Bits .bf16)) (x1 : (S1024x1024.Idx → Elt Bits .bf16)) (x2 : (S640x1024.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (word1 i T1) 0#32)) 0#32) = 1#1)) (hc1 : ¬((Scalar.cmpi .ne (Scalar.extui (Scalar.cmpi .slt (word1 i T1) (word0 i T0))) 0#32) = 1#1)) (k0_h3 : k0_cond3 (word0 i T0) (word1 i T1) = 1#1) (y : S512x1024.Idx) :
    ∃ pc ∈ (kernelRun0_C c i arg4 harg4 arg5 harg5 arg6 harg6 arg7 harg7 T0 T1 x0 x1 x2 xa0 xa1 hc0 hc1 k0_h3).1, y ∈ pc.1.set :=
  View.cover_of_tiledL (kernelRun0_C c i arg4 harg4 arg5 harg5 arg6 harg6 arg7 harg7 T0 T1 x0 x1 x2 xa0 xa1 hc0 hc1 k0_h3).1 S64x1024.size (by sl_kernel_rfl) y

def out0_C_3 (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Bits .i32)) (T1 : (S136.Idx → Elt Bits .i32))
     (x0 : (S1024x1024.Idx → Elt Bits .bf16)) (x1 : (S1024x1024.Idx → Elt Bits .bf16)) (x2 : (S640x1024.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (word1 i T1) 0#32)) 0#32) = 1#1)) (hc1 : ¬((Scalar.cmpi .ne (Scalar.extui (Scalar.cmpi .slt (word1 i T1) (word0 i T0))) 0#32) = 1#1)) (k0_h3 : k0_cond3 (word0 i T0) (word1 i T1) = 1#1) : (S512x1024.Idx → Elt Bits .bf16) :=
  VO0_3.read (Elt Bits) (VO0_3.writes (Elt Bits) VO0_3.junk (kernelRun0_C c i arg4 harg4 arg5 harg5 arg6 harg6 arg7 harg7 T0 T1 x0 x1 x2 xa0 xa1 hc0 hc1 k0_h3).1)

set_option backward.proofsInPublic true in
set_option maxHeartbeats 8000000 in
noncomputable def kernelRun0_D (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Bits .i32)) (T1 : (S136.Idx → Elt Bits .i32))
     (x0 : (S1024x1024.Idx → Elt Bits .bf16)) (x1 : (S1024x1024.Idx → Elt Bits .bf16)) (x2 : (S640x1024.Idx → Elt Bits .bf16)) (xa0 : Buf (Elt Bits) ((c : Thread nD τ).loc cc0_scratch0)) (xa1 : Buf (Elt Bits) ((c : Thread nD τ).loc cc0_scratch1)) (hc0 : ¬((Scalar.cmpi .ne (Scalar.extui (Scalar.cmpi .eq (word1 i T1) 0#32)) 0#32) = 1#1)) (hc1 : (Scalar.cmpi .ne (Scalar.extui (Scalar.cmpi .slt (word1 i T1) (word0 i T0))) 0#32) = 1#1) (k0_h3 : ¬(k0_cond3 (word0 i T0) (word1 i T1) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S512x1024.Idx → Elt Bits .bf16)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_flash_prompt i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, fun (y3 : (S512x1024.Idx → Elt Bits .bf16)) (xa2 : Buf (Elt Bits) ((c : Thread nD τ).loc cc0_scratch2)) K => by
    unfold owns
    rw [cc0_flash_prompt_eq_skeleton]; unfold cc0_flash_prompt_skel
    iintro ⟨H0, H1, H2, HT0, HT1, ⟨%f3, %hf3, HO3⟩, HS0, HS1, HS2, Hk⟩
    obtain rfl := harg7.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

end Cert.Flash.Att

end
-- ==== Proof.Flash.Cfg.lean ====
/-
The pipeline at its tables: a grid point's coordinates, its staging buffers, its blocks, and the two decisions that tell its control paths apart.
-/
module

public import proofs.«01_k».proof.Proof.Flash.Ok

@[expose] public section

set_option maxRecDepth 16384
set_option Elab.async false

noncomputable section

namespace Cert.Flash.Att

open Cert.Flash Cert.Flash.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

def adm : (pcfg0 (F := Bits)).Adm := ⟨pfN, ok_pfN⟩
abbrev cfgA : Pipeline.Cfg sig Λ₀ := cfg0 (F := Bits) adm
abbrev pcs : Fin 1 → Pipeline.Cfg sig Λ₀ := Pipeline.pin (pcfgs (F := Bits)) fun _ => adm

variable (m : (ℓ : Loc nD τ sig) → Buf (Elt Bits) ℓ) (ρ : Dev nD → PrngReg)

abbrev crd (t : Fin cfgA.N) : cfgA.grid.Coords := cfgA.grid.coords t

abbrev ms0_0 (t : Fin cfgA.N) : Memref sig .tc .vmem S1024x1024 .bf16 := spec0_0.stage (cfgA.slots t (0 : Fin 4))
abbrev hs0_0 (t : Fin cfgA.N) : (ms0_0 t).IsWhole := hstage0_0 ((cfgA.slots t (0 : Fin 4)).cast nbuf0_0)
abbrev ms0_1 (t : Fin cfgA.N) : Memref sig .tc .vmem S1024x1024 .bf16 := spec0_1.stage (cfgA.slots t (1 : Fin 4))
abbrev hs0_1 (t : Fin cfgA.N) : (ms0_1 t).IsWhole := hstage0_1 ((cfgA.slots t (1 : Fin 4)).cast nbuf0_1)
abbrev ms0_2 (t : Fin cfgA.N) : Memref sig .tc .vmem S640x1024 .bf16 := spec0_2.stage (cfgA.slots t (2 : Fin 4))
abbrev hs0_2 (t : Fin cfgA.N) : (ms0_2 t).IsWhole := hstage0_2 ((cfgA.slots t (2 : Fin 4)).cast nbuf0_2)
abbrev ms0_3 (t : Fin cfgA.N) : Memref sig .tc .vmem S512x1024 .bf16 := spec0_3.stage (cfgA.slots t (3 : Fin 4))
abbrev hs0_3 (t : Fin cfgA.N) : (ms0_3 t).IsWhole := hstage0_3 ((cfgA.slots t (3 : Fin 4)).cast nbuf0_3)

def iblk (c : Dev nD) (w : Fin cfgA.W) (t : Fin cfgA.N) : ((cfgA.win w).xblock (crd t)).Idx → Elt Bits (cfgA.win w).elt :=
  ((cfgA.win w).blk t).view.read (Elt Bits) ((s₀ m ρ).mem ((cfgA.win w).arr.view.loc (c : Thread nD τ)))

abbrev P0_0 (t : Fin cfgA.N) : Prop := (Scalar.cmpi .ne (Scalar.extui (Scalar.cmpi .eq (word1 (crd t) pinT_1) 0#32)) 0#32) = 1#1
abbrev P0_1 (t : Fin cfgA.N) : Prop := (Scalar.cmpi .ne (Scalar.extui (Scalar.cmpi .slt (word1 (crd t) pinT_1) (word0 (crd t) pinT_0))) 0#32) = 1#1

def sfresh0_0 : ℕ → Bool
  | 0 => true
  | n + 1 => if h : n < cfgA.N then (if P0_0 ⟨n, h⟩ then (if P0_1 ⟨n, h⟩ then false else false) else (if P0_1 ⟨n, h⟩ then sfresh0_0 n else sfresh0_0 n)) else true

def sfirst0_0 : ℕ := 0
def sfrTab0_0 : ℕ → Bool := fun n => decide (n ≤ sfirst0_0)

def sfresh0_1 : ℕ → Bool
  | 0 => true
  | n + 1 => if h : n < cfgA.N then (if P0_0 ⟨n, h⟩ then (if P0_1 ⟨n, h⟩ then false else false) else (if P0_1 ⟨n, h⟩ then sfresh0_1 n else sfresh0_1 n)) else true

def sfirst0_1 : ℕ := 0
def sfrTab0_1 : ℕ → Bool := fun n => decide (n ≤ sfirst0_1)

def sfresh0_2 : ℕ → Bool
  | 0 => true
  | n + 1 => if h : n < cfgA.N then (if P0_0 ⟨n, h⟩ then (if P0_1 ⟨n, h⟩ then false else false) else (if P0_1 ⟨n, h⟩ then false else false)) else true

def sfirst0_2 : ℕ := 0
def sfrTab0_2 : ℕ → Bool := fun n => decide (n ≤ sfirst0_2)

def frMask0_3 : ℕ := 0xffffffffffffffffffffffffffffffffff
def frTab0_3 : ℕ → Bool
  | 0 => true
  | n + 1 => frMask0_3.testBit n

end Cert.Flash.Att

end
-- ==== Proof.Flash.Run.lean ====
/-
The launch: the host writes the two tables, then the kernel runs over its grid.
-/
module

public import proofs.«01_k».proof.Proof.Flash.Body

@[expose] public section

set_option maxRecDepth 16384
set_option Elab.async false

noncomputable section

namespace Cert.Flash.Att

open Cert.Flash Cert.Flash.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- The two tables are the only buffers that the host writes before the kernel. -/
theorem not_written (b : Ref sig .tc) (hb : b ≠ main_c ∧ b ≠ main_c_0) :
    ∀ op ∈ (hostOps0 (F := Bits)), Proc.devRef .tc b ∉ op.writes := by
  obtain ⟨h0, h1⟩ := hb
  intro op hop
  simp only [List.mem_cons, List.mem_nil_iff, or_false] at hop
  rcases hop with rfl | rfl <;>
    simp only [StableHlo.nullary_writes, Finset.mem_singleton] <;>
    exact StableHlo.devRef_ne_of_ne ‹_›

/-- Core `c`'s buffers when the kernel starts: the two tables have been written. -/
abbrev V (c : Dev nD) (b : Ref sig .tc) : Buf (Elt Bits) ((c : Thread nD τ).loc b) :=
  StableHlo.after hostOps0 (fun b => m (c, b)) b

theorem V_keep (c : Dev nD) (b : Ref sig .tc) (hb : b ≠ main_c ∧ b ≠ main_c_0) : V m c b = m ((c : Thread nD τ).loc b) :=
  StableHlo.after_of_forall_not_mem (b := Proc.devRef .tc b) hostOps0 _ (not_written b hb)

/-- The arrays that the windows move are none of the two tables. -/
theorem A_eq (c : Dev nD) (w : Fin cfgA.W) : (dats m ρ 0 c).A w = V m c (Pipeline.arrRef spec0 w) := by
  have h : ∀ w : Fin 4, Pipeline.arrRef spec0 w ≠ main_c ∧ Pipeline.arrRef spec0 w ≠ main_c_0 := by decide
  rw [V_keep m c _ (h w)]
  rfl

theorem share_eq (c : Dev nD) (w : Fin cfgA.W) : (dats m ρ 0 c).share w = fullShare := by unfold Dat.share; split <;> rfl

/-- The tables hold, when the kernel starts, the words that the proof was made at. -/
theorem V_pre (c : Dev nD) (j : Fin 2) : V m c (pre0.ref j) = adm.1 j := by
  fin_cases j
  · rfl
  · rfl

/-- The body's halves of the two tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables, the scratch buffers and the random generator's register. -/
theorem phi0_intro (c : Dev nD) :
    iprop(Pipeline.ΦA spec0 c ∗ Pipeline.ΦT pre0 adm.1 c) ⊢ (dats m ρ 0 c).Φ 0 := by
  unfold Pipeline.ΦA Pipeline.ΦT
  rw [prefHeld_eq, scopedRest0_eq, show (dats m ρ 0 c).Φ 0 = Phi m ρ c 0 from rfl]
  unfold Phi
  iintro ⟨⟨⟨⟨%a0, HS0⟩, ⟨%a1, HS1⟩, ⟨%a2, HS2⟩⟩, HR⟩, ⟨HT0, HT1⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HS2]
  · iexists a2; isplitr; swap
    · iexact HS2
    · ipureintro; intro h; exact absurd (h.symm.trans (show sfresh0_2 0 = true from rfl)) Bool.false_ne_true
  isplitl [HT0]; · iexact HT0
  isplitl [HT1]; · iexact HT1
  iexact HR

/-- After the last point the scratch buffers and the register are given back. -/
theorem phiN_exit (c : Dev nD) : (dats m ρ 0 c).Φ (Fin.last cfgA.N) ⊢ Pipeline.ΦA spec0 c := by
  unfold Pipeline.ΦA
  rw [scopedRest0_eq, show (dats m ρ 0 c).Φ (Fin.last cfgA.N) = Phi m ρ c (Fin.last _) from rfl]
  unfold Phi
  iintro ⟨⟨%a0, -, HS0⟩, ⟨%a1, -, HS1⟩, ⟨%a2, -, HS2⟩, -, -, HR⟩
  isplitr [HR]
  · isplitl [HS0]
    · iexists a0; iexact HS0
    isplitl [HS1]
    · iexists a1; iexact HS1
    iexists a2; iexact HS2
  iexact HR

set_option backward.isDefEq.respectTransparency.types false in
set_option maxHeartbeats 4000000 in
/-- THE RUN: every fair execution ends, each array holds what the proof data say and every semaphore reads zero. -/
theorem run_main : θ_run (defs (F := Bits)) (onTc (τ := τ) (main (F := Bits))) (s₀ m ρ)
    (fun r => (∀ c : Dev nD, ∀ w : Fin cfgA.W, r.2.mem ((cfgA.win w).arr.view.loc (c : Thread nD τ)) = (dats m ρ 0 c).arrAt w cfgA.N)
      ∧ r.2.sem = fun _ => 0) :=
  Pipeline.θ_run_frameP_track (pcfgs (F := Bits)) (fun _ => adm) (dats m ρ) (0 : Fin 1) launch0 defs₀ Variants.none m ρ main
    (hbody := fun c => (body_obligation m ρ c).loose) (hshare := share_eq m ρ) (howed := fun _ _ => rfl)
    (V := V m)
    (hmain := Pipeline.hmainP_prefix (pcfgs (F := Bits)) 0 defs₀ Variants.none m main hostOps0 hostOps0_sub
      (by simp only [List.forall_cons, List.Forall]; exact ⟨rfl, rfl⟩) main_chain)
    (hA := A_eq m ρ) (hpf := V_pre m) (hin := phi0_intro m ρ) (hout := phiN_exit m ρ)
    (Q' := _) (hQ' := fun r h => ⟨fun c w => (h.1 c).1 w, h.2⟩)

/-- The arguments end as they began, and every semaphore reads zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c (0 : Fin 4)).trans ((dats m ρ 0 c).arrAt_in (0 : Fin 4) rfl _),
      (h.1 c (1 : Fin 4)).trans ((dats m ρ 0 c).arrAt_in (1 : Fin 4) rfl _),
      (h.1 c (2 : Fin 4)).trans ((dats m ρ 0 c).arrAt_in (2 : Fin 4) rfl _)⟩, h.2⟩) (run_main m ρ)

end Cert.Flash.Att

end
-- ==== Proof.FlashIdeal.Pins.lean ====
/-
The two block tables of the flash attention kernel, and the words a grid point reads of them.
-/
module

public import proofs.«01_k».proof.Defs
public import proofs.«01_k».proof.Proof.Gen.FlashIdeal
public import proofs.«01_k».proof.Proof.Gen.FlashIdeal.Launch
public import proofs.«01_k».proof.Proof.Gen.FlashIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

noncomputable section

namespace Cert.FlashIdeal.Att

open Cert.FlashIdeal Cert.FlashIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables and the three scratch buffers as the kernel is handed them, whole. -/
abbrev tbM0_0 : Memref sig .tc .smem S136 .i32 := Memref.whole main_c
abbrev tbM0_1 : Memref sig .tc .smem S136 .i32 := Memref.whole main_c_0
abbrev scM0_0 : Memref sig .tc .vmem S8x8x1024 .f32 := Memref.whole cc0_scratch0
abbrev scM0_1 : Memref sig .tc .vmem S8x80x1024 .f32 := Memref.whole cc0_scratch1
abbrev scM0_2 : Memref sig .tc .vmem S3x1024x1024 .f32 := Memref.whole cc0_scratch2

/-- The word that grid point `i` reads of a table with contents `T`: its block of queries (table 0), its block of keys (table 1). -/
abbrev word0 (i : grid0.Coords) (T : S136.Idx → Elt Ideal .i32) : Elt Ideal .i32 :=
  View.readAt (Elt Ideal) (tbM0_0).view (Rect.unit (s := S136) (k0_off1 i) S1.size (k0_off1_inb i)).toLoadRect T (Shape.Idx.first (numel1_S1.symm ▸ Nat.one_pos))
abbrev word1 (i : grid0.Coords) (T : S136.Idx → Elt Ideal .i32) : Elt Ideal .i32 :=
  View.readAt (Elt Ideal) (tbM0_1).view (Rect.unit (s := S136) (k0_off1 i) S1.size (k0_off1_inb i)).toLoadRect T (Shape.Idx.first (numel1_S1.symm ▸ Nat.one_pos))

/-- The tables' contents: the lower triangle of 16 by 16 blocks, row after row. -/
def pinT_0 : S136.Idx → BitVec 32 := fun x => lit0 (S136.rowMajor x)
def pinT_1 : S136.Idx → BitVec 32 := fun x => lit1 (S136.rowMajor x)

set_option backward.proofsInPublic true in
/-- Both tables, as the pipeline's windows read them. -/
def pfN : pre0.Contents (Elt Ideal) := fun | ⟨0, _⟩ => pinT_0 | ⟨1, _⟩ => pinT_1 | ⟨_ + 2, h⟩ => absurd h (by simp)

end Cert.FlashIdeal.Att

end
-- ==== Proof.FlashIdeal.Runs.lean ====
/-
The body of the kernel, run once per control path.
-/
module

public import proofs.«01_k».proof.Proof.FlashIdeal.Pins

@[expose] public section

set_option maxRecDepth 16384
set_option Elab.async false

noncomputable section

namespace Cert.FlashIdeal.Att

open Cert.FlashIdeal Cert.FlashIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev VO0_3 : View sig .tc .vmem S512x1024 .bf16 := (Memref.whole cc0_stg3_0 : Memref sig .tc .vmem S512x1024 .bf16).view

set_option backward.proofsInPublic true in
set_option maxHeartbeats 8000000 in
noncomputable def kernelRun0_A (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Ideal .i32)) (T1 : (S136.Idx → Elt Ideal .i32))
     (x0 : (S1024x1024.Idx → Elt Ideal .bf16)) (x1 : (S1024x1024.Idx → Elt Ideal .bf16)) (x2 : (S640x1024.Idx → Elt Ideal .bf16)) (hc0 : (Scalar.cmpi .ne (Scalar.extui (Scalar.cmpi .eq (word1 i T1) 0#32)) 0#32) = 1#1) (hc1 : ¬((Scalar.cmpi .ne (Scalar.extui (Scalar.cmpi .slt (word1 i T1) (word0 i T0))) 0#32) = 1#1)) (k0_h3 : k0_cond3 (word0 i T0) (word1 i T1) = 1#1) :
    Σ' (out0 : List (View.Piece (Elt Ideal) S512x1024 .bf16)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_flash_prompt i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_flash_prompt_eq_skeleton]; unfold cc0_flash_prompt_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

theorem cover0_A_3 (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Ideal .i32)) (T1 : (S136.Idx → Elt Ideal .i32))
     (x0 : (S1024x1024.Idx → Elt Ideal .bf16)) (x1 : (S1024x1024.Idx → Elt Ideal .bf16)) (x2 : (S640x1024.Idx → Elt Ideal .bf16)) (hc0 : (Scalar.cmpi .ne (Scalar.extui (Scalar.cmpi .eq (word1 i T1) 0#32)) 0#32) = 1#1) (hc1 : ¬((Scalar.cmpi .ne (Scalar.extui (Scalar.cmpi .slt (word1 i T1) (word0 i T0))) 0#32) = 1#1)) (k0_h3 : k0_cond3 (word0 i T0) (word1 i T1) = 1#1) (y : S512x1024.Idx) :
    ∃ pc ∈ (kernelRun0_A c i arg4 harg4 arg5 harg5 arg6 harg6 arg7 harg7 T0 T1 x0 x1 x2 hc0 hc1 k0_h3).1, y ∈ pc.1.set :=
  View.cover_of_tiledL (kernelRun0_A c i arg4 harg4 arg5 harg5 arg6 harg6 arg7 harg7 T0 T1 x0 x1 x2 hc0 hc1 k0_h3).1 S64x1024.size (by sl_kernel_rfl) y

def out0_A_3 (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Ideal .i32)) (T1 : (S136.Idx → Elt Ideal .i32))
     (x0 : (S1024x1024.Idx → Elt Ideal .bf16)) (x1 : (S1024x1024.Idx → Elt Ideal .bf16)) (x2 : (S640x1024.Idx → Elt Ideal .bf16)) (hc0 : (Scalar.cmpi .ne (Scalar.extui (Scalar.cmpi .eq (word1 i T1) 0#32)) 0#32) = 1#1) (hc1 : ¬((Scalar.cmpi .ne (Scalar.extui (Scalar.cmpi .slt (word1 i T1) (word0 i T0))) 0#32) = 1#1)) (k0_h3 : k0_cond3 (word0 i T0) (word1 i T1) = 1#1) : (S512x1024.Idx → Elt Ideal .bf16) :=
  VO0_3.read (Elt Ideal) (VO0_3.writes (Elt Ideal) VO0_3.junk (kernelRun0_A c i arg4 harg4 arg5 harg5 arg6 harg6 arg7 harg7 T0 T1 x0 x1 x2 hc0 hc1 k0_h3).1)

set_option backward.proofsInPublic true in
set_option maxHeartbeats 8000000 in
noncomputable def kernelRun0_B (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Ideal .i32)) (T1 : (S136.Idx → Elt Ideal .i32))
     (x0 : (S1024x1024.Idx → Elt Ideal .bf16)) (x1 : (S1024x1024.Idx → Elt Ideal .bf16)) (x2 : (S640x1024.Idx → Elt Ideal .bf16)) (hc0 : (Scalar.cmpi .ne (Scalar.extui (Scalar.cmpi .eq (word1 i T1) 0#32)) 0#32) = 1#1) (hc1 : (Scalar.cmpi .ne (Scalar.extui (Scalar.cmpi .slt (word1 i T1) (word0 i T0))) 0#32) = 1#1) (k0_h3 : ¬(k0_cond3 (word0 i T0) (word1 i T1) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S512x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_flash_prompt i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, fun (y3 : (S512x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_flash_prompt_eq_skeleton]; unfold cc0_flash_prompt_skel
    iintro ⟨H0, H1, H2, HT0, HT1, ⟨%f3, %hf3, HO3⟩, HS0, HS1, HS2, Hk⟩
    obtain rfl := harg7.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

set_option backward.proofsInPublic true in
set_option maxHeartbeats 8000000 in
noncomputable def kernelRun0_C (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Ideal .i32)) (T1 : (S136.Idx → Elt Ideal .i32))
     (x0 : (S1024x1024.Idx → Elt Ideal .bf16)) (x1 : (S1024x1024.Idx → Elt Ideal .bf16)) (x2 : (S640x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (word1 i T1) 0#32)) 0#32) = 1#1)) (hc1 : ¬((Scalar.cmpi .ne (Scalar.extui (Scalar.cmpi .slt (word1 i T1) (word0 i T0))) 0#32) = 1#1)) (k0_h3 : k0_cond3 (word0 i T0) (word1 i T1) = 1#1) :
    Σ' (out0 : List (View.Piece (Elt Ideal) S512x1024 .bf16)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_flash_prompt i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, _, fun (xa2 : Buf (Elt Ideal) ((c : Thread nD τ).loc cc0_scratch2)) K => by
    unfold owns
    rw [cc0_flash_prompt_eq_skeleton]; unfold cc0_flash_prompt_skel
    iintro ⟨H0, H1, H2, HT0, HT1, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

theorem cover0_C_3 (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Ideal .i32)) (T1 : (S136.Idx → Elt Ideal .i32))
     (x0 : (S1024x1024.Idx → Elt Ideal .bf16)) (x1 : (S1024x1024.Idx → Elt Ideal .bf16)) (x2 : (S640x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (word1 i T1) 0#32)) 0#32) = 1#1)) (hc1 : ¬((Scalar.cmpi .ne (Scalar.extui (Scalar.cmpi .slt (word1 i T1) (word0 i T0))) 0#32) = 1#1)) (k0_h3 : k0_cond3 (word0 i T0) (word1 i T1) = 1#1) (y : S512x1024.Idx) :
    ∃ pc ∈ (kernelRun0_C c i arg4 harg4 arg5 harg5 arg6 harg6 arg7 harg7 T0 T1 x0 x1 x2 xa0 xa1 hc0 hc1 k0_h3).1, y ∈ pc.1.set :=
  View.cover_of_tiledL (kernelRun0_C c i arg4 harg4 arg5 harg5 arg6 harg6 arg7 harg7 T0 T1 x0 x1 x2 xa0 xa1 hc0 hc1 k0_h3).1 S64x1024.size (by sl_kernel_rfl) y

def out0_C_3 (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Ideal .i32)) (T1 : (S136.Idx → Elt Ideal .i32))
     (x0 : (S1024x1024.Idx → Elt Ideal .bf16)) (x1 : (S1024x1024.Idx → Elt Ideal .bf16)) (x2 : (S640x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (word1 i T1) 0#32)) 0#32) = 1#1)) (hc1 : ¬((Scalar.cmpi .ne (Scalar.extui (Scalar.cmpi .slt (word1 i T1) (word0 i T0))) 0#32) = 1#1)) (k0_h3 : k0_cond3 (word0 i T0) (word1 i T1) = 1#1) : (S512x1024.Idx → Elt Ideal .bf16) :=
  VO0_3.read (Elt Ideal) (VO0_3.writes (Elt Ideal) VO0_3.junk (kernelRun0_C c i arg4 harg4 arg5 harg5 arg6 harg6 arg7 harg7 T0 T1 x0 x1 x2 xa0 xa1 hc0 hc1 k0_h3).1)

set_option backward.proofsInPublic true in
set_option maxHeartbeats 8000000 in
noncomputable def kernelRun0_D (c : Dev nD) (i : grid0.Coords) (arg4 : Memref sig .tc .vmem S1024x1024 .bf16) (harg4 : arg4.IsWhole) (arg5 : Memref sig .tc .vmem S1024x1024 .bf16) (harg5 : arg5.IsWhole) (arg6 : Memref sig .tc .vmem S640x1024 .bf16) (harg6 : arg6.IsWhole) (arg7 : Memref sig .tc .vmem S512x1024 .bf16) (harg7 : arg7.IsWhole) (T0 : (S136.Idx → Elt Ideal .i32)) (T1 : (S136.Idx → Elt Ideal .i32))
     (x0 : (S1024x1024.Idx → Elt Ideal .bf16)) (x1 : (S1024x1024.Idx → Elt Ideal .bf16)) (x2 : (S640x1024.Idx → Elt Ideal .bf16)) (xa0 : Buf (Elt Ideal) ((c : Thread nD τ).loc cc0_scratch0)) (xa1 : Buf (Elt Ideal) ((c : Thread nD τ).loc cc0_scratch1)) (hc0 : ¬((Scalar.cmpi .ne (Scalar.extui (Scalar.cmpi .eq (word1 i T1) 0#32)) 0#32) = 1#1)) (hc1 : (Scalar.cmpi .ne (Scalar.extui (Scalar.cmpi .slt (word1 i T1) (word0 i T0))) 0#32) = 1#1) (k0_h3 : ¬(k0_cond3 (word0 i T0) (word1 i T1) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S512x1024.Idx → Elt Ideal .bf16)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_flash_prompt i tbM0_0 (Memref.isWhole_whole _) tbM0_1 (Memref.isWhole_whole _) arg4 harg4 arg5 harg5 arg6 harg6 arg7 harg7 scM0_0 (Memref.isWhole_whole _) scM0_1 (Memref.isWhole_whole _) scM0_2 (Memref.isWhole_whole _)) K } :=
  ⟨_, _, _, fun (y3 : (S512x1024.Idx → Elt Ideal .bf16)) (xa2 : Buf (Elt Ideal) ((c : Thread nD τ).loc cc0_scratch2)) K => by
    unfold owns
    rw [cc0_flash_prompt_eq_skeleton]; unfold cc0_flash_prompt_skel
    iintro ⟨H0, H1, H2, HT0, HT1, ⟨%f3, %hf3, HO3⟩, HS0, HS1, HS2, Hk⟩
    obtain rfl := harg7.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    isplitl [HS1]; · iexact HS1
    iexact HS2⟩

end Cert.FlashIdeal.Att

end
-- ==== Proof.FlashIdeal.Ok.lean ====
/-
Every block that a table names lies inside its array.
-/
module

public import proofs.«01_k».proof.Proof.FlashIdeal.Pins

@[expose] public section

set_option maxRecDepth 16384
set_option Elab.async false

noncomputable section

namespace Cert.FlashIdeal.Att

open Cert.FlashIdeal Cert.FlashIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_w0_inb : ∀ i : grid0.Coords, ∀ a, (cc0_transform_0 k0_off1_inb numel1_S1 (pfN ) i a + 1) * S1024x1024.size a ≤ S16384x1024.size a := by decide +kernel
theorem ok_w0 : (∀ i : grid0.Coords, ∃ h : (∀ a, (cc0_transform_0 k0_off1_inb numel1_S1 (pfN ) i a + 1) * S1024x1024.size a ≤ S16384x1024.size a), EltTy.bits .bf16 = 32 ∨ (Rect.block (s := S16384x1024) S1024x1024.size (cc0_transform_0 k0_off1_inb numel1_S1 (pfN ) i) h).WholeWords (EltTy.packing .bf16)) := fun i => ⟨ok_w0_inb i, .inr (Affine.block_words_dvd (s := S16384x1024) (p := EltTy.packing .bf16) (by decide) (by decide))⟩
theorem ok_w1_inb : ∀ i : grid0.Coords, ∀ a, (cc0_transform_1 k0_off1_inb numel1_S1 (pfN ) i a + 1) * S1024x1024.size a ≤ S16384x1024.size a := by decide +kernel
theorem ok_w1 : (∀ i : grid0.Coords, ∃ h : (∀ a, (cc0_transform_1 k0_off1_inb numel1_S1 (pfN ) i a + 1) * S1024x1024.size a ≤ S16384x1024.size a), EltTy.bits .bf16 = 32 ∨ (Rect.block (s := S16384x1024) S1024x1024.size (cc0_transform_1 k0_off1_inb numel1_S1 (pfN ) i) h).WholeWords (EltTy.packing .bf16)) := fun i => ⟨ok_w1_inb i, .inr (Affine.block_words_dvd (s := S16384x1024) (p := EltTy.packing .bf16) (by decide) (by decide))⟩
theorem ok_w2_inb : ∀ i : grid0.Coords, ∀ a, (cc0_transform_2 k0_off1_inb numel1_S1 (pfN ) i a + 1) * S640x1024.size a ≤ S640x16384.size a := by decide +kernel
theorem ok_w2 : (∀ i : grid0.Coords, ∃ h : (∀ a, (cc0_transform_2 k0_off1_inb numel1_S1 (pfN ) i a + 1) * S640x1024.size a ≤ S640x16384.size a), EltTy.bits .bf16 = 32 ∨ (Rect.block (s := S640x16384) S640x1024.size (cc0_transform_2 k0_off1_inb numel1_S1 (pfN ) i) h).WholeWords (EltTy.packing .bf16)) := fun i => ⟨ok_w2_inb i, .inr (Affine.block_words_dvd (s := S640x16384) (p := EltTy.packing .bf16) (by decide) (by decide))⟩
theorem ok_w3_inb : ∀ i : grid0.Coords, ∀ a, (cc0_transform_3 k0_off1_inb numel1_S1 (pfN ) i a + 1) * S512x1024.size a ≤ S512x16384.size a := by decide +kernel
theorem ok_w3 : (∀ i : grid0.Coords, ∃ h : (∀ a, (cc0_transform_3 k0_off1_inb numel1_S1 (pfN ) i a + 1) * S512x1024.size a ≤ S512x16384.size a), EltTy.bits .bf16 = 32 ∨ (Rect.block (s := S512x16384) S512x1024.size (cc0_transform_3 k0_off1_inb numel1_S1 (pfN ) i) h).WholeWords (EltTy.packing .bf16)) := fun i => ⟨ok_w3_inb i, .inr (Affine.block_words_dvd (s := S512x16384) (p := EltTy.packing .bf16) (by decide) (by decide))⟩
theorem ok_pfN : ok0 (F := Ideal) (pfN ) := ⟨ok_w0, ok_w1, ok_w2, ok_w3⟩

end Cert.FlashIdeal.Att

end
-- ==== Proof.FlashIdeal.Cfg.lean ====
/-
The pipeline at its tables: a grid point's coordinates, its staging buffers, its blocks, and the two decisions that tell its control paths apart.
-/
module

public import proofs.«01_k».proof.Proof.FlashIdeal.Ok

@[expose] public section

set_option maxRecDepth 16384
set_option Elab.async false

noncomputable section

namespace Cert.FlashIdeal.Att

open Cert.FlashIdeal Cert.FlashIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

def adm : (pcfg0 (F := Ideal)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm

variable (m : (ℓ : Loc nD τ sig) → Buf (Elt Ideal) ℓ) (ρ : Dev nD → PrngReg)

abbrev crd (t : Fin cfgA.N) : cfgA.grid.Coords := cfgA.grid.coords t

abbrev ms0_0 (t : Fin cfgA.N) : Memref sig .tc .vmem S1024x1024 .bf16 := spec0_0.stage (cfgA.slots t (0 : Fin 4))
abbrev hs0_0 (t : Fin cfgA.N) : (ms0_0 t).IsWhole := hstage0_0 ((cfgA.slots t (0 : Fin 4)).cast nbuf0_0)
abbrev ms0_1 (t : Fin cfgA.N) : Memref sig .tc .vmem S1024x1024 .bf16 := spec0_1.stage (cfgA.slots t (1 : Fin 4))
abbrev hs0_1 (t : Fin cfgA.N) : (ms0_1 t).IsWhole := hstage0_1 ((cfgA.slots t (1 : Fin 4)).cast nbuf0_1)
abbrev ms0_2 (t : Fin cfgA.N) : Memref sig .tc .vmem S640x1024 .bf16 := spec0_2.stage (cfgA.slots t (2 : Fin 4))
abbrev hs0_2 (t : Fin cfgA.N) : (ms0_2 t).IsWhole := hstage0_2 ((cfgA.slots t (2 : Fin 4)).cast nbuf0_2)
abbrev ms0_3 (t : Fin cfgA.N) : Memref sig .tc .vmem S512x1024 .bf16 := spec0_3.stage (cfgA.slots t (3 : Fin 4))
abbrev hs0_3 (t : Fin cfgA.N) : (ms0_3 t).IsWhole := hstage0_3 ((cfgA.slots t (3 : Fin 4)).cast nbuf0_3)

def iblk (c : Dev nD) (w : Fin cfgA.W) (t : Fin cfgA.N) : ((cfgA.win w).xblock (crd t)).Idx → Elt Ideal (cfgA.win w).elt :=
  ((cfgA.win w).blk t).view.read (Elt Ideal) ((s₀ m ρ).mem ((cfgA.win w).arr.view.loc (c : Thread nD τ)))

abbrev P0_0 (t : Fin cfgA.N) : Prop := (Scalar.cmpi .ne (Scalar.extui (Scalar.cmpi .eq (word1 (crd t) pinT_1) 0#32)) 0#32) = 1#1
abbrev P0_1 (t : Fin cfgA.N) : Prop := (Scalar.cmpi .ne (Scalar.extui (Scalar.cmpi .slt (word1 (crd t) pinT_1) (word0 (crd t) pinT_0))) 0#32) = 1#1

def sfresh0_0 : ℕ → Bool
  | 0 => true
  | n + 1 => if h : n < cfgA.N then (if P0_0 ⟨n, h⟩ then (if P0_1 ⟨n, h⟩ then false else false) else (if P0_1 ⟨n, h⟩ then sfresh0_0 n else sfresh0_0 n)) else true

def sfirst0_0 : ℕ := 0
def sfrTab0_0 : ℕ → Bool := fun n => decide (n ≤ sfirst0_0)

def sfresh0_1 : ℕ → Bool
  | 0 => true
  | n + 1 => if h : n < cfgA.N then (if P0_0 ⟨n, h⟩ then (if P0_1 ⟨n, h⟩ then false else false) else (if P0_1 ⟨n, h⟩ then sfresh0_1 n else sfresh0_1 n)) else true

def sfirst0_1 : ℕ := 0
def sfrTab0_1 : ℕ → Bool := fun n => decide (n ≤ sfirst0_1)

def sfresh0_2 : ℕ → Bool
  | 0 => true
  | n + 1 => if h : n < cfgA.N then (if P0_0 ⟨n, h⟩ then (if P0_1 ⟨n, h⟩ then false else false) else (if P0_1 ⟨n, h⟩ then false else false)) else true

def sfirst0_2 : ℕ := 0
def sfrTab0_2 : ℕ → Bool := fun n => decide (n ≤ sfirst0_2)

def frMask0_3 : ℕ := 0xffffffffffffffffffffffffffffffffff
def frTab0_3 : ℕ → Bool
  | 0 => true
  | n + 1 => frMask0_3.testBit n

end Cert.FlashIdeal.Att

end
-- ==== Proof.FlashIdeal.Facts.lean ====
/-
What every grid point must satisfy, as one proposition that can be decided.
-/
module

public import proofs.«01_k».proof.Proof.FlashIdeal.Cfg

@[expose] public section

set_option maxRecDepth 16384
set_option Elab.async false

noncomputable section

namespace Cert.FlashIdeal.Att

open Cert.FlashIdeal Cert.FlashIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

abbrev FactsAt (t : Fin cfgA.N) : Prop :=
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (sfrTab0_2 (t.val + 1) = (if P0_0 t then (if P0_1 t then false else false) else (if P0_1 t then false else false)))
  ∧ (frTab0_3 (t.val + 1) = ((cfgA.win (3 : Fin 4)).flush t || (cfgA.idle (3 : Fin 4) (cfgA.grid.coords t) && frTab0_3 t.val)))
  ∧ (P0_0 t → ¬P0_1 t → ((Scalar.cmpi .ne (Scalar.extui (Scalar.cmpi .eq (word1 (crd t) pinT_1) 0#32)) 0#32) = 1#1) ∧ ((¬((Scalar.cmpi .ne (Scalar.extui (Scalar.cmpi .slt (word1 (crd t) pinT_1) (word0 (crd t) pinT_0))) 0#32) = 1#1)) ∧ ((k0_cond3 (word0 (crd t) pinT_0) (word1 (crd t) pinT_1) = 1#1) ∧ (True))))
  ∧ (P0_0 t → ¬P0_1 t → cfgA.idle (3 : Fin 4) (cfgA.grid.coords t) = false ∧ (cfgA.win (3 : Fin 4)).flush t = true ∧ frTab0_3 t.val = true ∧ sfrTab0_0 t.val = true ∧ sfrTab0_0 (t.val + 1) = false ∧ sfrTab0_1 t.val = true ∧ sfrTab0_1 (t.val + 1) = false ∧ sfrTab0_2 t.val = true ∧ sfrTab0_2 (t.val + 1) = false)
  ∧ (P0_0 t → P0_1 t → ((Scalar.cmpi .ne (Scalar.extui (Scalar.cmpi .eq (word1 (crd t) pinT_1) 0#32)) 0#32) = 1#1) ∧ (((Scalar.cmpi .ne (Scalar.extui (Scalar.cmpi .slt (word1 (crd t) pinT_1) (word0 (crd t) pinT_0))) 0#32) = 1#1) ∧ ((¬(k0_cond3 (word0 (crd t) pinT_0) (word1 (crd t) pinT_1) = 1#1)) ∧ (True))))
  ∧ (P0_0 t → P0_1 t → cfgA.idle (3 : Fin 4) (cfgA.grid.coords t) = true ∧ (cfgA.win (3 : Fin 4)).flush t = false ∧ frTab0_3 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → ¬P0_1 t → (¬((Scalar.cmpi .ne (Scalar.extui (Scalar.cmpi .eq (word1 (crd t) pinT_1) 0#32)) 0#32) = 1#1)) ∧ ((¬((Scalar.cmpi .ne (Scalar.extui (Scalar.cmpi .slt (word1 (crd t) pinT_1) (word0 (crd t) pinT_0))) 0#32) = 1#1)) ∧ ((k0_cond3 (word0 (crd t) pinT_0) (word1 (crd t) pinT_1) = 1#1) ∧ (True))))
  ∧ (¬P0_0 t → ¬P0_1 t → cfgA.idle (3 : Fin 4) (cfgA.grid.coords t) = false ∧ (cfgA.win (3 : Fin 4)).flush t = true ∧ frTab0_3 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → P0_1 t → (¬((Scalar.cmpi .ne (Scalar.extui (Scalar.cmpi .eq (word1 (crd t) pinT_1) 0#32)) 0#32) = 1#1)) ∧ (((Scalar.cmpi .ne (Scalar.extui (Scalar.cmpi .slt (word1 (crd t) pinT_1) (word0 (crd t) pinT_0))) 0#32) = 1#1) ∧ ((¬(k0_cond3 (word0 (crd t) pinT_0) (word1 (crd t) pinT_1) = 1#1)) ∧ (True))))
  ∧ (¬P0_0 t → P0_1 t → cfgA.idle (3 : Fin 4) (cfgA.grid.coords t) = true ∧ (cfgA.win (3 : Fin 4)).flush t = false ∧ frTab0_3 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.FlashIdeal.Att

end
-- ==== Proof.FlashIdeal.Facts0.lean ====
/-
The facts of all 136 grid points, decided in slices.
-/
module

public import proofs.«01_k».proof.Proof.FlashIdeal.Facts

@[expose] public section

set_option maxRecDepth 16384
set_option Elab.async false

noncomputable section

namespace Cert.FlashIdeal.Att

open Cert.FlashIdeal Cert.FlashIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem facts_0 : ∀ t : Fin cfgA.N, 0 ≤ t.val → t.val < 17 → FactsAt t := by decide +kernel
theorem facts_1 : ∀ t : Fin cfgA.N, 17 ≤ t.val → t.val < 34 → FactsAt t := by decide +kernel
theorem facts_2 : ∀ t : Fin cfgA.N, 34 ≤ t.val → t.val < 51 → FactsAt t := by decide +kernel
theorem facts_3 : ∀ t : Fin cfgA.N, 51 ≤ t.val → t.val < 68 → FactsAt t := by decide +kernel
theorem facts_4 : ∀ t : Fin cfgA.N, 68 ≤ t.val → t.val < 85 → FactsAt t := by decide +kernel
theorem facts_5 : ∀ t : Fin cfgA.N, 85 ≤ t.val → t.val < 102 → FactsAt t := by decide +kernel
theorem facts_6 : ∀ t : Fin cfgA.N, 102 ≤ t.val → t.val < 119 → FactsAt t := by decide +kernel
theorem facts_7 : ∀ t : Fin cfgA.N, 119 ≤ t.val → t.val < 136 → FactsAt t := by decide +kernel
theorem allFacts : ∀ t : Fin cfgA.N, FactsAt t := fun t => by
  have h0 : 0 ≤ t.val := Nat.zero_le _
  rcases Nat.lt_or_ge t.val 17 with h1 | h1; · exact facts_0 t h0 h1
  rcases Nat.lt_or_ge t.val 34 with h2 | h2; · exact facts_1 t h1 h2
  rcases Nat.lt_or_ge t.val 51 with h3 | h3; · exact facts_2 t h2 h3
  rcases Nat.lt_or_ge t.val 68 with h4 | h4; · exact facts_3 t h3 h4
  rcases Nat.lt_or_ge t.val 85 with h5 | h5; · exact facts_4 t h4 h5
  rcases Nat.lt_or_ge t.val 102 with h6 | h6; · exact facts_5 t h5 h6
  rcases Nat.lt_or_ge t.val 119 with h7 | h7; · exact facts_6 t h6 h7
  exact facts_7 t h7 t.isLt

end Cert.FlashIdeal.Att

end
-- ==== Proof.FlashIdeal.Body.lean ====
/-
What the scratch buffers and the output hold after every grid point, and the proof that the body keeps it so.
-/
module

public import proofs.«01_k».proof.Proof.FlashIdeal.Runs
public import proofs.«01_k».proof.Proof.FlashIdeal.Facts0
public import Idealize.ShloMosaic.Lib.Pipeline.Quiescent
public import Idealize.ShloMosaic.Lib.Claim
public import Idealize.ShloMosaic.Lib.Pipeline.Regions

@[expose] public section

set_option maxRecDepth 16384
set_option Elab.async false

noncomputable section

namespace Cert.FlashIdeal.Att

open Cert.FlashIdeal Cert.FlashIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (m : (ℓ : Loc nD τ sig) → Buf (Elt Ideal) ℓ) (ρ : Dev nD → PrngReg)

theorem sfrTab0_0_step : ∀ (t : Fin cfgA.N), sfrTab0_0 (t.val + 1) = (if P0_0 t then (if P0_1 t then false else false) else (if P0_1 t then sfrTab0_0 t.val else sfrTab0_0 t.val)) := fun t => (allFacts t).1
theorem sfresh0_0_eq : ∀ n, n ≤ cfgA.N → sfresh0_0 n = sfrTab0_0 n
  | 0, _ => by simp only [sfresh0_0, sfrTab0_0, Nat.zero_le, decide_true]
  | n + 1, h => by simp only [sfresh0_0, dif_pos (show n < cfgA.N from h), sfresh0_0_eq n (Nat.le_of_lt h), sfrTab0_0_step ⟨n, h⟩]
theorem sfreshF0_0 (t : Fin cfgA.N) : sfresh0_0 t.val = sfrTab0_0 t.val := sfresh0_0_eq t.val (Nat.le_of_lt t.isLt)
theorem sfreshS0_0 (t : Fin cfgA.N) : sfresh0_0 (t.val + 1) = sfrTab0_0 (t.val + 1) := sfresh0_0_eq (t.val + 1) t.isLt

theorem sfrTab0_1_step : ∀ (t : Fin cfgA.N), sfrTab0_1 (t.val + 1) = (if P0_0 t then (if P0_1 t then false else false) else (if P0_1 t then sfrTab0_1 t.val else sfrTab0_1 t.val)) := fun t => (allFacts t).2.1
theorem sfresh0_1_eq : ∀ n, n ≤ cfgA.N → sfresh0_1 n = sfrTab0_1 n
  | 0, _ => by simp only [sfresh0_1, sfrTab0_1, Nat.zero_le, decide_true]
  | n + 1, h => by simp only [sfresh0_1, dif_pos (show n < cfgA.N from h), sfresh0_1_eq n (Nat.le_of_lt h), sfrTab0_1_step ⟨n, h⟩]
theorem sfreshF0_1 (t : Fin cfgA.N) : sfresh0_1 t.val = sfrTab0_1 t.val := sfresh0_1_eq t.val (Nat.le_of_lt t.isLt)
theorem sfreshS0_1 (t : Fin cfgA.N) : sfresh0_1 (t.val + 1) = sfrTab0_1 (t.val + 1) := sfresh0_1_eq (t.val + 1) t.isLt

theorem sfrTab0_2_step : ∀ (t : Fin cfgA.N), sfrTab0_2 (t.val + 1) = (if P0_0 t then (if P0_1 t then false else false) else (if P0_1 t then false else false)) := fun t => (allFacts t).2.2.1
theorem sfresh0_2_eq : ∀ n, n ≤ cfgA.N → sfresh0_2 n = sfrTab0_2 n
  | 0, _ => by simp only [sfresh0_2, sfrTab0_2, Nat.zero_le, decide_true]
  | n + 1, h => by simp only [sfresh0_2, dif_pos (show n < cfgA.N from h), sfresh0_2_eq n (Nat.le_of_lt h), sfrTab0_2_step ⟨n, h⟩]
theorem sfreshF0_2 (t : Fin cfgA.N) : sfresh0_2 t.val = sfrTab0_2 t.val := sfresh0_2_eq t.val (Nat.le_of_lt t.isLt)
theorem sfreshS0_2 (t : Fin cfgA.N) : sfresh0_2 (t.val + 1) = sfrTab0_2 (t.val + 1) := sfresh0_2_eq (t.val + 1) t.isLt

theorem frTab0_3_step : ∀ (t : Fin cfgA.N),
    frTab0_3 (t.val + 1) = ((cfgA.win (3 : Fin 4)).flush t || (cfgA.idle (3 : Fin 4) (cfgA.grid.coords t) && frTab0_3 t.val)) := fun t => (allFacts t).2.2.2.1
theorem freshF0_3 (t : Fin cfgA.N) : cfgA.fresh (3 : Fin 4) t.val = frTab0_3 t.val :=
  Pipeline.Cfg.fresh_tab cfgA (3 : Fin 4) (frTab0_3) rfl (frTab0_3_step) t.val (Nat.le_of_lt t.isLt)

theorem hyps0_A : ∀ (t : Fin cfgA.N), P0_0 t → ¬P0_1 t →
    ((Scalar.cmpi .ne (Scalar.extui (Scalar.cmpi .eq (word1 (crd t) pinT_1) 0#32)) 0#32) = 1#1) ∧ ((¬((Scalar.cmpi .ne (Scalar.extui (Scalar.cmpi .slt (word1 (crd t) pinT_1) (word0 (crd t) pinT_0))) 0#32) = 1#1)) ∧ ((k0_cond3 (word0 (crd t) pinT_0) (word1 (crd t) pinT_1) = 1#1) ∧ (True))) := fun t => (allFacts t).2.2.2.2.1

theorem hypsR0_A : ∀ (t : Fin cfgA.N), P0_0 t → ¬P0_1 t →
    ((Scalar.cmpi .ne (Scalar.extui (Scalar.cmpi .eq (word1 (crd t) pinT_1) 0#32)) 0#32) = 1#1) ∧ ((¬((Scalar.cmpi .ne (Scalar.extui (Scalar.cmpi .slt (word1 (crd t) pinT_1) (word0 (crd t) pinT_0))) 0#32) = 1#1)) ∧ ((k0_cond3 (word0 (crd t) pinT_0) (word1 (crd t) pinT_1) = 1#1) ∧ (True))) := hyps0_A

theorem sched0_A : ∀ (t : Fin cfgA.N), P0_0 t → ¬P0_1 t →
    cfgA.idle (3 : Fin 4) (cfgA.grid.coords t) = false ∧ (cfgA.win (3 : Fin 4)).flush t = true ∧ cfgA.fresh (3 : Fin 4) t.val = true ∧ sfresh0_0 t.val = true ∧ sfresh0_0 (t.val + 1) = false ∧ sfresh0_1 t.val = true ∧ sfresh0_1 (t.val + 1) = false ∧ sfresh0_2 t.val = true ∧ sfresh0_2 (t.val + 1) = false := by
  intro t; rw [freshF0_3 t, sfreshF0_0 t, sfreshS0_0 t, sfreshF0_1 t, sfreshS0_1 t, sfreshF0_2 t, sfreshS0_2 t]; exact (fun t => (allFacts t).2.2.2.2.2.1) t

theorem hyps0_B : ∀ (t : Fin cfgA.N), P0_0 t → P0_1 t →
    ((Scalar.cmpi .ne (Scalar.extui (Scalar.cmpi .eq (word1 (crd t) pinT_1) 0#32)) 0#32) = 1#1) ∧ (((Scalar.cmpi .ne (Scalar.extui (Scalar.cmpi .slt (word1 (crd t) pinT_1) (word0 (crd t) pinT_0))) 0#32) = 1#1) ∧ ((¬(k0_cond3 (word0 (crd t) pinT_0) (word1 (crd t) pinT_1) = 1#1)) ∧ (True))) := fun t => (allFacts t).2.2.2.2.2.2.1

theorem hypsR0_B : ∀ (t : Fin cfgA.N), P0_0 t → P0_1 t →
    ((Scalar.cmpi .ne (Scalar.extui (Scalar.cmpi .eq (word1 (crd t) pinT_1) 0#32)) 0#32) = 1#1) ∧ (((Scalar.cmpi .ne (Scalar.extui (Scalar.cmpi .slt (word1 (crd t) pinT_1) (word0 (crd t) pinT_0))) 0#32) = 1#1) ∧ ((¬(k0_cond3 (word0 (crd t) pinT_0) (word1 (crd t) pinT_1) = 1#1)) ∧ (True))) := hyps0_B

theorem sched0_B : ∀ (t : Fin cfgA.N), P0_0 t → P0_1 t →
    cfgA.idle (3 : Fin 4) (cfgA.grid.coords t) = true ∧ (cfgA.win (3 : Fin 4)).flush t = false ∧ cfgA.fresh (3 : Fin 4) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_3 t, sfreshF0_0 t, sfreshS0_0 t, sfreshF0_1 t, sfreshS0_1 t, sfreshF0_2 t, sfreshS0_2 t]; exact (fun t => (allFacts t).2.2.2.2.2.2.2.1) t

theorem hyps0_C : ∀ (t : Fin cfgA.N), ¬P0_0 t → ¬P0_1 t →
    (¬((Scalar.cmpi .ne (Scalar.extui (Scalar.cmpi .eq (word1 (crd t) pinT_1) 0#32)) 0#32) = 1#1)) ∧ ((¬((Scalar.cmpi .ne (Scalar.extui (Scalar.cmpi .slt (word1 (crd t) pinT_1) (word0 (crd t) pinT_0))) 0#32) = 1#1)) ∧ ((k0_cond3 (word0 (crd t) pinT_0) (word1 (crd t) pinT_1) = 1#1) ∧ (True))) := fun t => (allFacts t).2.2.2.2.2.2.2.2.1

theorem hypsR0_C : ∀ (t : Fin cfgA.N), ¬P0_0 t → ¬P0_1 t →
    (¬((Scalar.cmpi .ne (Scalar.extui (Scalar.cmpi .eq (word1 (crd t) pinT_1) 0#32)) 0#32) = 1#1)) ∧ ((¬((Scalar.cmpi .ne (Scalar.extui (Scalar.cmpi .slt (word1 (crd t) pinT_1) (word0 (crd t) pinT_0))) 0#32) = 1#1)) ∧ ((k0_cond3 (word0 (crd t) pinT_0) (word1 (crd t) pinT_1) = 1#1) ∧ (True))) := hyps0_C

theorem sched0_C : ∀ (t : Fin cfgA.N), ¬P0_0 t → ¬P0_1 t →
    cfgA.idle (3 : Fin 4) (cfgA.grid.coords t) = false ∧ (cfgA.win (3 : Fin 4)).flush t = true ∧ cfgA.fresh (3 : Fin 4) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_3 t, sfreshF0_0 t, sfreshS0_0 t, sfreshF0_1 t, sfreshS0_1 t, sfreshF0_2 t, sfreshS0_2 t]; exact (fun t => (allFacts t).2.2.2.2.2.2.2.2.2.1) t

theorem hyps0_D : ∀ (t : Fin cfgA.N), ¬P0_0 t → P0_1 t →
    (¬((Scalar.cmpi .ne (Scalar.extui (Scalar.cmpi .eq (word1 (crd t) pinT_1) 0#32)) 0#32) = 1#1)) ∧ (((Scalar.cmpi .ne (Scalar.extui (Scalar.cmpi .slt (word1 (crd t) pinT_1) (word0 (crd t) pinT_0))) 0#32) = 1#1) ∧ ((¬(k0_cond3 (word0 (crd t) pinT_0) (word1 (crd t) pinT_1) = 1#1)) ∧ (True))) := fun t => (allFacts t).2.2.2.2.2.2.2.2.2.2.1

theorem hypsR0_D : ∀ (t : Fin cfgA.N), ¬P0_0 t → P0_1 t →
    (¬((Scalar.cmpi .ne (Scalar.extui (Scalar.cmpi .eq (word1 (crd t) pinT_1) 0#32)) 0#32) = 1#1)) ∧ (((Scalar.cmpi .ne (Scalar.extui (Scalar.cmpi .slt (word1 (crd t) pinT_1) (word0 (crd t) pinT_0))) 0#32) = 1#1) ∧ ((¬(k0_cond3 (word0 (crd t) pinT_0) (word1 (crd t) pinT_1) = 1#1)) ∧ (True))) := hyps0_D

theorem sched0_D : ∀ (t : Fin cfgA.N), ¬P0_0 t → P0_1 t →
    cfgA.idle (3 : Fin 4) (cfgA.grid.coords t) = true ∧ (cfgA.win (3 : Fin 4)).flush t = false ∧ cfgA.fresh (3 : Fin 4) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_3 t, sfreshF0_0 t, sfreshS0_0 t, sfreshF0_1 t, sfreshS0_1 t, sfreshF0_2 t, sfreshS0_2 t]; exact (fun t => (allFacts t).2.2.2.2.2.2.2.2.2.2.2) t

def step0 (c : Dev nD) (t : Fin cfgA.N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if q0 : P0_0 t then
    if q1 : P0_1 t then
      ((if cfgA.fresh (3 : Fin 4) t.val then default else prev.1), (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).1, (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).2.1, (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).2.2.1)
    else
      (out0_A_3 c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.2.2.1)
  else
    if q1 : P0_1 t then
      ((if cfgA.fresh (3 : Fin 4) t.val then default else prev.1), (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_D t q0 q1).1 (hypsR0_D t q0 q1).2.1 (hypsR0_D t q0 q1).2.2.1).1, (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_D t q0 q1).1 (hypsR0_D t q0 q1).2.1 (hypsR0_D t q0 q1).2.2.1).2.1, (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_D t q0 q1).1 (hypsR0_D t q0 q1).2.1 (hypsR0_D t q0 q1).2.2.1).2.2.1)
    else
      (out0_C_3 c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_C t q0 q1).1 (hypsR0_C t q0 q1).2.1 (hypsR0_C t q0 q1).2.2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_C t q0 q1).1 (hypsR0_C t q0 q1).2.1 (hypsR0_C t q0 q1).2.2.1).2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_C t q0 q1).1 (hypsR0_C t q0 q1).2.1 (hypsR0_C t q0 q1).2.2.1).2.2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_C t q0 q1).1 (hypsR0_C t q0 q1).2.1 (hypsR0_C t q0 q1).2.2.1).2.2.2.1)

def traj0 (c : Dev nD) : (n : ℕ) → n < cfgA.N → (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)
  | 0, h => step0 m ρ c ⟨0, h⟩ (default, default, default, default)
  | n + 1, h => step0 m ρ c ⟨n + 1, h⟩ (traj0 c n (Nat.lt_of_succ_lt h))

def prev0 (c : Dev nD) (t : Fin cfgA.N) : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 m ρ c (t.val - 1) (by omega)

theorem traj0_eq (c : Dev nD) (t : Fin cfgA.N) : traj0 m ρ c t.val t.isLt = step0 m ρ c t (prev0 m ρ c t) := by
  obtain ⟨n, hn⟩ := t
  cases n with
  | zero => rfl
  | succ n => unfold prev0; simp only [Nat.add_one_ne_zero, dif_neg, not_false_eq_true]; rfl

theorem step0_A (c : Dev nD) (t : Fin cfgA.N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 t) (q1 : ¬P0_1 t) :
    step0 m ρ c t prev = (out0_A_3 c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.2.2.1) := by
  unfold step0; simp only [dif_pos q0, dif_neg q1]

theorem step0_B (c : Dev nD) (t : Fin cfgA.N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 t) (q1 : P0_1 t) :
    step0 m ρ c t prev = ((if cfgA.fresh (3 : Fin 4) t.val then default else prev.1), (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).1, (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).2.1, (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).2.2.1) := by
  unfold step0; simp only [dif_pos q0, dif_pos q1]

theorem step0_C (c : Dev nD) (t : Fin cfgA.N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 t) (q1 : ¬P0_1 t) :
    step0 m ρ c t prev = (out0_C_3 c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_C t q0 q1).1 (hypsR0_C t q0 q1).2.1 (hypsR0_C t q0 q1).2.2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_C t q0 q1).1 (hypsR0_C t q0 q1).2.1 (hypsR0_C t q0 q1).2.2.1).2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_C t q0 q1).1 (hypsR0_C t q0 q1).2.1 (hypsR0_C t q0 q1).2.2.1).2.2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_C t q0 q1).1 (hypsR0_C t q0 q1).2.1 (hypsR0_C t q0 q1).2.2.1).2.2.2.1) := by
  unfold step0; simp only [dif_neg q0, dif_neg q1]

theorem step0_D (c : Dev nD) (t : Fin cfgA.N) (prev : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 t) (q1 : P0_1 t) :
    step0 m ρ c t prev = ((if cfgA.fresh (3 : Fin 4) t.val then default else prev.1), (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_D t q0 q1).1 (hypsR0_D t q0 q1).2.1 (hypsR0_D t q0 q1).2.2.1).1, (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_D t q0 q1).1 (hypsR0_D t q0 q1).2.1 (hypsR0_D t q0 q1).2.2.1).2.1, (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2.1 (hypsR0_D t q0 q1).1 (hypsR0_D t q0 q1).2.1 (hypsR0_D t q0 q1).2.2.1).2.2.1) := by
  unfold step0; simp only [dif_neg q0, dif_pos q1]

def prev0T (c : Dev nD) (t : Fin (cfgA.N + 1)) : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 m ρ c (t.val - 1) (by omega)

theorem prev0T_castSucc (c : Dev nD) (t : Fin cfgA.N) : prev0T m ρ c t.castSucc = prev0 m ρ c t := by
  unfold prev0T prev0; simp only [Fin.val_castSucc]
theorem prev0T_succ (c : Dev nD) (t : Fin cfgA.N) : prev0T m ρ c t.succ = traj0 m ρ c t.val t.isLt := by
  unfold prev0T; simp only [Fin.val_succ, Nat.add_one_ne_zero, ↓reduceDIte, Nat.add_one_sub_one]

def Phi (m : (ℓ : Loc nD τ sig) → Buf (Elt Ideal) ℓ) (ρ : Dev nD → PrngReg) (c : Dev nD) (t : Fin (cfgA.N + 1)) : sProp 𝕄 :=
  iprop((∃ a, ⌜sfresh0_0 t.val = false → a = (prev0T m ρ c t).2.1⌝ ∗ (scM0_0.view.loc (c : Thread nD τ) ↦{fullShare} a)) ∗ (∃ a, ⌜sfresh0_1 t.val = false → a = (prev0T m ρ c t).2.2.1⌝ ∗ (scM0_1.view.loc (c : Thread nD τ) ↦{fullShare} a)) ∗ (∃ a, ⌜sfresh0_2 t.val = false → a = (prev0T m ρ c t).2.2.2⌝ ∗ (scM0_2.view.loc (c : Thread nD τ) ↦{fullShare} a)) ∗ (tbM0_0.view.loc (c : Thread nD τ) ↦{fullShare.right} pinT_0) ∗ (tbM0_1.view.loc (c : Thread nD τ) ↦{fullShare.right} pinT_1) ∗ (∃ r, prngReg c r))

def dats (_ : Fin 1) (c : Dev nD) : Dat τ (Elt Ideal) Unit ℕ (UR sig nD τ) ℕ cfgA c where
  A w := (s₀ m ρ).mem ((cfgA.win w).arr.view.loc (c : Thread nD τ))
  after w t := match w with
    | ⟨0, _⟩ => iblk m ρ c (0 : Fin 4) t
    | ⟨1, _⟩ => iblk m ρ c (1 : Fin 4) t
    | ⟨2, _⟩ => iblk m ρ c (2 : Fin 4) t
    | ⟨3, _⟩ => (traj0 m ρ c t.val t.isLt).1
  Φ t := Phi m ρ c t
  q _ := fullShare
  owed _ := 0

theorem after0_0 (c : Dev nD) (t : Fin cfgA.N) : (dats m ρ 0 c).after (0 : Fin 4) t = iblk m ρ c (0 : Fin 4) t := rfl
theorem after0_1 (c : Dev nD) (t : Fin cfgA.N) : (dats m ρ 0 c).after (1 : Fin 4) t = iblk m ρ c (1 : Fin 4) t := rfl
theorem after0_2 (c : Dev nD) (t : Fin cfgA.N) : (dats m ρ 0 c).after (2 : Fin 4) t = iblk m ρ c (2 : Fin 4) t := rfl
theorem after0_3 (c : Dev nD) (t : Fin cfgA.N) : (dats m ρ 0 c).after (3 : Fin 4) t = (traj0 m ρ c t.val t.isLt).1 := rfl

theorem before0_0 (c : Dev nD) (t : Fin cfgA.N) (d) : (dats m ρ 0 c).before (0 : Fin 4) t d = iblk m ρ c (0 : Fin 4) t :=
  ((dats m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin cfgA.N) (d) : (dats m ρ 0 c).before (1 : Fin 4) t d = iblk m ρ c (1 : Fin 4) t :=
  ((dats m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin cfgA.N) (d) : (dats m ρ 0 c).before (2 : Fin 4) t d = iblk m ρ c (2 : Fin 4) t :=
  ((dats m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

theorem hcarry0_3 (c : Dev nD) : ∀ (t : Fin cfgA.N) (ht : t.val ≠ 0), cfgA.idle (3 : Fin 4) (cfgA.grid.coords t) = true → cfgA.fresh (3 : Fin 4) t.val = false →
    (dats m ρ 0 c).after (3 : Fin 4) t = (dats m ρ 0 c).after (3 : Fin 4) ⟨t.val - 1, by omega⟩ := by
  intro t ht hi hf
  rw [after0_3, after0_3, traj0_eq]
  by_cases q0 : P0_0 t
  · by_cases q1 : P0_1 t
    · rw [step0_B m ρ c t _ q0 q1]
      simp only [hf, Bool.false_eq_true, ↓reduceIte]
      unfold prev0; rw [dif_neg ht]
    · obtain ⟨i3, -, -, -, -, -, -, -, -⟩ := sched0_A t q0 q1
      rw [i3] at hi; exact absurd hi (by decide)
  · by_cases q1 : P0_1 t
    · rw [step0_D m ρ c t _ q0 q1]
      simp only [hf, Bool.false_eq_true, ↓reduceIte]
      unfold prev0; rw [dif_neg ht]
    · obtain ⟨i3, -, -, -, -, -, -, -, -⟩ := sched0_C t q0 q1
      rw [i3] at hi; exact absurd hi (by decide)

theorem before0_3 (c : Dev nD) (t : Fin cfgA.N) (d) :
    (dats m ρ 0 c).before (3 : Fin 4) t d = if cfgA.fresh (3 : Fin 4) t.val then d else (prev0 m ρ c t).1 := by
  rw [(dats m ρ 0 c).before_out_traj (3 : Fin 4) rfl (fun _ _ => rfl) (hcarry0_3 m ρ c) t.val t rfl d]
  by_cases hf : cfgA.fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

abbrev bodyAt0 (t : Fin cfgA.N) : Prog (TpuEff nD τ sig (Elt Ideal) Λ₀ .tc) PUnit :=
  cc0_flash_prompt (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (Memref.whole cc0_scratch0) (Memref.isWhole_whole _) (Memref.whole cc0_scratch1) (Memref.isWhole_whole _) (Memref.whole cc0_scratch2) (Memref.isWhole_whole _)

set_option maxHeartbeats 4000000 in
theorem sound_body (c : Dev nD) (t : Fin cfgA.N) :
    iprop((dats m ρ 0 c).Φ t.castSucc ∗ (dats m ρ 0 c).owesAt () t.castSucc
        ∗ (∃ d, owns (c : Thread nD τ) (ms0_0 t) fullShare ((dats m ρ 0 c).before (0 : Fin 4) t d))
        ∗ (∃ d, owns (c : Thread nD τ) (ms0_1 t) fullShare ((dats m ρ 0 c).before (1 : Fin 4) t d))
        ∗ (∃ d, owns (c : Thread nD τ) (ms0_2 t) fullShare ((dats m ρ 0 c).before (2 : Fin 4) t d))
        ∗ (∃ d, owns (c : Thread nD τ) (ms0_3 t) fullShare ((dats m ρ 0 c).before (3 : Fin 4) t d)))
      ⊢ wp frame (wpE (defs₀ (F := Ideal)) Variants.none c none) Set.univ (bodyAt0 t) fun _ =>
          iprop((dats m ρ 0 c).Φ t.succ ∗ (dats m ρ 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m ρ 0 c).before w t d))
                  | true => owns (c : Thread nD τ) ((cfgA.win w).stage (cfgA.slots t w)) fullShare ((dats m ρ 0 c).after w t)
                | false => owns (c : Thread nD τ) ((cfgA.win w).stage (cfgA.slots t w)) fullShare ((dats m ρ 0 c).after w t)) := by
  rw [bigSep_W0]
  by_cases q0 : P0_0 t
  · by_cases q1 : P0_1 t
    · obtain ⟨i3, f3, fr3, sf0, sfn0, sf1, sfn1, sf2, sfn2⟩ := sched0_B t q0 q1
      have F0 := hypsR0_B t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_B m ρ c t _ q0 q1]
      unfold Phi; simp only [prev0T_castSucc, prev0T_succ, traj0_eq, step0_B m ρ c t _ q0 q1, Fin.val_castSucc, Fin.val_succ]
      iintro ⟨⟨⟨%a0, %ha0, HS0⟩, ⟨%a1, %ha1, HS1⟩, ⟨%a2, %ha2, HS2⟩, HT0, HT1, HR⟩, Ho, ⟨%d0, H0⟩, ⟨%d1, H1⟩, ⟨%d2, H2⟩, ⟨%d3, H3⟩⟩
      iapply ((kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) hc0 hc1 k0_h3).2.2.2 _ a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1 HR]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1, sf2, sfn2⟩ := sched0_A t q0 q1
      have F0 := hypsR0_A t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_A m ρ c t _ q0 q1]
      unfold Phi; simp only [prev0T_castSucc, prev0T_succ, traj0_eq, step0_A m ρ c t _ q0 q1, Fin.val_castSucc, Fin.val_succ]
      iintro ⟨⟨⟨%a0, %ha0, HS0⟩, ⟨%a1, %ha1, HS1⟩, ⟨%a2, %ha2, HS2⟩, HT0, HT1, HR⟩, Ho, ⟨%d0, H0⟩, ⟨%d1, H1⟩, ⟨%d2, H2⟩, ⟨%d3, H3⟩⟩
      iapply ((kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) hc0 hc1 k0_h3).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1 HR]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 t
    · obtain ⟨i3, f3, fr3, sf0, sfn0, sf1, sfn1, sf2, sfn2⟩ := sched0_D t q0 q1
      have F0 := hypsR0_D t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_D m ρ c t _ q0 q1]
      unfold Phi; simp only [prev0T_castSucc, prev0T_succ, traj0_eq, step0_D m ρ c t _ q0 q1, Fin.val_castSucc, Fin.val_succ]
      simp only [exists_held sf0, exists_held sf1]
      iintro ⟨⟨HS0, HS1, ⟨%a2, %ha2, HS2⟩, HT0, HT1, HR⟩, Ho, ⟨%d0, H0⟩, ⟨%d1, H1⟩, ⟨%d2, H2⟩, ⟨%d3, H3⟩⟩
      iapply ((kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) _ _ hc0 hc1 k0_h3).2.2.2 _ a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1 HR]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1, sf2, sfn2⟩ := sched0_C t q0 q1
      have F0 := hypsR0_C t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_C m ρ c t _ q0 q1]
      unfold Phi; simp only [prev0T_castSucc, prev0T_succ, traj0_eq, step0_C m ρ c t _ q0 q1, Fin.val_castSucc, Fin.val_succ]
      simp only [exists_held sf0, exists_held sf1]
      iintro ⟨⟨HS0, HS1, ⟨%a2, %ha2, HS2⟩, HT0, HT1, HR⟩, Ho, ⟨%d0, H0⟩, ⟨%d1, H1⟩, ⟨%d2, H2⟩, ⟨%d3, H3⟩⟩
      iapply ((kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) _ _ hc0 hc1 k0_h3).2.2.2.2 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1 HR]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HR
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _)

theorem body_obligation (c : Dev nD) : BodyObligation (dats m ρ 0 c) (defs₀ (F := Ideal)) Variants.none () Set.univ := fun t => by
  rw [bigSep_W0]
  exact sound_body m ρ c t

end Cert.FlashIdeal.Att

end
-- ==== Proof.FlashIdeal.Run.lean ====
/-
The launch: the host writes the two tables, then the kernel runs over its grid.
-/
module

public import proofs.«01_k».proof.Proof.FlashIdeal.Body

@[expose] public section

set_option maxRecDepth 16384
set_option Elab.async false

noncomputable section

namespace Cert.FlashIdeal.Att

open Cert.FlashIdeal Cert.FlashIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The two tables are the only buffers that the host writes before the kernel. -/
theorem not_written (b : Ref sig .tc) (hb : b ≠ main_c ∧ b ≠ main_c_0) :
    ∀ op ∈ (hostOps0 (F := Ideal)), Proc.devRef .tc b ∉ op.writes := by
  obtain ⟨h0, h1⟩ := hb
  intro op hop
  simp only [List.mem_cons, List.mem_nil_iff, or_false] at hop
  rcases hop with rfl | rfl <;>
    simp only [StableHlo.nullary_writes, Finset.mem_singleton] <;>
    exact StableHlo.devRef_ne_of_ne ‹_›

/-- Core `c`'s buffers when the kernel starts: the two tables have been written. -/
abbrev V (c : Dev nD) (b : Ref sig .tc) : Buf (Elt Ideal) ((c : Thread nD τ).loc b) :=
  StableHlo.after hostOps0 (fun b => m (c, b)) b

theorem V_keep (c : Dev nD) (b : Ref sig .tc) (hb : b ≠ main_c ∧ b ≠ main_c_0) : V m c b = m ((c : Thread nD τ).loc b) :=
  StableHlo.after_of_forall_not_mem (b := Proc.devRef .tc b) hostOps0 _ (not_written b hb)

/-- The arrays that the windows move are none of the two tables. -/
theorem A_eq (c : Dev nD) (w : Fin cfgA.W) : (dats m ρ 0 c).A w = V m c (Pipeline.arrRef spec0 w) := by
  have h : ∀ w : Fin 4, Pipeline.arrRef spec0 w ≠ main_c ∧ Pipeline.arrRef spec0 w ≠ main_c_0 := by decide
  rw [V_keep m c _ (h w)]
  rfl

theorem share_eq (c : Dev nD) (w : Fin cfgA.W) : (dats m ρ 0 c).share w = fullShare := by unfold Dat.share; split <;> rfl

/-- The tables hold, when the kernel starts, the words that the proof was made at. -/
theorem V_pre (c : Dev nD) (j : Fin 2) : V m c (pre0.ref j) = adm.1 j := by
  fin_cases j
  · rfl
  · rfl

/-- The body's halves of the two tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables, the scratch buffers and the random generator's register. -/
theorem phi0_intro (c : Dev nD) :
    iprop(Pipeline.ΦA spec0 c ∗ Pipeline.ΦT pre0 adm.1 c) ⊢ (dats m ρ 0 c).Φ 0 := by
  unfold Pipeline.ΦA Pipeline.ΦT
  rw [prefHeld_eq, scopedRest0_eq, show (dats m ρ 0 c).Φ 0 = Phi m ρ c 0 from rfl]
  unfold Phi
  iintro ⟨⟨⟨⟨%a0, HS0⟩, ⟨%a1, HS1⟩, ⟨%a2, HS2⟩⟩, HR⟩, ⟨HT0, HT1⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HS2]
  · iexists a2; isplitr; swap
    · iexact HS2
    · ipureintro; intro h; exact absurd (h.symm.trans (show sfresh0_2 0 = true from rfl)) Bool.false_ne_true
  isplitl [HT0]; · iexact HT0
  isplitl [HT1]; · iexact HT1
  iexact HR

/-- After the last point the scratch buffers and the register are given back. -/
theorem phiN_exit (c : Dev nD) : (dats m ρ 0 c).Φ (Fin.last cfgA.N) ⊢ Pipeline.ΦA spec0 c := by
  unfold Pipeline.ΦA
  rw [scopedRest0_eq, show (dats m ρ 0 c).Φ (Fin.last cfgA.N) = Phi m ρ c (Fin.last _) from rfl]
  unfold Phi
  iintro ⟨⟨%a0, -, HS0⟩, ⟨%a1, -, HS1⟩, ⟨%a2, -, HS2⟩, -, -, HR⟩
  isplitr [HR]
  · isplitl [HS0]
    · iexists a0; iexact HS0
    isplitl [HS1]
    · iexists a1; iexact HS1
    iexists a2; iexact HS2
  iexact HR

set_option backward.isDefEq.respectTransparency.types false in
set_option maxHeartbeats 4000000 in
/-- THE RUN: every fair execution ends, each array holds what the proof data say and every semaphore reads zero. -/
theorem run_main : θ_run (defs (F := Ideal)) (onTc (τ := τ) (main (F := Ideal))) (s₀ m ρ)
    (fun r => (∀ c : Dev nD, ∀ w : Fin cfgA.W, r.2.mem ((cfgA.win w).arr.view.loc (c : Thread nD τ)) = (dats m ρ 0 c).arrAt w cfgA.N)
      ∧ r.2.sem = fun _ => 0) :=
  Pipeline.θ_run_frameP_track (pcfgs (F := Ideal)) (fun _ => adm) (dats m ρ) (0 : Fin 1) launch0 defs₀ Variants.none m ρ main
    (hbody := fun c => (body_obligation m ρ c).loose) (hshare := share_eq m ρ) (howed := fun _ _ => rfl)
    (V := V m)
    (hmain := Pipeline.hmainP_prefix (pcfgs (F := Ideal)) 0 defs₀ Variants.none m main hostOps0 hostOps0_sub
      (by simp only [List.forall_cons, List.Forall]; exact ⟨rfl, rfl⟩) main_chain)
    (hA := A_eq m ρ) (hpf := V_pre m) (hin := phi0_intro m ρ) (hout := phiN_exit m ρ)
    (Q' := _) (hQ' := fun r h => ⟨fun c w => (h.1 c).1 w, h.2⟩)

/-- The arguments end as they began, and every semaphore reads zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c (0 : Fin 4)).trans ((dats m ρ 0 c).arrAt_in (0 : Fin 4) rfl _),
      (h.1 c (1 : Fin 4)).trans ((dats m ρ 0 c).arrAt_in (1 : Fin 4) rfl _),
      (h.1 c (2 : Fin 4)).trans ((dats m ρ 0 c).arrAt_in (2 : Fin 4) rfl _)⟩, h.2⟩) (run_main m ρ)

end Cert.FlashIdeal.Att

end
-- ==== Proof.FlashIdeal.Table.lean ====
/-
The grid: which block of queries and which block of keys each of the 136 points works on.
-/
module

public import proofs.«01_k».proof.Proof.FlashIdeal.Facts

@[expose] public section

set_option maxRecDepth 16384
set_option Elab.async false

noncomputable section

namespace Cert.FlashIdeal.Att

open Cert.FlashIdeal Cert.FlashIdeal.Gen
open Idealize.ShloMosaic
/-- The block of queries of grid point `t`. -/
def qN (t : Fin cfgA.N) : ℕ := BitVec.toNat (word0 (crd t) pinT_0)
/-- The block of keys of grid point `t`. -/
def kN (t : Fin cfgA.N) : ℕ := BitVec.toNat (word1 (crd t) pinT_1)

/-- What the proof uses of grid point `t`: where its blocks lie, what its two conditions say of them, that only a point on
the diagonal writes its block of results back, and that a point inside a row follows the point of the key block before it. -/
abbrev TabAt (t : Fin cfgA.N) : Prop :=
  ((cfgA.win (0 : Fin 4)).index t (0 : Fin 2) = qN t ∧ (cfgA.win (0 : Fin 4)).index t (1 : Fin 2) = 0)
  ∧ ((cfgA.win (1 : Fin 4)).index t (0 : Fin 2) = kN t ∧ (cfgA.win (1 : Fin 4)).index t (1 : Fin 2) = 0)
  ∧ ((cfgA.win (2 : Fin 4)).index t (0 : Fin 2) = 0 ∧ (cfgA.win (2 : Fin 4)).index t (1 : Fin 2) = kN t)
  ∧ ((cfgA.win (3 : Fin 4)).index t (0 : Fin 2) = 0 ∧ (cfgA.win (3 : Fin 4)).index t (1 : Fin 2) = qN t)
  ∧ (P0_0 t ↔ kN t = 0) ∧ (P0_1 t ↔ kN t < qN t) ∧ kN t ≤ qN t ∧ qN t < 16
  ∧ ((cfgA.win (3 : Fin 4)).flush t = true → kN t = qN t)
  ∧ (kN t ≠ 0 → t.val ≠ 0 ∧ ∀ h : t.val - 1 < cfgA.N, qN ⟨t.val - 1, h⟩ = qN t ∧ kN ⟨t.val - 1, h⟩ + 1 = kN t)

theorem tab_0 : ∀ t : Fin cfgA.N, 0 ≤ t.val → t.val < 17 → TabAt t := by decide +kernel
theorem tab_1 : ∀ t : Fin cfgA.N, 17 ≤ t.val → t.val < 34 → TabAt t := by decide +kernel
theorem tab_2 : ∀ t : Fin cfgA.N, 34 ≤ t.val → t.val < 51 → TabAt t := by decide +kernel
theorem tab_3 : ∀ t : Fin cfgA.N, 51 ≤ t.val → t.val < 68 → TabAt t := by decide +kernel
theorem tab_4 : ∀ t : Fin cfgA.N, 68 ≤ t.val → t.val < 85 → TabAt t := by decide +kernel
theorem tab_5 : ∀ t : Fin cfgA.N, 85 ≤ t.val → t.val < 102 → TabAt t := by decide +kernel
theorem tab_6 : ∀ t : Fin cfgA.N, 102 ≤ t.val → t.val < 119 → TabAt t := by decide +kernel
theorem tab_7 : ∀ t : Fin cfgA.N, 119 ≤ t.val → t.val < 136 → TabAt t := by decide +kernel

theorem tab (t : Fin cfgA.N) : TabAt t := by
  have ht : t.val < 136 := t.isLt
  by_cases h0 : t.val < 17; · exact tab_0 t (by omega) h0
  by_cases h1 : t.val < 34; · exact tab_1 t (by omega) h1
  by_cases h2 : t.val < 51; · exact tab_2 t (by omega) h2
  by_cases h3 : t.val < 68; · exact tab_3 t (by omega) h3
  by_cases h4 : t.val < 85; · exact tab_4 t (by omega) h4
  by_cases h5 : t.val < 102; · exact tab_5 t (by omega) h5
  by_cases h6 : t.val < 119; · exact tab_6 t (by omega) h6
  exact tab_7 t (by omega) (by omega)

end Cert.FlashIdeal.Att

end
-- ==== Proof.FlashIdeal.Head.lean ====
/-
What the kernel does for one head at one grid point, as functions of the blocks it loads, and what they are at an index.
-/
module

public import proofs.«01_k».proof.Defs
public import proofs.«01_k».proof.Proof.Gen.FlashIdeal.Skeleton
public import Idealize.ShloMosaic.PureOps.Ideal
public import Idealize.ShloMosaic.Lib.Pointwise
public import Idealize.ShloMosaic.Lib.ValueIdx
public import Idealize.ShloMosaic.Lib.WordCmp

@[expose] public section

set_option maxRecDepth 16384
set_option Elab.async false

noncomputable section

namespace Cert.FlashIdeal.Att

open Cert.FlashIdeal Cert.FlashIdeal.Gen
open Idealize.ShloMosaic

/-- The scores of one block of keys against one block of queries (rows are keys, columns queries). -/
def sN (k q : FVec Ideal S1024x128 .bf16) : FVec Ideal S1x1024x1024 .f32 := k0_pay8 k q

/-- The same on the diagonal block: a key behind its query only, the others at −∞. -/
def sD (k q : FVec Ideal S1024x128 .bf16) : FVec Ideal S1x1024x1024 .f32 := k0_pay58 k q

/-- The new running maximum (the same in all eight rows). -/
def hM (mp : FVec Ideal S1x8x1024 .f32) (s : FVec Ideal S1x1024x1024 .f32) : FVec Ideal S1x8x1024 .f32 := k0_pay18 mp s

/-- The new running weighted sum of the values' rows. -/
def hA (mp : FVec Ideal S1x8x1024 .f32) (s : FVec Ideal S1x1024x1024 .f32) (ap : FVec Ideal S1x80x1024 .f32)
    (v : FVec Ideal S80x1024 .bf16) : FVec Ideal S1x80x1024 .f32 := k0_pay19 mp s s ap v

/-- The result of the head: the first 64 rows over the row of the values' ones. -/
def hO (a : FVec Ideal S1x80x1024 .f32) : FVec Ideal S64x1024 .bf16 := k0_pay5 a

/-- The word of −∞. -/
theorem negInf : Ideal.ofBits .f32 0xFF800000#32 = (⊥ : EReal) := by simp [Ideal.ofBits, Ideal.ieee]

theorem sN_apply (k q : FVec Ideal S1024x128 .bf16) (r c : Fin 1024) :
    sN k q (ix3 0 r c) = ∑ i : Fin 128, k (ix2 r i) * q (ix2 c i) := by
  unfold sN k0_pay8
  pointwise

theorem sD_apply (k q : FVec Ideal S1024x128 .bf16) (r c : Fin 1024) :
    sD k q (ix3 0 r c) = if r ≤ c then ∑ i : Fin 128, k (ix2 r i) * q (ix2 c i) else ⊥ := by
  unfold sD k0_pay58 k0_pay57
  pointwise
  rw [show Ideal.ofBits .f32 4286578688#32 = (⊥ : EReal) from negInf]
  unfold Scalar.select
  have h := WordCmp.cmpi_sle_ofNat_eq_one_iff (w := 32) (a := r.val) (b := c.val) (by have := r.isLt; omega) (by have := c.isLt; omega)
  by_cases hr : r ≤ c
  · rw [if_pos hr]; exact if_pos (h.mpr hr)
  · rw [if_neg hr]; exact if_neg fun e => hr (h.mp e)

theorem hM_apply (mp : FVec Ideal S1x8x1024 .f32) (s : FVec Ideal S1x1024x1024 .f32) (r : Fin 8) (c : Fin 1024) :
    hM mp s (ix3 0 r c) = max (mp (ix3 0 r c)) (Finset.univ.sup fun k : Fin 1024 => s (ix3 0 k c)) := by
  unfold hM k0_pay18 k0_pay17 k0_pay16
  pointwise
  rw [show Ideal.ofBits .f32 4286578688#32 = (⊥ : EReal) from negInf]
  rfl

theorem hA_apply (mp : FVec Ideal S1x8x1024 .f32) (s : FVec Ideal S1x1024x1024 .f32) (ap : FVec Ideal S1x80x1024 .f32)
    (v : FVec Ideal S80x1024 .bf16) (d : Fin 80) (c : Fin 1024) :
    hA mp s ap v (ix3 0 d c)
      = Ideal.exp2 (mp (ix3 0 0 c) - hM mp s (ix3 0 0 c)) * ap (ix3 0 d c)
        + ∑ k : Fin 1024, v (ix2 d k) * Ideal.exp2 (s (ix3 0 k c) - hM mp s (ix3 0 0 c)) := by
  unfold hA hM k0_pay19 k0_pay18 k0_pay17 k0_pay16
  pointwise
  rfl

theorem hO_apply (a : FVec Ideal S1x80x1024 .f32) (d : Fin 64) (c : Fin 1024) :
    hO a (ix2 d c) = Ideal.div (a (ix3 0 ⟨d.val, by omega⟩ c)) (a (ix3 0 64 c)) := by
  unfold hO k0_pay5
  pointwise

end Cert.FlashIdeal.Att

end
-- ==== Proof.FlashIdeal.Slabs.lean ====
/-
The slabs of the loaded blocks and of the scratch buffers that belong to one head, and the stores of all eight heads.
-/
module

public import proofs.«01_k».proof.Proof.FlashIdeal.Head
public import proofs.«01_k».proof.Proof.FlashIdeal.Runs
public import Idealize.ShloMosaic.Lib.Pipeline.ReadBack
public import Idealize.ShloMosaic.Lib.VecWindow

@[expose] public section

set_option maxRecDepth 16384
set_option Elab.async false

noncomputable section

namespace Cert.FlashIdeal.Att

open Cert.FlashIdeal Cert.FlashIdeal.Gen
open Idealize.ShloMosaic

/-- The 128 columns from `o` on of a block of queries or of keys. -/
def cols (x : FVec Ideal S1024x1024 .bf16) (o : ℕ) (ho : o + 128 ≤ 1024) : FVec Ideal S1024x128 .bf16 :=
  fun j => x (ix2 (j 0) ⟨o + (j 1).val, lt_of_lt_of_le (Nat.add_lt_add_left (j 1).isLt o) ho⟩)

/-- The 80 rows from `o` on of a block of values. -/
def rows (x : FVec Ideal S640x1024 .bf16) (o : ℕ) (ho : o + 80 ≤ 640) : FVec Ideal S80x1024 .bf16 :=
  fun j => x (ix2 ⟨o + (j 0).val, lt_of_lt_of_le (Nat.add_lt_add_left (j 0).isLt o) ho⟩ (j 1))

/-- Head `h`'s slab of the running maxima. -/
def slM (x : FVec Ideal S8x8x1024 .f32) (h : Fin 8) : FVec Ideal S1x8x1024 .f32 := fun j => x (ix3 h (j 1) (j 2))

/-- Head `h`'s slab of the running weighted sums. -/
def slA (x : FVec Ideal S8x80x1024 .f32) (h : Fin 8) : FVec Ideal S1x80x1024 .f32 := fun j => x (ix3 h (j 1) (j 2))

/-- Head `h`'s columns, its rows. -/
def slK (x : FVec Ideal S1024x1024 .bf16) (h : Fin 8) : FVec Ideal S1024x128 .bf16 := cols x (h.val * 128) (by omega)
def slV (x : FVec Ideal S640x1024 .bf16) (h : Fin 8) : FVec Ideal S80x1024 .bf16 := rows x (h.val * 80) (by omega)

theorem rd_cols (v : Memref sig .tc .vmem S1024x1024 .bf16) (x : FVec Ideal S1024x1024 .bf16) (n : ℕ) (hn : n + 128 ≤ 1024)
    (inb : ∀ a, (![0, n] : Fin 2 → ℕ) a + (![1024, 128] : Fin _ → ℕ) a ≤ S1024x1024.size a) :
    View.readAt (Elt Ideal) v.view (Rect.unit (s := S1024x1024) ![0, n] ![1024, 128] inb).toLoadRect (v.view.rep x)
      = cols x n hn := by
  rw [View.readAt_rep]
  funext j
  refine congrArg x (funext fun a => ?_)
  fin_cases a <;> apply Fin.ext
  · show 0 + 1 * (j 0).val = (j 0).val; omega
  · show n + 1 * (j 1).val = n + (j 1).val; omega

theorem rd_rows (v : Memref sig .tc .vmem S640x1024 .bf16) (x : FVec Ideal S640x1024 .bf16) (n : ℕ) (hn : n + 80 ≤ 640)
    (inb : ∀ a, (![n, 0] : Fin 2 → ℕ) a + (![80, 1024] : Fin _ → ℕ) a ≤ S640x1024.size a) :
    View.readAt (Elt Ideal) v.view (Rect.unit (s := S640x1024) ![n, 0] ![80, 1024] inb).toLoadRect (v.view.rep x)
      = rows x n hn := by
  rw [View.readAt_rep]
  funext j
  refine congrArg x (funext fun a => ?_)
  fin_cases a <;> apply Fin.ext
  · show n + 1 * (j 0).val = n + (j 0).val; omega
  · show 0 + 1 * (j 1).val = (j 1).val; omega

theorem ld_M (x : FVec Ideal S8x8x1024 .f32) (n : ℕ) (hn : n < 8)
    (inb : ∀ a, (![n, 0, 0] : Fin 3 → ℕ) a + S1x8x1024.size a ≤ S8x8x1024.size a) :
    View.ld (Val := Elt Ideal) (e' := .f32) x (Rect.unit (s := S8x8x1024) ![n, 0, 0] S1x8x1024.size inb) = slM x ⟨n, hn⟩ := by
  funext j
  refine congrArg x (funext fun a => ?_)
  fin_cases a <;> apply Fin.ext
  · show n + 1 * (j 0).val = n; have h : (j 0).val < 1 := (j 0).isLt; omega
  · show 0 + 1 * (j 1).val = (j 1).val; omega
  · show 0 + 1 * (j 2).val = (j 2).val; omega

theorem ld_A (x : FVec Ideal S8x80x1024 .f32) (n : ℕ) (hn : n < 8)
    (inb : ∀ a, (![n, 0, 0] : Fin 3 → ℕ) a + S1x80x1024.size a ≤ S8x80x1024.size a) :
    View.ld (Val := Elt Ideal) (e' := .f32) x (Rect.unit (s := S8x80x1024) ![n, 0, 0] S1x80x1024.size inb) = slA x ⟨n, hn⟩ := by
  funext j
  refine congrArg x (funext fun a => ?_)
  fin_cases a <;> apply Fin.ext
  · show n + 1 * (j 0).val = n; have h : (j 0).val < 1 := (j 0).isLt; omega
  · show 0 + 1 * (j 1).val = (j 1).val; omega
  · show 0 + 1 * (j 2).val = (j 2).val; omega

theorem rd_M (x : FVec Ideal S8x8x1024 .f32) (n : ℕ) (hn : n < 8)
    (inb : ∀ a, (![n, 0, 0] : Fin 3 → ℕ) a + (![1, 8, 1024] : Fin _ → ℕ) a ≤ S8x8x1024.size a) :
    View.readAt (Elt Ideal) (View.whole cc0_scratch0) (Rect.unit (s := S8x8x1024) ![n, 0, 0] ![1, 8, 1024] inb).toLoadRect x = slM x ⟨n, hn⟩ :=
  ld_M x n hn inb

theorem rd_A (x : FVec Ideal S8x80x1024 .f32) (n : ℕ) (hn : n < 8)
    (inb : ∀ a, (![n, 0, 0] : Fin 3 → ℕ) a + (![1, 80, 1024] : Fin _ → ℕ) a ≤ S8x80x1024.size a) :
    View.readAt (Elt Ideal) (View.whole cc0_scratch1) (Rect.unit (s := S8x80x1024) ![n, 0, 0] ![1, 80, 1024] inb).toLoadRect x = slA x ⟨n, hn⟩ :=
  ld_A x n hn inb

/-- The stores of the eight heads' running maxima, last store first. -/
def piecesM (f : Fin 8 → FVec Ideal S1x8x1024 .f32) : List (View.Piece (Elt Ideal) S8x8x1024 .f32) :=
  [⟨Rect.unit ![7, 0, 0] S1x8x1024.size inb_S8x8x1024_S1x8x1024_7_0_0, f ⟨7, by decide⟩⟩,
   ⟨Rect.unit ![6, 0, 0] S1x8x1024.size inb_S8x8x1024_S1x8x1024_6_0_0, f ⟨6, by decide⟩⟩,
   ⟨Rect.unit ![5, 0, 0] S1x8x1024.size inb_S8x8x1024_S1x8x1024_5_0_0, f ⟨5, by decide⟩⟩,
   ⟨Rect.unit ![4, 0, 0] S1x8x1024.size inb_S8x8x1024_S1x8x1024_4_0_0, f ⟨4, by decide⟩⟩,
   ⟨Rect.unit ![3, 0, 0] S1x8x1024.size inb_S8x8x1024_S1x8x1024_3_0_0, f ⟨3, by decide⟩⟩,
   ⟨Rect.unit ![2, 0, 0] S1x8x1024.size inb_S8x8x1024_S1x8x1024_2_0_0, f ⟨2, by decide⟩⟩,
   ⟨Rect.unit ![1, 0, 0] S1x8x1024.size inb_S8x8x1024_S1x8x1024_1_0_0, f ⟨1, by decide⟩⟩,
   ⟨Rect.unit ![0, 0, 0] S1x8x1024.size inb_S8x8x1024_S1x8x1024_0_0_0, f ⟨0, by decide⟩⟩]

/-- The stores of the eight heads' running weighted sums, last store first. -/
def piecesA (f : Fin 8 → FVec Ideal S1x80x1024 .f32) : List (View.Piece (Elt Ideal) S8x80x1024 .f32) :=
  [⟨Rect.unit ![7, 0, 0] S1x80x1024.size inb_S8x80x1024_S1x80x1024_7_0_0, f ⟨7, by decide⟩⟩,
   ⟨Rect.unit ![6, 0, 0] S1x80x1024.size inb_S8x80x1024_S1x80x1024_6_0_0, f ⟨6, by decide⟩⟩,
   ⟨Rect.unit ![5, 0, 0] S1x80x1024.size inb_S8x80x1024_S1x80x1024_5_0_0, f ⟨5, by decide⟩⟩,
   ⟨Rect.unit ![4, 0, 0] S1x80x1024.size inb_S8x80x1024_S1x80x1024_4_0_0, f ⟨4, by decide⟩⟩,
   ⟨Rect.unit ![3, 0, 0] S1x80x1024.size inb_S8x80x1024_S1x80x1024_3_0_0, f ⟨3, by decide⟩⟩,
   ⟨Rect.unit ![2, 0, 0] S1x80x1024.size inb_S8x80x1024_S1x80x1024_2_0_0, f ⟨2, by decide⟩⟩,
   ⟨Rect.unit ![1, 0, 0] S1x80x1024.size inb_S8x80x1024_S1x80x1024_1_0_0, f ⟨1, by decide⟩⟩,
   ⟨Rect.unit ![0, 0, 0] S1x80x1024.size inb_S8x80x1024_S1x80x1024_0_0_0, f ⟨0, by decide⟩⟩]

/-- The stores of the eight heads' results, last store first. -/
def piecesO (f : Fin 8 → FVec Ideal S64x1024 .bf16) : List (View.Piece (Elt Ideal) S512x1024 .bf16) :=
  [⟨Rect.unit ![448, 0] S64x1024.size inb_S512x1024_S64x1024_448_0, f ⟨7, by decide⟩⟩,
   ⟨Rect.unit ![384, 0] S64x1024.size inb_S512x1024_S64x1024_384_0, f ⟨6, by decide⟩⟩,
   ⟨Rect.unit ![320, 0] S64x1024.size inb_S512x1024_S64x1024_320_0, f ⟨5, by decide⟩⟩,
   ⟨Rect.unit ![256, 0] S64x1024.size inb_S512x1024_S64x1024_256_0, f ⟨4, by decide⟩⟩,
   ⟨Rect.unit ![192, 0] S64x1024.size inb_S512x1024_S64x1024_192_0, f ⟨3, by decide⟩⟩,
   ⟨Rect.unit ![128, 0] S64x1024.size inb_S512x1024_S64x1024_128_0, f ⟨2, by decide⟩⟩,
   ⟨Rect.unit ![64, 0] S64x1024.size inb_S512x1024_S64x1024_64_0, f ⟨1, by decide⟩⟩,
   ⟨Rect.unit ![0, 0] S64x1024.size inb_S512x1024_S64x1024_0_0, f ⟨0, by decide⟩⟩]

/-- One more store into the running maxima, read at head `h`. -/
theorem read_cons_M (v : View sig .tc .vmem S8x8x1024 .f32) (g : v.ty.Contents (Elt Ideal)) (n : ℕ)
    (inb : ∀ a, (![n, 0, 0] : Fin 3 → ℕ) a + S1x8x1024.size a ≤ S8x8x1024.size a) (w : FVec Ideal S1x8x1024 .f32)
    (L : List (View.Piece (Elt Ideal) S8x8x1024 .f32)) (h : Fin 8) (r : Fin 8) (c : Fin 1024) :
    v.read (Elt Ideal) (v.writes (Elt Ideal) g (⟨Rect.unit (s := S8x8x1024) ![n, 0, 0] S1x8x1024.size inb, w⟩ :: L)) (ix3 h r c)
      = if h.val = n then w (ix3 0 r c) else v.read (Elt Ideal) (v.writes (Elt Ideal) g L) (ix3 h r c) := by
  split
  · rename_i hn
    exact View.read_writes_cons_unit_of_mem v g inb w L (ix3 h r c) (ix3 (0 : Fin 1) r c) rfl (by
      intro a
      fin_cases a
      · show h.val = n + 0; omega
      · show r.val = 0 + r.val; omega
      · show c.val = 0 + c.val; omega)
  · rename_i hn
    exact View.read_writes_cons_unit_of_not_mem v g inb w L (ix3 h r c) rfl 0 (by
      show h.val < n ∨ n + 1 ≤ h.val; omega)

/-- What the eight stores leave at head `h`, whatever was stored before. -/
theorem read_piecesM (v : View sig .tc .vmem S8x8x1024 .f32) (g : v.ty.Contents (Elt Ideal)) (f : Fin 8 → FVec Ideal S1x8x1024 .f32)
    (L : List (View.Piece (Elt Ideal) S8x8x1024 .f32)) (h : Fin 8) (r : Fin 8) (c : Fin 1024) :
    v.read (Elt Ideal) (v.writes (Elt Ideal) g (piecesM f ++ L)) (ix3 h r c) = f h (ix3 0 r c) := by
  show v.read (Elt Ideal) (v.writes (Elt Ideal) g (_ :: _ :: _ :: _ :: _ :: _ :: _ :: _ :: L)) (ix3 h r c) = _
  rw [read_cons_M v g 7, read_cons_M v g 6, read_cons_M v g 5, read_cons_M v g 4, read_cons_M v g 3, read_cons_M v g 2,
    read_cons_M v g 1, read_cons_M v g 0]
  have hh := h.isLt
  split_ifs with h7 h6 h5 h4 h3 h2 h1 h0
  all_goals first
    | exact congrFun (congrArg f (Fin.ext (Eq.symm ‹h.val = _›))) _
    | omega

/-- A load of one head's slab after a store of the whole buffer. -/
theorem readCov_whole_M (inb : ∀ a, (![0, 0, 0] : Fin 3 → ℕ) a + (![8, 8, 1024] : Fin _ → ℕ) a ≤ S8x8x1024.size a) (x : FVec Ideal S8x8x1024 .f32) (n : ℕ) (hn : n < 8)
    (inb' : ∀ a, (![n, 0, 0] : Fin 3 → ℕ) a + (![1, 8, 1024] : Fin _ → ℕ) a ≤ S8x8x1024.size a) (v : View sig .tc .vmem S8x8x1024 .f32) :
    v.readCov (Val := Elt Ideal) [⟨Rect.unit (s := S8x8x1024) ![0, 0, 0] ![8, 8, 1024] inb, x⟩] (Rect.unit (s := S8x8x1024) ![n, 0, 0] ![1, 8, 1024] inb').toLoadRect
      = slM x ⟨n, hn⟩ :=
  by
  have h0 : ∀ a, (![0, 0, 0] : Fin 3 → ℕ) a = 0 := by decide
  have h1 := View.readCov_fill (Val := Elt Ideal) v inb x [] (Rect.unit (s := S8x8x1024) ![n, 0, 0] S1x8x1024.size inb') h0
  exact h1.trans (ld_M x n hn inb')

/-- One more store into the running weighted sums, read at head `h`. -/
theorem read_cons_A (v : View sig .tc .vmem S8x80x1024 .f32) (g : v.ty.Contents (Elt Ideal)) (n : ℕ)
    (inb : ∀ a, (![n, 0, 0] : Fin 3 → ℕ) a + S1x80x1024.size a ≤ S8x80x1024.size a) (w : FVec Ideal S1x80x1024 .f32)
    (L : List (View.Piece (Elt Ideal) S8x80x1024 .f32)) (h : Fin 8) (r : Fin 80) (c : Fin 1024) :
    v.read (Elt Ideal) (v.writes (Elt Ideal) g (⟨Rect.unit (s := S8x80x1024) ![n, 0, 0] S1x80x1024.size inb, w⟩ :: L)) (ix3 h r c)
      = if h.val = n then w (ix3 0 r c) else v.read (Elt Ideal) (v.writes (Elt Ideal) g L) (ix3 h r c) := by
  split
  · rename_i hn
    exact View.read_writes_cons_unit_of_mem v g inb w L (ix3 h r c) (ix3 (0 : Fin 1) r c) rfl (by
      intro a
      fin_cases a
      · show h.val = n + 0; omega
      · show r.val = 0 + r.val; omega
      · show c.val = 0 + c.val; omega)
  · rename_i hn
    exact View.read_writes_cons_unit_of_not_mem v g inb w L (ix3 h r c) rfl 0 (by
      show h.val < n ∨ n + 1 ≤ h.val; omega)

/-- What the eight stores leave at head `h`, whatever was stored before. -/
theorem read_piecesA (v : View sig .tc .vmem S8x80x1024 .f32) (g : v.ty.Contents (Elt Ideal)) (f : Fin 8 → FVec Ideal S1x80x1024 .f32)
    (L : List (View.Piece (Elt Ideal) S8x80x1024 .f32)) (h : Fin 8) (r : Fin 80) (c : Fin 1024) :
    v.read (Elt Ideal) (v.writes (Elt Ideal) g (piecesA f ++ L)) (ix3 h r c) = f h (ix3 0 r c) := by
  show v.read (Elt Ideal) (v.writes (Elt Ideal) g (_ :: _ :: _ :: _ :: _ :: _ :: _ :: _ :: L)) (ix3 h r c) = _
  rw [read_cons_A v g 7, read_cons_A v g 6, read_cons_A v g 5, read_cons_A v g 4, read_cons_A v g 3, read_cons_A v g 2,
    read_cons_A v g 1, read_cons_A v g 0]
  have hh := h.isLt
  split_ifs with h7 h6 h5 h4 h3 h2 h1 h0
  all_goals first
    | exact congrFun (congrArg f (Fin.ext (Eq.symm ‹h.val = _›))) _
    | omega

/-- A load of one head's slab after a store of the whole buffer. -/
theorem readCov_whole_A (inb : ∀ a, (![0, 0, 0] : Fin 3 → ℕ) a + (![8, 80, 1024] : Fin _ → ℕ) a ≤ S8x80x1024.size a) (x : FVec Ideal S8x80x1024 .f32) (n : ℕ) (hn : n < 8)
    (inb' : ∀ a, (![n, 0, 0] : Fin 3 → ℕ) a + (![1, 80, 1024] : Fin _ → ℕ) a ≤ S8x80x1024.size a) (v : View sig .tc .vmem S8x80x1024 .f32) :
    v.readCov (Val := Elt Ideal) [⟨Rect.unit (s := S8x80x1024) ![0, 0, 0] ![8, 80, 1024] inb, x⟩] (Rect.unit (s := S8x80x1024) ![n, 0, 0] ![1, 80, 1024] inb').toLoadRect
      = slA x ⟨n, hn⟩ :=
  by
  have h0 : ∀ a, (![0, 0, 0] : Fin 3 → ℕ) a = 0 := by decide
  have h1 := View.readCov_fill (Val := Elt Ideal) v inb x [] (Rect.unit (s := S8x80x1024) ![n, 0, 0] S1x80x1024.size inb') h0
  exact h1.trans (ld_A x n hn inb')

/-- One more store of a head's 64 result rows, from row `n` on, read at row `d` of head `h`. -/
theorem read_cons_O (v : View sig .tc .vmem S512x1024 .bf16) (g : v.ty.Contents (Elt Ideal)) (n : ℕ)
    (inb : ∀ a, (![n, 0] : Fin 2 → ℕ) a + S64x1024.size a ≤ S512x1024.size a) (w : FVec Ideal S64x1024 .bf16)
    (L : List (View.Piece (Elt Ideal) S512x1024 .bf16)) (k : ℕ) (hk : n = k * 64) (h : Fin 8) (d : Fin 64) (c : Fin 1024)
    (hd : h.val * 64 + d.val < 512) :
    v.read (Elt Ideal) (v.writes (Elt Ideal) g (⟨Rect.unit (s := S512x1024) ![n, 0] S64x1024.size inb, w⟩ :: L)) (ix2 ⟨h.val * 64 + d.val, hd⟩ c)
      = if h.val = k then w (ix2 d c) else v.read (Elt Ideal) (v.writes (Elt Ideal) g L) (ix2 ⟨h.val * 64 + d.val, hd⟩ c) := by
  have hd' := d.isLt
  split
  · rename_i hn
    exact View.read_writes_cons_unit_of_mem v g inb w L (ix2 ⟨h.val * 64 + d.val, hd⟩ c) (ix2 d c) rfl (by
      intro a
      fin_cases a
      · show h.val * 64 + d.val = n + d.val; omega
      · show c.val = 0 + c.val; omega)
  · rename_i hn
    exact View.read_writes_cons_unit_of_not_mem v g inb w L (ix2 ⟨h.val * 64 + d.val, hd⟩ c) rfl 0 (by
      show h.val * 64 + d.val < n ∨ n + 64 ≤ h.val * 64 + d.val; omega)

theorem read_piecesO (v : View sig .tc .vmem S512x1024 .bf16) (g : v.ty.Contents (Elt Ideal)) (f : Fin 8 → FVec Ideal S64x1024 .bf16)
    (h : Fin 8) (d : Fin 64) (c : Fin 1024) (hd : h.val * 64 + d.val < 512) :
    v.read (Elt Ideal) (v.writes (Elt Ideal) g (piecesO f)) (ix2 ⟨h.val * 64 + d.val, hd⟩ c) = f h (ix2 d c) := by
  unfold piecesO
  rw [read_cons_O v g 448 _ _ _ 7 rfl, read_cons_O v g 384 _ _ _ 6 rfl, read_cons_O v g 320 _ _ _ 5 rfl, read_cons_O v g 256 _ _ _ 4 rfl,
    read_cons_O v g 192 _ _ _ 3 rfl, read_cons_O v g 128 _ _ _ 2 rfl, read_cons_O v g 64 _ _ _ 1 rfl, read_cons_O v g 0 _ _ _ 0 rfl]
  have hh := h.isLt
  split_ifs with h7 h6 h5 h4 h3 h2 h1 h0
  all_goals first
    | exact congrFun (congrArg f (Fin.ext (Eq.symm ‹h.val = _›))) _
    | omega

end Cert.FlashIdeal.Att

end
-- ==== Proof.FlashIdeal.StepA.lean ====
/-
The first grid point: both buffers are filled first, and its block is on the diagonal.
-/
module

public import proofs.«01_k».proof.Proof.FlashIdeal.Slabs

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (c : Dev nD) (arg4 arg5 : Memref sig .tc .vmem S1024x1024 .bf16) (arg6 : Memref sig .tc .vmem S640x1024 .bf16)
  (x0 x1 : FVec Ideal S1024x1024 .bf16) (x2 : FVec Ideal S640x1024 .bf16)

theorem A_M :
    kernelRun0_A.sl.HS0_9 arg4 arg5 x0 x1 = piecesM (fun h => hM (slM k0_pay1 h) (sD (slK x1 h) (slK x0 h))) ++ [⟨Rect.unit ![0, 0, 0] S8x8x1024.size inb_S8x8x1024_S8x8x1024_0_0_0, k0_pay1 (F := Ideal)⟩] := by
  simp (disch := decide) only [kernelRun0_A.sl.HO3_8, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS2_3, kernelRun0_A.sl.HS2_4, kernelRun0_A.sl.HS2_5, kernelRun0_A.sl.HS2_6, kernelRun0_A.sl.HS2_7, kernelRun0_A.sl.HS2_8, kernelRun0_A.sl.cst_49, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v102, kernelRun0_A.sl.v120, kernelRun0_A.sl.v122, kernelRun0_A.sl.v142, kernelRun0_A.sl.v160, kernelRun0_A.sl.v162, kernelRun0_A.sl.v182, kernelRun0_A.sl.v200, kernelRun0_A.sl.v202, kernelRun0_A.sl.v222, kernelRun0_A.sl.v240, kernelRun0_A.sl.v242, kernelRun0_A.sl.v262, kernelRun0_A.sl.v272, kernelRun0_A.sl.v274, kernelRun0_A.sl.v294, kernelRun0_A.sl.v304, kernelRun0_A.sl.v306, kernelRun0_A.sl.v326, kernelRun0_A.sl.v336, kernelRun0_A.sl.v344, kernelRun0_A.sl.v352, kernelRun0_A.sl.v360, kernelRun0_A.sl.v368, kernelRun0_A.sl.v376, kernelRun0_A.sl.v384, kernelRun0_A.sl.v392, kernelRun0_A.sl.v4, kernelRun0_A.sl.v40, kernelRun0_A.sl.v42, kernelRun0_A.sl.v5, kernelRun0_A.sl.v6, kernelRun0_A.sl.v62, kernelRun0_A.sl.v7, kernelRun0_A.sl.v8, kernelRun0_A.sl.v80, kernelRun0_A.sl.v82, kernelRun0_A.sl.v9,
    ↓View.readCov_cons_toLoadRect, ↓View.readCov_skip, ↓readCov_whole_M, ↓readCov_whole_A, rd_M, rd_A, rd_cols, rd_rows]
  rfl

theorem A_A :
    kernelRun0_A.sl.HS1_9 arg4 arg5 arg6 x0 x1 x2 = piecesA (fun h => hA (slM k0_pay1 h) (sD (slK x1 h) (slK x0 h)) (slA k0_pay2 h) (slV x2 h)) ++ [⟨Rect.unit ![0, 0, 0] S8x80x1024.size inb_S8x80x1024_S8x80x1024_0_0_0, k0_pay2 (F := Ideal)⟩] := by
  simp (disch := decide) only [kernelRun0_A.sl.HO3_8, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS2_3, kernelRun0_A.sl.HS2_4, kernelRun0_A.sl.HS2_5, kernelRun0_A.sl.HS2_6, kernelRun0_A.sl.HS2_7, kernelRun0_A.sl.HS2_8, kernelRun0_A.sl.cst_49, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v102, kernelRun0_A.sl.v120, kernelRun0_A.sl.v122, kernelRun0_A.sl.v142, kernelRun0_A.sl.v160, kernelRun0_A.sl.v162, kernelRun0_A.sl.v182, kernelRun0_A.sl.v200, kernelRun0_A.sl.v202, kernelRun0_A.sl.v222, kernelRun0_A.sl.v240, kernelRun0_A.sl.v242, kernelRun0_A.sl.v262, kernelRun0_A.sl.v272, kernelRun0_A.sl.v274, kernelRun0_A.sl.v294, kernelRun0_A.sl.v304, kernelRun0_A.sl.v306, kernelRun0_A.sl.v326, kernelRun0_A.sl.v336, kernelRun0_A.sl.v344, kernelRun0_A.sl.v352, kernelRun0_A.sl.v360, kernelRun0_A.sl.v368, kernelRun0_A.sl.v376, kernelRun0_A.sl.v384, kernelRun0_A.sl.v392, kernelRun0_A.sl.v4, kernelRun0_A.sl.v40, kernelRun0_A.sl.v42, kernelRun0_A.sl.v5, kernelRun0_A.sl.v6, kernelRun0_A.sl.v62, kernelRun0_A.sl.v7, kernelRun0_A.sl.v8, kernelRun0_A.sl.v80, kernelRun0_A.sl.v82, kernelRun0_A.sl.v9,
    ↓View.readCov_cons_toLoadRect, ↓View.readCov_skip, ↓readCov_whole_M, ↓readCov_whole_A, rd_M, rd_A, rd_cols, rd_rows]
  rfl

theorem A_O :
    kernelRun0_A.sl.HO3_8 arg4 arg5 arg6 x0 x1 x2 = piecesO (fun h => hO (hA (slM k0_pay1 h) (sD (slK x1 h) (slK x0 h)) (slA k0_pay2 h) (slV x2 h))) := by
  simp (disch := decide) only [kernelRun0_A.sl.HO3_8, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS2_3, kernelRun0_A.sl.HS2_4, kernelRun0_A.sl.HS2_5, kernelRun0_A.sl.HS2_6, kernelRun0_A.sl.HS2_7, kernelRun0_A.sl.HS2_8, kernelRun0_A.sl.cst_49, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v102, kernelRun0_A.sl.v120, kernelRun0_A.sl.v122, kernelRun0_A.sl.v142, kernelRun0_A.sl.v160, kernelRun0_A.sl.v162, kernelRun0_A.sl.v182, kernelRun0_A.sl.v200, kernelRun0_A.sl.v202, kernelRun0_A.sl.v222, kernelRun0_A.sl.v240, kernelRun0_A.sl.v242, kernelRun0_A.sl.v262, kernelRun0_A.sl.v272, kernelRun0_A.sl.v274, kernelRun0_A.sl.v294, kernelRun0_A.sl.v304, kernelRun0_A.sl.v306, kernelRun0_A.sl.v326, kernelRun0_A.sl.v336, kernelRun0_A.sl.v344, kernelRun0_A.sl.v352, kernelRun0_A.sl.v360, kernelRun0_A.sl.v368, kernelRun0_A.sl.v376, kernelRun0_A.sl.v384, kernelRun0_A.sl.v392, kernelRun0_A.sl.v4, kernelRun0_A.sl.v40, kernelRun0_A.sl.v42, kernelRun0_A.sl.v5, kernelRun0_A.sl.v6, kernelRun0_A.sl.v62, kernelRun0_A.sl.v7, kernelRun0_A.sl.v8, kernelRun0_A.sl.v80, kernelRun0_A.sl.v82, kernelRun0_A.sl.v9,
    ↓View.readCov_cons_toLoadRect, ↓View.readCov_skip, ↓readCov_whole_M, ↓readCov_whole_A, rd_M, rd_A, rd_cols, rd_rows]
  rfl

end Cert.FlashIdeal.Att

end
-- ==== Proof.FlashIdeal.StepB.lean ====
/-
A grid point that starts a row off the diagonal: both buffers are filled first.
-/
module

public import proofs.«01_k».proof.Proof.FlashIdeal.Slabs

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (c : Dev nD) (arg4 arg5 : Memref sig .tc .vmem S1024x1024 .bf16) (arg6 : Memref sig .tc .vmem S640x1024 .bf16)
  (x0 x1 : FVec Ideal S1024x1024 .bf16) (x2 : FVec Ideal S640x1024 .bf16)

theorem B_M :
    kernelRun0_B.sl.HS0_9 arg4 arg5 x0 x1 = piecesM (fun h => hM (slM k0_pay1 h) (sN (slK x1 h) (slK x0 h))) ++ [⟨Rect.unit ![0, 0, 0] S8x8x1024.size inb_S8x8x1024_S8x8x1024_0_0_0, k0_pay1 (F := Ideal)⟩] := by
  simp (disch := decide) only [kernelRun0_B.sl.HS0_1, kernelRun0_B.sl.HS0_2, kernelRun0_B.sl.HS0_3, kernelRun0_B.sl.HS0_4, kernelRun0_B.sl.HS0_5, kernelRun0_B.sl.HS0_6, kernelRun0_B.sl.HS0_7, kernelRun0_B.sl.HS0_8, kernelRun0_B.sl.HS0_9, kernelRun0_B.sl.HS1_1, kernelRun0_B.sl.HS1_2, kernelRun0_B.sl.HS1_3, kernelRun0_B.sl.HS1_4, kernelRun0_B.sl.HS1_5, kernelRun0_B.sl.HS1_6, kernelRun0_B.sl.HS1_7, kernelRun0_B.sl.HS1_8, kernelRun0_B.sl.HS1_9, kernelRun0_B.sl.HS2_3, kernelRun0_B.sl.HS2_4, kernelRun0_B.sl.HS2_5, kernelRun0_B.sl.HS2_6, kernelRun0_B.sl.HS2_7, kernelRun0_B.sl.HS2_8, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v, kernelRun0_B.sl.v107, kernelRun0_B.sl.v109, kernelRun0_B.sl.v129, kernelRun0_B.sl.v145, kernelRun0_B.sl.v147, kernelRun0_B.sl.v167, kernelRun0_B.sl.v183, kernelRun0_B.sl.v185, kernelRun0_B.sl.v205, kernelRun0_B.sl.v221, kernelRun0_B.sl.v223, kernelRun0_B.sl.v243, kernelRun0_B.sl.v253, kernelRun0_B.sl.v255, kernelRun0_B.sl.v275, kernelRun0_B.sl.v285, kernelRun0_B.sl.v287, kernelRun0_B.sl.v307, kernelRun0_B.sl.v31, kernelRun0_B.sl.v33, kernelRun0_B.sl.v4, kernelRun0_B.sl.v5, kernelRun0_B.sl.v53, kernelRun0_B.sl.v6, kernelRun0_B.sl.v7, kernelRun0_B.sl.v71, kernelRun0_B.sl.v8, kernelRun0_B.sl.v9, kernelRun0_B.sl.v91,
    ↓View.readCov_cons_toLoadRect, ↓View.readCov_skip, ↓readCov_whole_M, ↓readCov_whole_A, rd_M, rd_A, rd_cols, rd_rows]
  rfl

theorem B_A :
    kernelRun0_B.sl.HS1_9 arg4 arg5 arg6 x0 x1 x2 = piecesA (fun h => hA (slM k0_pay1 h) (sN (slK x1 h) (slK x0 h)) (slA k0_pay2 h) (slV x2 h)) ++ [⟨Rect.unit ![0, 0, 0] S8x80x1024.size inb_S8x80x1024_S8x80x1024_0_0_0, k0_pay2 (F := Ideal)⟩] := by
  simp (disch := decide) only [kernelRun0_B.sl.HS0_1, kernelRun0_B.sl.HS0_2, kernelRun0_B.sl.HS0_3, kernelRun0_B.sl.HS0_4, kernelRun0_B.sl.HS0_5, kernelRun0_B.sl.HS0_6, kernelRun0_B.sl.HS0_7, kernelRun0_B.sl.HS0_8, kernelRun0_B.sl.HS0_9, kernelRun0_B.sl.HS1_1, kernelRun0_B.sl.HS1_2, kernelRun0_B.sl.HS1_3, kernelRun0_B.sl.HS1_4, kernelRun0_B.sl.HS1_5, kernelRun0_B.sl.HS1_6, kernelRun0_B.sl.HS1_7, kernelRun0_B.sl.HS1_8, kernelRun0_B.sl.HS1_9, kernelRun0_B.sl.HS2_3, kernelRun0_B.sl.HS2_4, kernelRun0_B.sl.HS2_5, kernelRun0_B.sl.HS2_6, kernelRun0_B.sl.HS2_7, kernelRun0_B.sl.HS2_8, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v, kernelRun0_B.sl.v107, kernelRun0_B.sl.v109, kernelRun0_B.sl.v129, kernelRun0_B.sl.v145, kernelRun0_B.sl.v147, kernelRun0_B.sl.v167, kernelRun0_B.sl.v183, kernelRun0_B.sl.v185, kernelRun0_B.sl.v205, kernelRun0_B.sl.v221, kernelRun0_B.sl.v223, kernelRun0_B.sl.v243, kernelRun0_B.sl.v253, kernelRun0_B.sl.v255, kernelRun0_B.sl.v275, kernelRun0_B.sl.v285, kernelRun0_B.sl.v287, kernelRun0_B.sl.v307, kernelRun0_B.sl.v31, kernelRun0_B.sl.v33, kernelRun0_B.sl.v4, kernelRun0_B.sl.v5, kernelRun0_B.sl.v53, kernelRun0_B.sl.v6, kernelRun0_B.sl.v7, kernelRun0_B.sl.v71, kernelRun0_B.sl.v8, kernelRun0_B.sl.v9, kernelRun0_B.sl.v91,
    ↓View.readCov_cons_toLoadRect, ↓View.readCov_skip, ↓readCov_whole_M, ↓readCov_whole_A, rd_M, rd_A, rd_cols, rd_rows]
  rfl

end Cert.FlashIdeal.Att

end
-- ==== Proof.FlashIdeal.StepC.lean ====
/-
A grid point that ends a row on the diagonal, from the buffers the point before left.
-/
module

public import proofs.«01_k».proof.Proof.FlashIdeal.Slabs

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (c : Dev nD) (arg4 arg5 : Memref sig .tc .vmem S1024x1024 .bf16) (arg6 : Memref sig .tc .vmem S640x1024 .bf16)
  (x0 x1 : FVec Ideal S1024x1024 .bf16) (x2 : FVec Ideal S640x1024 .bf16)

theorem C_M (xa0 : FVec Ideal S8x8x1024 .f32) :
    kernelRun0_C.sl.HS0_8 c arg4 arg5 x0 x1 xa0 = piecesM (fun h => hM (slM xa0 h) (sD (slK x1 h) (slK x0 h))) := by
  simp (disch := decide) only [kernelRun0_C.sl.HO3_8, kernelRun0_C.sl.HS0_8, kernelRun0_C.sl.HS1_8, kernelRun0_C.sl.HS2_3, kernelRun0_C.sl.HS2_4, kernelRun0_C.sl.HS2_5, kernelRun0_C.sl.HS2_6, kernelRun0_C.sl.HS2_7, kernelRun0_C.sl.HS2_8, kernelRun0_C.sl.cst_49, kernelRun0_C.sl.r, kernelRun0_C.sl.r_1, kernelRun0_C.sl.r_10, kernelRun0_C.sl.r_11, kernelRun0_C.sl.r_12, kernelRun0_C.sl.r_13, kernelRun0_C.sl.r_14, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v102, kernelRun0_C.sl.v120, kernelRun0_C.sl.v122, kernelRun0_C.sl.v142, kernelRun0_C.sl.v160, kernelRun0_C.sl.v162, kernelRun0_C.sl.v182, kernelRun0_C.sl.v200, kernelRun0_C.sl.v202, kernelRun0_C.sl.v222, kernelRun0_C.sl.v240, kernelRun0_C.sl.v242, kernelRun0_C.sl.v262, kernelRun0_C.sl.v272, kernelRun0_C.sl.v274, kernelRun0_C.sl.v294, kernelRun0_C.sl.v304, kernelRun0_C.sl.v306, kernelRun0_C.sl.v326, kernelRun0_C.sl.v336, kernelRun0_C.sl.v344, kernelRun0_C.sl.v352, kernelRun0_C.sl.v360, kernelRun0_C.sl.v368, kernelRun0_C.sl.v376, kernelRun0_C.sl.v384, kernelRun0_C.sl.v392, kernelRun0_C.sl.v4, kernelRun0_C.sl.v42, kernelRun0_C.sl.v5, kernelRun0_C.sl.v6, kernelRun0_C.sl.v7, kernelRun0_C.sl.v8, kernelRun0_C.sl.v80, kernelRun0_C.sl.v82, kernelRun0_C.sl.v9,
    ↓View.readCov_cons_toLoadRect, ↓View.readCov_skip, ↓readCov_whole_M, ↓readCov_whole_A, rd_M, rd_A, rd_cols, rd_rows]
  rfl

theorem C_A (xa0 : FVec Ideal S8x8x1024 .f32) (xa1 : FVec Ideal S8x80x1024 .f32) :
    kernelRun0_C.sl.HS1_8 c arg4 arg5 arg6 x0 x1 x2 xa0 xa1 = piecesA (fun h => hA (slM xa0 h) (sD (slK x1 h) (slK x0 h)) (slA xa1 h) (slV x2 h)) := by
  simp (disch := decide) only [kernelRun0_C.sl.HO3_8, kernelRun0_C.sl.HS0_8, kernelRun0_C.sl.HS1_8, kernelRun0_C.sl.HS2_3, kernelRun0_C.sl.HS2_4, kernelRun0_C.sl.HS2_5, kernelRun0_C.sl.HS2_6, kernelRun0_C.sl.HS2_7, kernelRun0_C.sl.HS2_8, kernelRun0_C.sl.cst_49, kernelRun0_C.sl.r, kernelRun0_C.sl.r_1, kernelRun0_C.sl.r_10, kernelRun0_C.sl.r_11, kernelRun0_C.sl.r_12, kernelRun0_C.sl.r_13, kernelRun0_C.sl.r_14, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v102, kernelRun0_C.sl.v120, kernelRun0_C.sl.v122, kernelRun0_C.sl.v142, kernelRun0_C.sl.v160, kernelRun0_C.sl.v162, kernelRun0_C.sl.v182, kernelRun0_C.sl.v200, kernelRun0_C.sl.v202, kernelRun0_C.sl.v222, kernelRun0_C.sl.v240, kernelRun0_C.sl.v242, kernelRun0_C.sl.v262, kernelRun0_C.sl.v272, kernelRun0_C.sl.v274, kernelRun0_C.sl.v294, kernelRun0_C.sl.v304, kernelRun0_C.sl.v306, kernelRun0_C.sl.v326, kernelRun0_C.sl.v336, kernelRun0_C.sl.v344, kernelRun0_C.sl.v352, kernelRun0_C.sl.v360, kernelRun0_C.sl.v368, kernelRun0_C.sl.v376, kernelRun0_C.sl.v384, kernelRun0_C.sl.v392, kernelRun0_C.sl.v4, kernelRun0_C.sl.v42, kernelRun0_C.sl.v5, kernelRun0_C.sl.v6, kernelRun0_C.sl.v7, kernelRun0_C.sl.v8, kernelRun0_C.sl.v80, kernelRun0_C.sl.v82, kernelRun0_C.sl.v9,
    ↓View.readCov_cons_toLoadRect, ↓View.readCov_skip, ↓readCov_whole_M, ↓readCov_whole_A, rd_M, rd_A, rd_cols, rd_rows]
  rfl

theorem C_O (xa0 : FVec Ideal S8x8x1024 .f32) (xa1 : FVec Ideal S8x80x1024 .f32) :
    kernelRun0_C.sl.HO3_8 c arg4 arg5 arg6 x0 x1 x2 xa0 xa1 = piecesO (fun h => hO (hA (slM xa0 h) (sD (slK x1 h) (slK x0 h)) (slA xa1 h) (slV x2 h))) := by
  simp (disch := decide) only [kernelRun0_C.sl.HO3_8, kernelRun0_C.sl.HS0_8, kernelRun0_C.sl.HS1_8, kernelRun0_C.sl.HS2_3, kernelRun0_C.sl.HS2_4, kernelRun0_C.sl.HS2_5, kernelRun0_C.sl.HS2_6, kernelRun0_C.sl.HS2_7, kernelRun0_C.sl.HS2_8, kernelRun0_C.sl.cst_49, kernelRun0_C.sl.r, kernelRun0_C.sl.r_1, kernelRun0_C.sl.r_10, kernelRun0_C.sl.r_11, kernelRun0_C.sl.r_12, kernelRun0_C.sl.r_13, kernelRun0_C.sl.r_14, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v102, kernelRun0_C.sl.v120, kernelRun0_C.sl.v122, kernelRun0_C.sl.v142, kernelRun0_C.sl.v160, kernelRun0_C.sl.v162, kernelRun0_C.sl.v182, kernelRun0_C.sl.v200, kernelRun0_C.sl.v202, kernelRun0_C.sl.v222, kernelRun0_C.sl.v240, kernelRun0_C.sl.v242, kernelRun0_C.sl.v262, kernelRun0_C.sl.v272, kernelRun0_C.sl.v274, kernelRun0_C.sl.v294, kernelRun0_C.sl.v304, kernelRun0_C.sl.v306, kernelRun0_C.sl.v326, kernelRun0_C.sl.v336, kernelRun0_C.sl.v344, kernelRun0_C.sl.v352, kernelRun0_C.sl.v360, kernelRun0_C.sl.v368, kernelRun0_C.sl.v376, kernelRun0_C.sl.v384, kernelRun0_C.sl.v392, kernelRun0_C.sl.v4, kernelRun0_C.sl.v42, kernelRun0_C.sl.v5, kernelRun0_C.sl.v6, kernelRun0_C.sl.v7, kernelRun0_C.sl.v8, kernelRun0_C.sl.v80, kernelRun0_C.sl.v82, kernelRun0_C.sl.v9,
    ↓View.readCov_cons_toLoadRect, ↓View.readCov_skip, ↓readCov_whole_M, ↓readCov_whole_A, rd_M, rd_A, rd_cols, rd_rows]
  rfl

end Cert.FlashIdeal.Att

end
-- ==== Proof.FlashIdeal.StepD.lean ====
/-
A grid point that neither starts a row nor is on the diagonal, from the buffers the point before left.
-/
module

public import proofs.«01_k».proof.Proof.FlashIdeal.Slabs

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (c : Dev nD) (arg4 arg5 : Memref sig .tc .vmem S1024x1024 .bf16) (arg6 : Memref sig .tc .vmem S640x1024 .bf16)
  (x0 x1 : FVec Ideal S1024x1024 .bf16) (x2 : FVec Ideal S640x1024 .bf16)

theorem D_M (xa0 : FVec Ideal S8x8x1024 .f32) :
    kernelRun0_D.sl.HS0_8 c arg4 arg5 x0 x1 xa0 = piecesM (fun h => hM (slM xa0 h) (sN (slK x1 h) (slK x0 h))) := by
  simp (disch := decide) only [kernelRun0_D.sl.HS0_8, kernelRun0_D.sl.HS1_8, kernelRun0_D.sl.HS2_3, kernelRun0_D.sl.HS2_4, kernelRun0_D.sl.HS2_5, kernelRun0_D.sl.HS2_6, kernelRun0_D.sl.HS2_7, kernelRun0_D.sl.HS2_8, kernelRun0_D.sl.r, kernelRun0_D.sl.r_1, kernelRun0_D.sl.r_10, kernelRun0_D.sl.r_11, kernelRun0_D.sl.r_12, kernelRun0_D.sl.r_13, kernelRun0_D.sl.r_14, kernelRun0_D.sl.r_15, kernelRun0_D.sl.r_16, kernelRun0_D.sl.r_17, kernelRun0_D.sl.r_18, kernelRun0_D.sl.r_2, kernelRun0_D.sl.r_3, kernelRun0_D.sl.r_4, kernelRun0_D.sl.r_5, kernelRun0_D.sl.r_6, kernelRun0_D.sl.r_7, kernelRun0_D.sl.r_8, kernelRun0_D.sl.r_9, kernelRun0_D.sl.v, kernelRun0_D.sl.v107, kernelRun0_D.sl.v109, kernelRun0_D.sl.v129, kernelRun0_D.sl.v145, kernelRun0_D.sl.v147, kernelRun0_D.sl.v167, kernelRun0_D.sl.v183, kernelRun0_D.sl.v185, kernelRun0_D.sl.v205, kernelRun0_D.sl.v221, kernelRun0_D.sl.v223, kernelRun0_D.sl.v243, kernelRun0_D.sl.v253, kernelRun0_D.sl.v255, kernelRun0_D.sl.v275, kernelRun0_D.sl.v285, kernelRun0_D.sl.v287, kernelRun0_D.sl.v307, kernelRun0_D.sl.v33, kernelRun0_D.sl.v4, kernelRun0_D.sl.v5, kernelRun0_D.sl.v6, kernelRun0_D.sl.v7, kernelRun0_D.sl.v71, kernelRun0_D.sl.v8, kernelRun0_D.sl.v9, kernelRun0_D.sl.v91,
    ↓View.readCov_cons_toLoadRect, ↓View.readCov_skip, ↓readCov_whole_M, ↓readCov_whole_A, rd_M, rd_A, rd_cols, rd_rows]
  rfl

theorem D_A (xa0 : FVec Ideal S8x8x1024 .f32) (xa1 : FVec Ideal S8x80x1024 .f32) :
    kernelRun0_D.sl.HS1_8 c arg4 arg5 arg6 x0 x1 x2 xa0 xa1 = piecesA (fun h => hA (slM xa0 h) (sN (slK x1 h) (slK x0 h)) (slA xa1 h) (slV x2 h)) := by
  simp (disch := decide) only [kernelRun0_D.sl.HS0_8, kernelRun0_D.sl.HS1_8, kernelRun0_D.sl.HS2_3, kernelRun0_D.sl.HS2_4, kernelRun0_D.sl.HS2_5, kernelRun0_D.sl.HS2_6, kernelRun0_D.sl.HS2_7, kernelRun0_D.sl.HS2_8, kernelRun0_D.sl.r, kernelRun0_D.sl.r_1, kernelRun0_D.sl.r_10, kernelRun0_D.sl.r_11, kernelRun0_D.sl.r_12, kernelRun0_D.sl.r_13, kernelRun0_D.sl.r_14, kernelRun0_D.sl.r_15, kernelRun0_D.sl.r_16, kernelRun0_D.sl.r_17, kernelRun0_D.sl.r_18, kernelRun0_D.sl.r_2, kernelRun0_D.sl.r_3, kernelRun0_D.sl.r_4, kernelRun0_D.sl.r_5, kernelRun0_D.sl.r_6, kernelRun0_D.sl.r_7, kernelRun0_D.sl.r_8, kernelRun0_D.sl.r_9, kernelRun0_D.sl.v, kernelRun0_D.sl.v107, kernelRun0_D.sl.v109, kernelRun0_D.sl.v129, kernelRun0_D.sl.v145, kernelRun0_D.sl.v147, kernelRun0_D.sl.v167, kernelRun0_D.sl.v183, kernelRun0_D.sl.v185, kernelRun0_D.sl.v205, kernelRun0_D.sl.v221, kernelRun0_D.sl.v223, kernelRun0_D.sl.v243, kernelRun0_D.sl.v253, kernelRun0_D.sl.v255, kernelRun0_D.sl.v275, kernelRun0_D.sl.v285, kernelRun0_D.sl.v287, kernelRun0_D.sl.v307, kernelRun0_D.sl.v33, kernelRun0_D.sl.v4, kernelRun0_D.sl.v5, kernelRun0_D.sl.v6, kernelRun0_D.sl.v7, kernelRun0_D.sl.v71, kernelRun0_D.sl.v8, kernelRun0_D.sl.v9, kernelRun0_D.sl.v91,
    ↓View.readCov_cons_toLoadRect, ↓View.readCov_skip, ↓readCov_whole_M, ↓readCov_whole_A, rd_M, rd_A, rd_cols, rd_rows]
  rfl

end Cert.FlashIdeal.Att

end
-- ==== Proof.FlashIdeal.Leaves.lean ====
/-
The stores that make what the scratch buffers and the output block hold after a grid point.
-/
module

public import proofs.«01_k».proof.Proof.FlashIdeal.StepA
public import proofs.«01_k».proof.Proof.FlashIdeal.StepB
public import proofs.«01_k».proof.Proof.FlashIdeal.StepC
public import proofs.«01_k».proof.Proof.FlashIdeal.StepD
public import proofs.«01_k».proof.Proof.FlashIdeal.Body

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (m : (ℓ : Loc nD τ sig) → Buf (Elt Ideal) ℓ) (ρ : Dev nD → PrngReg)

/-- The block of queries of point `t`. -/
def Qb (c : Dev nD) (t : Fin cfgA.N) : FVec Ideal S1024x1024 .bf16 := iblk m ρ c (0 : Fin 4) t
/-- The block of keys of point `t`. -/
def Kb (c : Dev nD) (t : Fin cfgA.N) : FVec Ideal S1024x1024 .bf16 := iblk m ρ c (1 : Fin 4) t
/-- The block of values of point `t`. -/
def Vb (c : Dev nD) (t : Fin cfgA.N) : FVec Ideal S640x1024 .bf16 := iblk m ρ c (2 : Fin 4) t

/-- The scores of head `h` at point `t`, with the causal mask where the block is on the diagonal. -/
def scB (c : Dev nD) (t : Fin cfgA.N) (h : Fin 8) : FVec Ideal S1x1024x1024 .f32 :=
  if P0_1 t then sN (slK (Kb m ρ c t) h) (slK (Qb m ρ c t) h) else sD (slK (Kb m ρ c t) h) (slK (Qb m ρ c t) h)

/-- The running maxima point `t` starts from. -/
def pM (c : Dev nD) (t : Fin cfgA.N) : FVec Ideal S8x8x1024 .f32 := if P0_0 t then k0_pay1 (F := Ideal) else (prev0 m ρ c t).2.1
/-- The weighted sums point `t` starts from. -/
def pA (c : Dev nD) (t : Fin cfgA.N) : FVec Ideal S8x80x1024 .f32 := if P0_0 t then k0_pay2 (F := Ideal) else (prev0 m ρ c t).2.2.1

/-- The running maxima after point `t`. -/
def stM (c : Dev nD) (t : Fin cfgA.N) : FVec Ideal S8x8x1024 .f32 := (traj0 m ρ c t.val t.isLt).2.1
/-- The weighted sums after point `t`. -/
def stA (c : Dev nD) (t : Fin cfgA.N) : FVec Ideal S8x80x1024 .f32 := (traj0 m ρ c t.val t.isLt).2.2.1
/-- The block of results point `t` leaves. -/
def stO (c : Dev nD) (t : Fin cfgA.N) : FVec Ideal S512x1024 .bf16 := (traj0 m ρ c t.val t.isLt).1

theorem outM_A (c : Dev nD) (t : Fin cfgA.N) (q0 : P0_0 t) (q1 : ¬P0_1 t) (x0 x1 : FVec Ideal S1024x1024 .bf16) (x2 : FVec Ideal S640x1024 .bf16) :
    (kernelRun0_A c (crd t) (ms0_0 t) (hs0_0 t) (ms0_1 t) (hs0_1 t) (ms0_2 t) (hs0_2 t) (ms0_3 t) (hs0_3 t) pinT_0 pinT_1 x0 x1 x2 (hypsR0_A t q0 q1).1 (hypsR0_A t q0 q1).2.1 (hypsR0_A t q0 q1).2.2.1).2.1
      = scM0_0.view.writes (Elt Ideal) scM0_0.view.junk (kernelRun0_A.sl.HS0_9 (ms0_0 t) (ms0_1 t) x0 x1) := by
  unfold kernelRun0_A; dsimp only

theorem outA_A (c : Dev nD) (t : Fin cfgA.N) (q0 : P0_0 t) (q1 : ¬P0_1 t) (x0 x1 : FVec Ideal S1024x1024 .bf16) (x2 : FVec Ideal S640x1024 .bf16) :
    (kernelRun0_A c (crd t) (ms0_0 t) (hs0_0 t) (ms0_1 t) (hs0_1 t) (ms0_2 t) (hs0_2 t) (ms0_3 t) (hs0_3 t) pinT_0 pinT_1 x0 x1 x2 (hypsR0_A t q0 q1).1 (hypsR0_A t q0 q1).2.1 (hypsR0_A t q0 q1).2.2.1).2.2.1
      = scM0_1.view.writes (Elt Ideal) scM0_1.view.junk (kernelRun0_A.sl.HS1_9 (ms0_0 t) (ms0_1 t) (ms0_2 t) x0 x1 x2) := by
  unfold kernelRun0_A; dsimp only

theorem outM_B (c : Dev nD) (t : Fin cfgA.N) (q0 : P0_0 t) (q1 : P0_1 t) (x0 x1 : FVec Ideal S1024x1024 .bf16) (x2 : FVec Ideal S640x1024 .bf16) :
    (kernelRun0_B c (crd t) (ms0_0 t) (hs0_0 t) (ms0_1 t) (hs0_1 t) (ms0_2 t) (hs0_2 t) (ms0_3 t) (hs0_3 t) pinT_0 pinT_1 x0 x1 x2 (hypsR0_B t q0 q1).1 (hypsR0_B t q0 q1).2.1 (hypsR0_B t q0 q1).2.2.1).1
      = scM0_0.view.writes (Elt Ideal) scM0_0.view.junk (kernelRun0_B.sl.HS0_9 (ms0_0 t) (ms0_1 t) x0 x1) := by
  unfold kernelRun0_B; dsimp only

theorem outA_B (c : Dev nD) (t : Fin cfgA.N) (q0 : P0_0 t) (q1 : P0_1 t) (x0 x1 : FVec Ideal S1024x1024 .bf16) (x2 : FVec Ideal S640x1024 .bf16) :
    (kernelRun0_B c (crd t) (ms0_0 t) (hs0_0 t) (ms0_1 t) (hs0_1 t) (ms0_2 t) (hs0_2 t) (ms0_3 t) (hs0_3 t) pinT_0 pinT_1 x0 x1 x2 (hypsR0_B t q0 q1).1 (hypsR0_B t q0 q1).2.1 (hypsR0_B t q0 q1).2.2.1).2.1
      = scM0_1.view.writes (Elt Ideal) scM0_1.view.junk (kernelRun0_B.sl.HS1_9 (ms0_0 t) (ms0_1 t) (ms0_2 t) x0 x1 x2) := by
  unfold kernelRun0_B; dsimp only

theorem outM_C (c : Dev nD) (t : Fin cfgA.N) (q0 : ¬P0_0 t) (q1 : ¬P0_1 t) (x0 x1 : FVec Ideal S1024x1024 .bf16) (x2 : FVec Ideal S640x1024 .bf16) (xa0 : FVec Ideal S8x8x1024 .f32) (xa1 : FVec Ideal S8x80x1024 .f32) :
    (kernelRun0_C c (crd t) (ms0_0 t) (hs0_0 t) (ms0_1 t) (hs0_1 t) (ms0_2 t) (hs0_2 t) (ms0_3 t) (hs0_3 t) pinT_0 pinT_1 x0 x1 x2 xa0 xa1 (hypsR0_C t q0 q1).1 (hypsR0_C t q0 q1).2.1 (hypsR0_C t q0 q1).2.2.1).2.1
      = scM0_0.view.writes (Elt Ideal) scM0_0.view.junk (kernelRun0_C.sl.HS0_8 c (ms0_0 t) (ms0_1 t) x0 x1 xa0) := by
  unfold kernelRun0_C; dsimp only

theorem outA_C (c : Dev nD) (t : Fin cfgA.N) (q0 : ¬P0_0 t) (q1 : ¬P0_1 t) (x0 x1 : FVec Ideal S1024x1024 .bf16) (x2 : FVec Ideal S640x1024 .bf16) (xa0 : FVec Ideal S8x8x1024 .f32) (xa1 : FVec Ideal S8x80x1024 .f32) :
    (kernelRun0_C c (crd t) (ms0_0 t) (hs0_0 t) (ms0_1 t) (hs0_1 t) (ms0_2 t) (hs0_2 t) (ms0_3 t) (hs0_3 t) pinT_0 pinT_1 x0 x1 x2 xa0 xa1 (hypsR0_C t q0 q1).1 (hypsR0_C t q0 q1).2.1 (hypsR0_C t q0 q1).2.2.1).2.2.1
      = scM0_1.view.writes (Elt Ideal) scM0_1.view.junk (kernelRun0_C.sl.HS1_8 c (ms0_0 t) (ms0_1 t) (ms0_2 t) x0 x1 x2 xa0 xa1) := by
  unfold kernelRun0_C; dsimp only

theorem outM_D (c : Dev nD) (t : Fin cfgA.N) (q0 : ¬P0_0 t) (q1 : P0_1 t) (x0 x1 : FVec Ideal S1024x1024 .bf16) (x2 : FVec Ideal S640x1024 .bf16) (xa0 : FVec Ideal S8x8x1024 .f32) (xa1 : FVec Ideal S8x80x1024 .f32) :
    (kernelRun0_D c (crd t) (ms0_0 t) (hs0_0 t) (ms0_1 t) (hs0_1 t) (ms0_2 t) (hs0_2 t) (ms0_3 t) (hs0_3 t) pinT_0 pinT_1 x0 x1 x2 xa0 xa1 (hypsR0_D t q0 q1).1 (hypsR0_D t q0 q1).2.1 (hypsR0_D t q0 q1).2.2.1).1
      = scM0_0.view.writes (Elt Ideal) scM0_0.view.junk (kernelRun0_D.sl.HS0_8 c (ms0_0 t) (ms0_1 t) x0 x1 xa0) := by
  unfold kernelRun0_D; dsimp only

theorem outA_D (c : Dev nD) (t : Fin cfgA.N) (q0 : ¬P0_0 t) (q1 : P0_1 t) (x0 x1 : FVec Ideal S1024x1024 .bf16) (x2 : FVec Ideal S640x1024 .bf16) (xa0 : FVec Ideal S8x8x1024 .f32) (xa1 : FVec Ideal S8x80x1024 .f32) :
    (kernelRun0_D c (crd t) (ms0_0 t) (hs0_0 t) (ms0_1 t) (hs0_1 t) (ms0_2 t) (hs0_2 t) (ms0_3 t) (hs0_3 t) pinT_0 pinT_1 x0 x1 x2 xa0 xa1 (hypsR0_D t q0 q1).1 (hypsR0_D t q0 q1).2.1 (hypsR0_D t q0 q1).2.2.1).2.1
      = scM0_1.view.writes (Elt Ideal) scM0_1.view.junk (kernelRun0_D.sl.HS1_8 c (ms0_0 t) (ms0_1 t) (ms0_2 t) x0 x1 x2 xa0 xa1) := by
  unfold kernelRun0_D; dsimp only

theorem stM_step (c : Dev nD) (t : Fin cfgA.N) : ∃ L, stM m ρ c t = scM0_0.view.writes (Elt Ideal) scM0_0.view.junk
    (piecesM (fun h => hM (slM (pM m ρ c t) h) (scB m ρ c t h)) ++ L) := by
  unfold stM scB pM
  rw [traj0_eq]
  by_cases q0 : P0_0 t <;> by_cases q1 : P0_1 t
  · rw [step0_B m ρ c t _ q0 q1]; simp only [if_pos q0, if_pos q1]
    exact ⟨_, (outM_B c t q0 q1 (Qb m ρ c t) (Kb m ρ c t) (Vb m ρ c t)).trans (congrArg (scM0_0.view.writes (Elt Ideal) scM0_0.view.junk) (B_M (ms0_0 t) (ms0_1 t) (Qb m ρ c t) (Kb m ρ c t)))⟩
  · rw [step0_A m ρ c t _ q0 q1]; simp only [if_pos q0, if_neg q1]
    exact ⟨_, (outM_A c t q0 q1 (Qb m ρ c t) (Kb m ρ c t) (Vb m ρ c t)).trans (congrArg (scM0_0.view.writes (Elt Ideal) scM0_0.view.junk) (A_M (ms0_0 t) (ms0_1 t) (Qb m ρ c t) (Kb m ρ c t)))⟩
  · rw [step0_D m ρ c t _ q0 q1]; simp only [if_neg q0, if_pos q1]
    exact ⟨[], (outM_D c t q0 q1 (Qb m ρ c t) (Kb m ρ c t) (Vb m ρ c t) _ _).trans (congrArg (scM0_0.view.writes (Elt Ideal) scM0_0.view.junk) ((D_M c (ms0_0 t) (ms0_1 t) (Qb m ρ c t) (Kb m ρ c t) _).trans (List.append_nil _).symm))⟩
  · rw [step0_C m ρ c t _ q0 q1]; simp only [if_neg q0, if_neg q1]
    exact ⟨[], (outM_C c t q0 q1 (Qb m ρ c t) (Kb m ρ c t) (Vb m ρ c t) _ _).trans (congrArg (scM0_0.view.writes (Elt Ideal) scM0_0.view.junk) ((C_M c (ms0_0 t) (ms0_1 t) (Qb m ρ c t) (Kb m ρ c t) _).trans (List.append_nil _).symm))⟩

theorem stA_step (c : Dev nD) (t : Fin cfgA.N) : ∃ L, stA m ρ c t = scM0_1.view.writes (Elt Ideal) scM0_1.view.junk
    (piecesA (fun h => hA (slM (pM m ρ c t) h) (scB m ρ c t h) (slA (pA m ρ c t) h) (slV (Vb m ρ c t) h)) ++ L) := by
  unfold stA scB pM pA
  rw [traj0_eq]
  by_cases q0 : P0_0 t <;> by_cases q1 : P0_1 t
  · rw [step0_B m ρ c t _ q0 q1]; simp only [if_pos q0, if_pos q1]
    exact ⟨_, (outA_B c t q0 q1 (Qb m ρ c t) (Kb m ρ c t) (Vb m ρ c t)).trans (congrArg (scM0_1.view.writes (Elt Ideal) scM0_1.view.junk) (B_A (ms0_0 t) (ms0_1 t) (ms0_2 t) (Qb m ρ c t) (Kb m ρ c t) (Vb m ρ c t)))⟩
  · rw [step0_A m ρ c t _ q0 q1]; simp only [if_pos q0, if_neg q1]
    exact ⟨_, (outA_A c t q0 q1 (Qb m ρ c t) (Kb m ρ c t) (Vb m ρ c t)).trans (congrArg (scM0_1.view.writes (Elt Ideal) scM0_1.view.junk) (A_A (ms0_0 t) (ms0_1 t) (ms0_2 t) (Qb m ρ c t) (Kb m ρ c t) (Vb m ρ c t)))⟩
  · rw [step0_D m ρ c t _ q0 q1]; simp only [if_neg q0, if_pos q1]
    exact ⟨[], (outA_D c t q0 q1 (Qb m ρ c t) (Kb m ρ c t) (Vb m ρ c t) _ _).trans (congrArg (scM0_1.view.writes (Elt Ideal) scM0_1.view.junk) ((D_A c (ms0_0 t) (ms0_1 t) (ms0_2 t) (Qb m ρ c t) (Kb m ρ c t) (Vb m ρ c t) _ _).trans (List.append_nil _).symm))⟩
  · rw [step0_C m ρ c t _ q0 q1]; simp only [if_neg q0, if_neg q1]
    exact ⟨[], (outA_C c t q0 q1 (Qb m ρ c t) (Kb m ρ c t) (Vb m ρ c t) _ _).trans (congrArg (scM0_1.view.writes (Elt Ideal) scM0_1.view.junk) ((C_A c (ms0_0 t) (ms0_1 t) (ms0_2 t) (Qb m ρ c t) (Kb m ρ c t) (Vb m ρ c t) _ _).trans (List.append_nil _).symm))⟩

theorem stO_step (c : Dev nD) (t : Fin cfgA.N) (q1 : ¬P0_1 t) : ∃ g, stO m ρ c t = VO0_3.read (Elt Ideal) (VO0_3.writes (Elt Ideal) g
    (piecesO (fun h => hO (hA (slM (pM m ρ c t) h) (scB m ρ c t h) (slA (pA m ρ c t) h) (slV (Vb m ρ c t) h))))) := by
  unfold stO scB pM pA
  rw [traj0_eq]
  by_cases q0 : P0_0 t
  · rw [step0_A m ρ c t _ q0 q1]; simp only [if_pos q0, if_neg q1]
    exact ⟨_, congrArg (fun L => VO0_3.read (Elt Ideal) (VO0_3.writes (Elt Ideal) _ L)) (A_O (ms0_0 t) (ms0_1 t) (ms0_2 t) (Qb m ρ c t) (Kb m ρ c t) (Vb m ρ c t))⟩
  · rw [step0_C m ρ c t _ q0 q1]; simp only [if_neg q0, if_neg q1]
    exact ⟨_, congrArg (fun L => VO0_3.read (Elt Ideal) (VO0_3.writes (Elt Ideal) _ L)) (C_O c (ms0_0 t) (ms0_1 t) (ms0_2 t) (Qb m ρ c t) (Kb m ρ c t) (Vb m ρ c t) _ _)⟩

end Cert.FlashIdeal.Att

end
-- ==== Proof.FlashIdeal.State.lean ====
/-
What the scratch buffers and the output block hold after a grid point, from what they held before it.
-/
module

public import proofs.«01_k».proof.Proof.FlashIdeal.Leaves

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (m : (ℓ : Loc nD τ sig) → Buf (Elt Ideal) ℓ) (ρ : Dev nD → PrngReg)

theorem whole_M (f : S8x8x1024.Idx → EReal) : scM0_0.view.read (Elt Ideal) f = f := rfl
theorem whole_A (f : S8x80x1024.Idx → EReal) : scM0_1.view.read (Elt Ideal) f = f := rfl

/-- The weighted sums after point `t`, before the payloads are read. -/
theorem stA_hA (c : Dev nD) (t : Fin cfgA.N) (h : Fin 8) (d : Fin 80) (x : Fin 1024) :
    stA m ρ c t (ix3 h d x) = hA (slM (pM m ρ c t) h) (scB m ρ c t h) (slA (pA m ρ c t) h) (slV (Vb m ρ c t) h) (ix3 0 d x) := by
  refine (congrFun (whole_A (stA m ρ c t)).symm _).trans ?_
  obtain ⟨L, e⟩ := stA_step m ρ c t
  rw [e]
  exact read_piecesA scM0_1.view scM0_1.view.junk _ L h d x

/-- The running maximum of head `h` at query `x`, which every row holds. -/
theorem stM_apply (c : Dev nD) (t : Fin cfgA.N) (h r : Fin 8) (x : Fin 1024) :
    stM m ρ c t (ix3 h r x) = max (pM m ρ c t (ix3 h r x)) (Finset.univ.sup fun k : Fin 1024 => scB m ρ c t h (ix3 0 k x)) := by
  refine (congrFun (whole_M (stM m ρ c t)).symm _).trans ?_
  obtain ⟨L, e⟩ := stM_step m ρ c t
  rw [e]
  exact (read_piecesM scM0_0.view scM0_0.view.junk _ L h r x).trans (hM_apply _ _ r x)

/-- The weighted sum of head `h`, row `d`, at query `x`. -/
theorem stA_apply (c : Dev nD) (t : Fin cfgA.N) (h : Fin 8) (d : Fin 80) (x : Fin 1024) :
    stA m ρ c t (ix3 h d x) = Ideal.exp2 (pM m ρ c t (ix3 h 0 x) - stM m ρ c t (ix3 h 0 x)) * pA m ρ c t (ix3 h d x)
      + ∑ k : Fin 1024, slV (Vb m ρ c t) h (ix2 d k) * Ideal.exp2 (scB m ρ c t h (ix3 0 k x) - stM m ρ c t (ix3 h 0 x)) := by
  have hm := hM_apply (slM (pM m ρ c t) h) (scB m ρ c t h) 0 x
  have hs := stM_apply m ρ c t h 0 x
  have e1 : hM (slM (pM m ρ c t) h) (scB m ρ c t h) (ix3 0 0 x) = stM m ρ c t (ix3 h 0 x) := hm.trans hs.symm
  rw [← e1]
  exact (stA_hA m ρ c t h d x).trans (hA_apply _ _ _ _ d x)

/-- On the diagonal the result is the weighted sum over the sum of the weights. -/
theorem stO_apply (c : Dev nD) (t : Fin cfgA.N) (q1 : ¬P0_1 t) (h : Fin 8) (d : Fin 64) (x : Fin 1024) (hd : h.val * 64 + d.val < 512) :
    stO m ρ c t (ix2 ⟨h.val * 64 + d.val, hd⟩ x) = Ideal.div (stA m ρ c t (ix3 h ⟨d.val, by omega⟩ x)) (stA m ρ c t (ix3 h 64 x)) := by
  obtain ⟨g, e⟩ := stO_step m ρ c t q1
  rw [e, stA_hA, stA_hA]
  exact (read_piecesO VO0_3 g _ h d x hd).trans (hO_apply _ d x)

end Cert.FlashIdeal.Att

end
-- ==== Proof.FlashIdeal.Blocks.lean ====
/-
The blocks of the arguments that a grid point loads.
-/
module

public import proofs.«01_k».proof.Proof.FlashIdeal.Table
public import proofs.«01_k».proof.Proof.FlashIdeal.State
public import Idealize.ShloMosaic.Lib.Pipeline.ValueKit

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (m : (ℓ : Loc nD τ sig) → Buf (Elt Ideal) ℓ) (ρ : Dev nD → PrngReg)

/-- The queries. -/
def aQ (c : Dev nD) : FVec Ideal S16384x1024 .bf16 := m ((c : Thread nD τ).loc main_arg0)
/-- The keys. -/
def aK (c : Dev nD) : FVec Ideal S16384x1024 .bf16 := m ((c : Thread nD τ).loc main_arg1)
/-- The values, transposed, with the rows of ones. -/
def aV (c : Dev nD) : FVec Ideal S640x16384 .bf16 := m ((c : Thread nD τ).loc main_arg2)

theorem Qb_apply (c : Dev nD) (t : Fin cfgA.N) (r i : Fin 1024) (h : qN t * 1024 + r.val < 16384) :
    Qb m ρ c t (ix2 r i) = aQ m c (ix2 ⟨qN t * 1024 + r.val, h⟩ i) := by
  have e := (tab t).1
  unfold Qb aQ
  blk_ext [iblk, e.1, e.2]

theorem Kb_apply (c : Dev nD) (t : Fin cfgA.N) (r i : Fin 1024) (h : kN t * 1024 + r.val < 16384) :
    Kb m ρ c t (ix2 r i) = aK m c (ix2 ⟨kN t * 1024 + r.val, h⟩ i) := by
  have e := (tab t).2.1
  unfold Kb aK
  blk_ext [iblk, e.1, e.2]

theorem Vb_apply (c : Dev nD) (t : Fin cfgA.N) (d : Fin 640) (s : Fin 1024) (h : kN t * 1024 + s.val < 16384) :
    Vb m ρ c t (ix2 d s) = aV m c (ix2 d ⟨kN t * 1024 + s.val, h⟩) := by
  have e := (tab t).2.2.1
  unfold Vb aV
  blk_ext [iblk, e.1, e.2]

end Cert.FlashIdeal.Att

end
-- ==== Proof.FlashIdeal.Online.lean ====
/-
The online softmax on extended reals: the running maximum and the running weighted sum, block after block.
-/
module

public import proofs.«01_k».proof.Proof.FlashIdeal.Head

@[expose] public section

set_option maxRecDepth 16384
set_option Elab.async false

noncomputable section

namespace Cert.FlashIdeal.Att

open Cert.FlashIdeal Cert.FlashIdeal.Gen
open Idealize.ShloMosaic
open Finset

/-- The largest of the first `n` scores. -/
def mx (f : ℕ → EReal) (n : ℕ) : EReal := (range n).sup f
/-- The sum of the first `n` values, each weighted with the power of two of its score less the largest. -/
def ws (f v : ℕ → EReal) (n : ℕ) : EReal := ∑ s ∈ range n, v s * Ideal.exp2 (f s - mx f n)

theorem mx_zero (f : ℕ → EReal) : mx f 0 = ⊥ := by simp [mx]
theorem ws_zero (f v : ℕ → EReal) : ws f v 0 = 0 := by simp [ws]

theorem mx_ne_top (f : ℕ → EReal) (hf : ∀ s, f s ≠ ⊤) (n : ℕ) : mx f n ≠ ⊤ := by
  have h : mx f n < ⊤ := (Finset.sup_lt_iff (by simp : (⊥ : EReal) < ⊤)).2 fun s _ => lt_top_iff_ne_top.2 (hf s)
  exact h.ne

theorem le_mx (f : ℕ → EReal) {s n : ℕ} (h : s < n) : f s ≤ mx f n := Finset.le_sup (mem_range.2 h)

theorem mx_add (f : ℕ → EReal) (n w : ℕ) : mx f (n + w) = max (mx f n) (Finset.univ.sup fun k : Fin w => f (n + k.val)) := by
  refine le_antisymm (Finset.sup_le fun s hs => ?_) (max_le (Finset.sup_mono ?_) (Finset.sup_le fun k _ => le_mx f (by omega)))
  · have hs := mem_range.1 hs
    by_cases h : s < n
    · exact (le_mx f h).trans (le_max_left _ _)
    · refine le_trans ?_ (le_max_right _ _)
      have := Finset.le_sup (f := fun k : Fin w => f (n + k.val)) (mem_univ (⟨s - n, by omega⟩ : Fin w))
      simpa [show n + (s - n) = s by omega] using this
  · intro s hs; have := mem_range.1 hs; exact mem_range.2 (by omega)

theorem mx_mono (f : ℕ → EReal) {n n' : ℕ} (h : n ≤ n') : mx f n ≤ mx f n' :=
  Finset.sup_mono fun s hs => mem_range.2 (lt_of_lt_of_le (mem_range.1 hs) h)

theorem bot_sub' (x : EReal) : (⊥ : EReal) - x = ⊥ := by rw [sub_eq_add_neg, EReal.bot_add]

theorem exp2_nonneg (x : EReal) : 0 ≤ Ideal.exp2 x := by
  induction x using EReal.rec with
  | bot => simp
  | coe r => rw [Ideal.exp2_coe]; exact_mod_cast (Real.rpow_pos_of_pos two_pos r).le
  | top => simp

theorem exp2_ne_top {x : EReal} (hx : x ≠ ⊤) : Ideal.exp2 x ≠ ⊤ := by
  induction x using EReal.rec with
  | bot => simp
  | coe r => rw [Ideal.exp2_coe]; exact EReal.coe_ne_top _
  | top => exact absurd rfl hx

/-- Two powers of two whose exponents meet at a largest score. -/
theorem exp2_mul (a M M' : EReal) (ha : a ≤ M) (hM : M ≤ M') (hM' : M' ≠ ⊤) :
    Ideal.exp2 (M - M') * Ideal.exp2 (a - M) = Ideal.exp2 (a - M') := by
  induction a using EReal.rec with
  | bot => simp [bot_sub']
  | top => exact absurd (top_le_iff.1 ((top_le_iff.1 ha) ▸ hM)) hM'
  | coe a =>
    induction M using EReal.rec with
    | bot => exact absurd ha (by simp)
    | top => exact absurd (top_le_iff.1 hM) hM'
    | coe M =>
      induction M' using EReal.rec with
      | bot => exact absurd hM (by simp)
      | top => exact absurd rfl hM'
      | coe M' =>
        rw [← EReal.coe_sub, ← EReal.coe_sub, ← EReal.coe_sub, Ideal.exp2_coe, Ideal.exp2_coe, Ideal.exp2_coe, ← EReal.coe_mul]
        congr 1
        show (2 : ℝ) ^ (M - M') * (2 : ℝ) ^ (a - M) = (2 : ℝ) ^ (a - M')
        rw [← Real.rpow_add two_pos]
        congr 1; ring

/-- A finite nonnegative factor goes into a sum of extended reals. -/
theorem mul_sum' {ι : Type} (s : Finset ι) (c : EReal) (h0 : 0 ≤ c) (ht : c ≠ ⊤) (g : ι → EReal) : c * ∑ i ∈ s, g i = ∑ i ∈ s, c * g i := by
  classical
  induction s using Finset.induction_on with
  | empty => simp
  | insert a s ha ih => rw [sum_insert ha, sum_insert ha, EReal.left_distrib_of_nonneg_of_ne_top h0 ht, ih]

theorem ws_add (f v : ℕ → EReal) (hf : ∀ s, f s ≠ ⊤) (n w : ℕ) :
    ws f v (n + w) = Ideal.exp2 (mx f n - mx f (n + w)) * ws f v n
      + ∑ k : Fin w, v (n + k.val) * Ideal.exp2 (f (n + k.val) - mx f (n + w)) := by
  have hle := mx_mono f (Nat.le_add_right n w)
  have ht := mx_ne_top f hf (n + w)
  have hne : mx f n - mx f (n + w) ≠ ⊤ := by
    intro h
    have : mx f n - mx f (n + w) ≤ 0 := EReal.sub_nonpos.2 hle
    rw [h] at this; exact absurd this (by simp)
  unfold ws
  rw [sum_range_add, mul_sum' _ _ (exp2_nonneg _) (exp2_ne_top hne)]
  congr 1
  · refine sum_congr rfl fun s hs => ?_
    rw [mul_left_comm, exp2_mul _ _ _ (le_mx f (mem_range.1 hs)) hle ht]
  · exact sum_range (fun k => v (n + k) * Ideal.exp2 (f (n + k) - mx f (n + w)))

end Cert.FlashIdeal.Att

end
-- ==== Proof.FlashIdeal.Traj.lean ====
/-
What the scratch buffers hold along the grid: the online softmax over the keys met so far.
-/
module

public import proofs.«01_k».proof.Proof.FlashIdeal.Blocks
public import proofs.«01_k».proof.Proof.FlashIdeal.Online

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (m : (ℓ : Loc nD τ sig) → Buf (Elt Ideal) ℓ) (ρ : Dev nD → PrngReg)

/-- The score of head `h` between key `s` and query `q`: minus infinity where the causal mask hides the key. -/
def sF (c : Dev nD) (h : Fin 8) (q s : ℕ) : EReal :=
  if hs : s ≤ q ∧ q < 16384 then
    ∑ i : Fin 128, aK m c (ix2 ⟨s, by omega⟩ ⟨h.val * 128 + i.val, by omega⟩) * aQ m c (ix2 ⟨q, hs.2⟩ ⟨h.val * 128 + i.val, by omega⟩)
  else ⊥

/-- Row `d` of head `h` of the values, at key `s`. -/
def vF (c : Dev nD) (h : Fin 8) (d : Fin 80) (s : ℕ) : EReal :=
  if hs : s < 16384 then aV m c (ix2 ⟨h.val * 80 + d.val, by omega⟩ ⟨s, hs⟩) else 0

theorem qN_lt (t : Fin cfgA.N) : qN t < 16 := (tab t).2.2.2.2.2.2.2.1
theorem kN_le (t : Fin cfgA.N) : kN t ≤ qN t := (tab t).2.2.2.2.2.2.1

theorem slK_Kb (c : Dev nD) (t : Fin cfgA.N) (h : Fin 8) (k : Fin 1024) (i : Fin 128) (hk : kN t * 1024 + k.val < 16384)
    (hi : h.val * 128 + i.val < 1024) :
    slK (Kb m ρ c t) h (ix2 k i) = aK m c (ix2 ⟨kN t * 1024 + k.val, hk⟩ ⟨h.val * 128 + i.val, hi⟩) :=
  Kb_apply m ρ c t k ⟨h.val * 128 + i.val, hi⟩ hk

theorem slK_Qb (c : Dev nD) (t : Fin cfgA.N) (h : Fin 8) (x : Fin 1024) (i : Fin 128) (hx : qN t * 1024 + x.val < 16384)
    (hi : h.val * 128 + i.val < 1024) :
    slK (Qb m ρ c t) h (ix2 x i) = aQ m c (ix2 ⟨qN t * 1024 + x.val, hx⟩ ⟨h.val * 128 + i.val, hi⟩) :=
  Qb_apply m ρ c t x ⟨h.val * 128 + i.val, hi⟩ hx

theorem scB_apply (c : Dev nD) (t : Fin cfgA.N) (h : Fin 8) (k x : Fin 1024) :
    scB m ρ c t h (ix3 0 k x) = sF m c h (qN t * 1024 + x.val) (kN t * 1024 + k.val) := by
  have hq := qN_lt t
  have hk := kN_le t
  have hx : qN t * 1024 + x.val < 16384 := by omega
  have hK : kN t * 1024 + k.val < 16384 := by omega
  have hdot : (∑ i : Fin 128, slK (Kb m ρ c t) h (ix2 k i) * slK (Qb m ρ c t) h (ix2 x i))
      = ∑ i : Fin 128, aK m c (ix2 ⟨kN t * 1024 + k.val, hK⟩ ⟨h.val * 128 + i.val, by omega⟩)
        * aQ m c (ix2 ⟨qN t * 1024 + x.val, hx⟩ ⟨h.val * 128 + i.val, by omega⟩) :=
    Finset.sum_congr rfl fun i _ => by rw [slK_Kb m ρ c t h k i hK (by omega), slK_Qb m ρ c t h x i hx (by omega)]
  have hP := (tab t).2.2.2.2.2.1
  unfold scB sF
  by_cases q1 : P0_1 t
  · have := hP.1 q1
    rw [if_pos q1, dif_pos ⟨by omega, hx⟩, ← hdot]
    exact sN_apply _ _ k x
  · have hkq : kN t = qN t := by
      by_contra hne; exact q1 (hP.2 (by omega))
    rw [if_neg q1]
    refine (sD_apply _ _ k x).trans ?_
    by_cases hkx : k ≤ x
    · have hkx' : k.val ≤ x.val := hkx
      rw [if_pos hkx, dif_pos ⟨by omega, hx⟩, ← hdot]
    · have hkx' : ¬ k.val ≤ x.val := hkx
      rw [if_neg hkx, dif_neg (by rintro ⟨h1, -⟩; omega)]

theorem slV_Vb (c : Dev nD) (t : Fin cfgA.N) (h : Fin 8) (d : Fin 80) (k : Fin 1024) :
    slV (Vb m ρ c t) h (ix2 d k) = vF m c h d (kN t * 1024 + k.val) := by
  have hq := qN_lt t
  have hk := kN_le t
  have hK : kN t * 1024 + k.val < 16384 := by omega
  unfold vF
  rw [dif_pos hK]
  exact Vb_apply m ρ c t ⟨h.val * 80 + d.val, by omega⟩ k hK

theorem pay1_apply (j : S8x8x1024.Idx) : k0_pay1 (F := Ideal) j = ⊥ := by
  unfold k0_pay1
  pointwise
  simp [negInf]

theorem pay2_apply (j : S8x80x1024.Idx) : k0_pay2 (F := Ideal) j = 0 := by
  unfold k0_pay2
  pointwise

/-- One point of the trajectory, from what the point before it left. -/
theorem traj_step (c : Dev nD) (hfin : ∀ h q s, sF m c h q s ≠ ⊤) (t : Fin cfgA.N) (h : Fin 8) (x : Fin 1024)
    (hprev : kN t ≠ 0 → (∀ r : Fin 8, ((prev0 m ρ c t).2.1 : FVec Ideal S8x8x1024 .f32) (ix3 h r x) = mx (sF m c h (qN t * 1024 + x.val)) (kN t * 1024))
      ∧ ∀ d : Fin 80, ((prev0 m ρ c t).2.2.1 : FVec Ideal S8x80x1024 .f32) (ix3 h d x) = ws (sF m c h (qN t * 1024 + x.val)) (vF m c h d) (kN t * 1024)) :
    (∀ r : Fin 8, stM m ρ c t (ix3 h r x) = mx (sF m c h (qN t * 1024 + x.val)) (kN t * 1024 + 1024))
    ∧ ∀ d : Fin 80, stA m ρ c t (ix3 h d x) = ws (sF m c h (qN t * 1024 + x.val)) (vF m c h d) (kN t * 1024 + 1024) := by
  have hP := (tab t).2.2.2.2.1
  have hpM : ∀ r : Fin 8, pM m ρ c t (ix3 h r x) = mx (sF m c h (qN t * 1024 + x.val)) (kN t * 1024) := by
    intro r
    unfold pM
    by_cases q0 : P0_0 t
    · rw [if_pos q0, hP.1 q0, Nat.zero_mul, mx_zero]; exact pay1_apply _
    · rw [if_neg q0]; exact (hprev fun h0 => q0 (hP.2 h0)).1 r
  have hpA : ∀ d : Fin 80, pA m ρ c t (ix3 h d x) = ws (sF m c h (qN t * 1024 + x.val)) (vF m c h d) (kN t * 1024) := by
    intro d
    unfold pA
    by_cases q0 : P0_0 t
    · rw [if_pos q0, hP.1 q0, Nat.zero_mul, ws_zero]; exact pay2_apply _
    · rw [if_neg q0]; exact (hprev fun h0 => q0 (hP.2 h0)).2 d
  have hM : ∀ r : Fin 8, stM m ρ c t (ix3 h r x) = mx (sF m c h (qN t * 1024 + x.val)) (kN t * 1024 + 1024) := by
    intro r
    rw [stM_apply, hpM, mx_add]
    simp only [scB_apply]
  refine ⟨hM, fun d => ?_⟩
  rw [stA_apply, hpM, hM, hpA, ws_add _ _ (hfin h _)]
  simp only [scB_apply, slV_Vb]

/-- After every grid point, the scratch buffers hold the largest score over the keys met so far of the point's row, and the
sums of values weighted against it. -/
theorem traj_inv (c : Dev nD) (hfin : ∀ h q s, sF m c h q s ≠ ⊤) : ∀ (n : ℕ) (hn : n < cfgA.N) (h : Fin 8) (x : Fin 1024),
    (∀ r : Fin 8, stM m ρ c ⟨n, hn⟩ (ix3 h r x) = mx (sF m c h (qN ⟨n, hn⟩ * 1024 + x.val)) (kN ⟨n, hn⟩ * 1024 + 1024))
    ∧ ∀ d : Fin 80, stA m ρ c ⟨n, hn⟩ (ix3 h d x) = ws (sF m c h (qN ⟨n, hn⟩ * 1024 + x.val)) (vF m c h d) (kN ⟨n, hn⟩ * 1024 + 1024) := by
  intro n
  induction n with
  | zero =>
    intro hn h x
    exact traj_step m ρ c hfin ⟨0, hn⟩ h x (fun h0 => absurd rfl ((tab ⟨0, hn⟩).2.2.2.2.2.2.2.2.2 h0).1)
  | succ n ih =>
    intro hn h x
    refine traj_step m ρ c hfin ⟨n + 1, hn⟩ h x fun h0 => ?_
    obtain ⟨-, hp⟩ := (tab ⟨n + 1, hn⟩).2.2.2.2.2.2.2.2.2 h0
    have hn' : n < cfgA.N := by omega
    obtain ⟨e1, e2⟩ := hp hn'
    have ih' := ih hn' h x
    have e1' : qN ⟨n, hn'⟩ = qN ⟨n + 1, hn⟩ := e1
    have e2' : kN ⟨n, hn'⟩ * 1024 + 1024 = kN ⟨n + 1, hn⟩ * 1024 := by
      have : kN ⟨n, hn'⟩ + 1 = kN ⟨n + 1, hn⟩ := e2
      omega
    rw [e1', e2'] at ih'
    have hne : (⟨n + 1, hn⟩ : Fin cfgA.N).val ≠ 0 := by show n + 1 ≠ 0; omega
    unfold prev0
    rw [dif_neg hne]
    exact ih'

end Cert.FlashIdeal.Att

end
-- ==== Proof.FlashIdeal.Final.lean ====
/-
The array of results after the run.
-/
module

public import proofs.«01_k».proof.Proof.FlashIdeal.Traj

@[expose] public section

set_option maxRecDepth 16384
set_option Elab.async false

noncomputable section

namespace Cert.FlashIdeal.Att

open Cert.FlashIdeal Cert.FlashIdeal.Gen
open Idealize.ShloMosaic
open Idealize.ShloMosaic.TcCoe
open Idealize.ShloMosaic.Pipeline

variable (m : (ℓ : Loc nD τ sig) → Buf (Elt Ideal) ℓ) (ρ : Dev nD → PrngReg)

/-- The result at row `r` and query `q`: the weighted sum of its row of values over the sum of the weights, both over the
keys of the query's row of blocks. -/
def outV (c : Dev nD) (r q : ℕ) (hr : r < 512) : EReal :=
  Ideal.div (ws (sF m c ⟨r / 64, by omega⟩ q) (vF m c ⟨r / 64, by omega⟩ ⟨r % 64, by omega⟩) (q / 1024 * 1024 + 1024))
    (ws (sF m c ⟨r / 64, by omega⟩ q) (vF m c ⟨r / 64, by omega⟩ 64) (q / 1024 * 1024 + 1024))

/-- The array of results. -/
def outF (c : Dev nD) : FVec Ideal S512x16384 .bf16 := fun j => outV m c (j 0).val (j 1).val (j 0).isLt

theorem stO_outV (c : Dev nD) (hfin : ∀ h q s, sF m c h q s ≠ ⊤) (t : Fin cfgA.N) (hd : kN t = qN t) (r : Fin 512) (x : Fin 1024) :
    stO m ρ c t (ix2 r x) = outV m c r.val (qN t * 1024 + x.val) r.isLt := by
  have q1 : ¬P0_1 t := fun q1 => by have := (tab t).2.2.2.2.2.1.1 q1; omega
  have hr : r.val / 64 * 64 + r.val % 64 = r.val := by omega
  have hx : (qN t * 1024 + x.val) / 1024 = qN t := by omega
  have e := stO_apply m ρ c t q1 ⟨r.val / 64, by omega⟩ ⟨r.val % 64, by omega⟩ x (by show r.val / 64 * 64 + r.val % 64 < 512; omega)
  have er : (⟨(⟨r.val / 64, by omega⟩ : Fin 8).val * 64 + (⟨r.val % 64, by omega⟩ : Fin 64).val, by show r.val / 64 * 64 + r.val % 64 < 512; omega⟩ : Fin 512) = r :=
    Fin.ext hr
  rw [er] at e
  rw [e]
  have hi := (traj_inv m ρ c hfin t.val t.isLt ⟨r.val / 64, by omega⟩ x).2
  unfold outV
  rw [hx, ← hd]
  rw [← hd] at hi
  exact congrArg₂ Ideal.div (hi _) (hi _)

/-- The array of results after the run. -/
theorem arr_out (c : Dev nD) (hfin : ∀ h q s, sF m c h q s ≠ ⊤) :
    (dats m ρ 0 c).arrAt (3 : Fin 4) cfgA.N = outF m c := by
  refine (dats m ρ 0 c).arrAt_eq_of_covers (3 : Fin 4) _ (by decide +kernel) fun t hf y => ?_
  have e := (tab t).2.2.2.1
  have hd := (tab t).2.2.2.2.2.2.2.2.1 hf
  blk_simp
  rw [after0_3]
  have hy : (y : S512x1024.Idx) = ix2 (y 0) (y 1) := by funext a; fin_cases a <;> rfl
  refine ((congrArg (stO m ρ c t) hy).trans (stO_outV m ρ c hfin t hd (y 0) (y 1))).trans ?_
  unfold outF
  congr 1 <;> blk_simp [e.1, e.2]

end Cert.FlashIdeal.Att

end
-- ==== Proof.FlashRefIdeal.Frame.lean ====
/-
The reference's run.
-/
module

public import proofs.«01_k».proof.Proof.Gen.FlashRefIdeal.Run
public import Idealize.ShloMosaic.Lib.Quiescent
public import Idealize.ShloMosaic.PureOps.Ideal

@[expose] public section

set_option maxRecDepth 16384
set_option Elab.async false

noncomputable section

namespace Cert.FlashRefIdeal.Att

open Cert.FlashRefIdeal Cert.FlashRefIdeal.Gen
open Idealize.ShloMosaic

/-- The run of the reference, its counters at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) _⟩) (Value.run m g)

end Cert.FlashRefIdeal.Att

end
-- ==== Proof.FlashRefIdeal.Pre.lean ====
/-
What the precondition says.
-/
module

public import proofs.«01_k».proof.Proof.Gen.Pre_finite_with_ones_row
public import Idealize.ShloMosaic.Lib.Pointwise
public import Idealize.ShloMosaic.Lib.ReduceAll
public import Idealize.ShloMosaic.Lib.WordArith
public import proofs.«01_k».proof.Proof.Gen.FlashRefIdeal

@[expose] public section

set_option maxRecDepth 16384
set_option Elab.async false

noncomputable section

namespace Cert.FlashRefIdeal.Att

open Cert.FlashRefIdeal Cert.FlashRefIdeal.Gen
open Idealize.ShloMosaic

instance : Subsingleton Cert.Pre_finite_with_ones_row.S_.Idx := ⟨fun a b => by funext i; exact i.elim0⟩

/-- +∞ as the precondition writes it. -/
theorem posInf : Ideal.ofBits .f32 2139095040#32 = (⊤ : EReal) := by simp [Ideal.ofBits, Ideal.ieee]

/-- An absolute value below +∞ is that of a real. -/
theorem fin_of_abs {x : EReal} (h : max x (-x) < ⊤) : x ≠ ⊤ ∧ x ≠ ⊥ := by
  obtain ⟨h1, h2⟩ := max_lt_iff.1 h
  refine ⟨h1.ne, fun e => ?_⟩
  rw [e, EReal.neg_bot] at h2
  exact h2.ne rfl

/-- The comparison with +∞ at an index. -/
theorem abs_read (q : FVec Ideal Cert.Pre_finite_with_ones_row.S16384x1024 .bf16) (t : Fin 16384) (i : Fin 1024)
    (e : cmpf .olt (Host.absf (extf .f32 q Cert.Pre_finite_with_ones_row.Facts.bitsLt_bf16_f32))
      (broadcastInDim Cert.Pre_finite_with_ones_row.S16384x1024 ![] Cert.Pre_finite_with_ones_row.Facts.bcast_S_S16384x1024 (constant (F := Ideal) Cert.Pre_finite_with_ones_row.S_ .f32 0x7F800000#32)) (ix2 t i) = 1#1) :
    max (q (ix2 t i) : EReal) (-q (ix2 t i)) < ⊤ := by
  revert e
  pointwise
  rw [show (Ideal.ofBits .f32 2139095040#32 : EReal) = ⊤ from posInf]
  exact fun e => of_decide_eq_true ((WordArith.ofBool_eq_one_iff _).1 e)

/-- What the precondition says of the queries, the keys and the values' rows of ones. -/
theorem pre_read (q k : FVec Ideal Cert.Pre_finite_with_ones_row.S16384x1024 .bf16) (v : FVec Ideal Cert.Pre_finite_with_ones_row.S640x16384 .bf16)
    (hp : Cert.Pre_finite_with_ones_row.fn (F := Ideal) q k v = fun _ => 1#1) :
    (∀ t i, q (ix2 t i) ≠ ⊤ ∧ q (ix2 t i) ≠ ⊥) ∧ (∀ t i, k (ix2 t i) ≠ ⊤ ∧ k (ix2 t i) ≠ ⊥)
      ∧ ∀ (h : Fin 8) (s : Fin 16384), v (ix2 ⟨h.val * 80 + 64, by omega⟩ s) = (1 : EReal) := by
  have e := congrFun hp ix0
  unfold Cert.Pre_finite_with_ones_row.fn Cert.Pre_finite_with_ones_row.fn_part1 at e
  obtain ⟨e1, e3⟩ := IntOp.andi_eq_one.1 e
  obtain ⟨e1, e2⟩ := IntOp.andi_eq_one.1 e1
  refine ⟨fun t i => ?_, fun t i => ?_, fun h s => ?_⟩
  · have e := Host.reduce_andi_all _ _ _ _ _ e1 (ix2 t i)
    exact fin_of_abs (abs_read q t i e)
  · have e := Host.reduce_andi_all _ _ _ _ _ e2 (ix2 t i)
    exact fin_of_abs (abs_read k t i e)
  · have e := Host.reduce_andi_all _ _ _ _ _ e3 (ix2 h s)
    revert e
    pointwise
    exact fun e => of_decide_eq_true ((WordArith.ofBool_eq_one_iff _).1 e)

end Cert.FlashRefIdeal.Att

end
-- ==== Proof.FlashRefIdeal.Formula.lean ====
/-
The reference, one stage after another, at an index.
-/
module

public import proofs.«01_k».proof.Proof.Gen.FlashRefIdeal.Run
public import Idealize.ShloMosaic.Lib.Pointwise
public import Idealize.ShloMosaic.Lib.WordCmp

@[expose] public section

set_option maxRecDepth 16384
set_option Elab.async false

noncomputable section

namespace Cert.FlashRefIdeal.Att

open Cert.FlashRefIdeal Cert.FlashRefIdeal.Gen
open Idealize.ShloMosaic
open Idealize.ShloMosaic.TcCoe

/-- The scores of every head, query by key. -/
def scores (q k : FVec Ideal S16384x1024 .bf16) : FVec Ideal S8x16384x16384 .f32 :=
  Host.dotGeneral dot_S16384x8x128_S16384x8x128_S8x16384x16384_2_2_0_0_1_1 none (shapeCast _ (extf .f32 q bitsLt_bf16_f32) shapeCasts_S16384x1024_S16384x8x128) (shapeCast _ (extf .f32 k bitsLt_bf16_f32) shapeCasts_S16384x1024_S16384x8x128)

/-- The causal mask on an array of scores. -/
def masked (s : FVec Ideal S8x16384x16384 .f32) : FVec Ideal S8x16384x16384 .f32 :=
  select (broadcastInDim S8x16384x16384 ![1, 2] bcast_S16384x16384_S8x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (extf .f32 (truncf .bf16 s bitsLt_bf16_f32) bitsLt_bf16_f32) (broadcastInDim S8x16384x16384 ![] bcast_S_S8x16384x16384 (id (constant S_ .f32 0xFF800000#32)))

/-- The largest score of each query. -/
def rowMax (x : FVec Ideal S8x16384x16384 .f32) : FVec Ideal S8x16384 .f32 :=
  Host.reduce FloatOps.maximumf x (constant S_ .f32 0xFF800000#32) reducesTo_S8x16384x16384_S8x16384_d2 h_S_

/-- The weights before they are normalised. -/
def weights (x : FVec Ideal S8x16384x16384 .f32) (r : FVec Ideal S8x16384 .f32) : FVec Ideal S8x16384x16384 .f32 :=
  Host.powf (broadcastInDim S8x16384x16384 ![] bcast_S_S8x16384x16384 (constant S_ .f32 0x40000000#32)) (subf x (broadcastInDim S8x16384x16384 ![0, 1, 2] bcast_S8x16384x1_S8x16384x16384_0_1_2 (broadcastInDim S8x16384x1 ![0, 1] bcast_S8x16384_S8x16384x1_0_1 r)))

/-- The sum of each query's weights. -/
def rowSum (e : FVec Ideal S8x16384x16384 .f32) : FVec Ideal S8x16384 .f32 :=
  Host.reduceAdd e (constant S_ .f32 0x00000000#32) reducesTo_S8x16384x16384_S8x16384_d2 h_S_

/-- The weights over their sum. -/
def normed (e : FVec Ideal S8x16384x16384 .f32) (l : FVec Ideal S8x16384 .f32) : FVec Ideal S8x16384x16384 .f32 :=
  extf .f32 (truncf .bf16 (Host.divf e (broadcastInDim S8x16384x16384 ![0, 1, 2] bcast_S8x16384x1_S8x16384x16384_0_1_2 (broadcastInDim S8x16384x1 ![0, 1] bcast_S8x16384_S8x16384x1_0_1 l))) bitsLt_bf16_f32) bitsLt_bf16_f32

/-- The weighted sums of the values. -/
def mixed (v : FVec Ideal S640x16384 .bf16) (p : FVec Ideal S8x16384x16384 .f32) : FVec Ideal S512x16384 .bf16 :=
  shapeCast _ (truncf .bf16 (Host.dotGeneral dot_S8x64x16384_S8x16384x16384_S8x64x16384_2_2_1_1_0_0 none (extractStridedSlice S8x64x16384 ![0, 0, 0] (shapeCast _ (extf .f32 v bitsLt_bf16_f32) shapeCasts_S640x16384_S8x80x16384) slices_S8x80x16384_S8x64x16384_0_0_0) p) bitsLt_bf16_f32) shapeCasts_S8x64x16384_S512x16384

theorem res_eq (m : (ℓ : Loc nD τ sig) → Buf (Elt Ideal) ℓ) (c : Dev nD) :
    Value.res_main_v31 m c = mixed (m ((c.tc : Thread nD τ).loc main_arg2))
      (normed (weights (masked (scores (m ((c.tc : Thread nD τ).loc main_arg0)) (m ((c.tc : Thread nD τ).loc main_arg1)))) (rowMax (masked (scores (m ((c.tc : Thread nD τ).loc main_arg0)) (m ((c.tc : Thread nD τ).loc main_arg1))))))
        (rowSum (weights (masked (scores (m ((c.tc : Thread nD τ).loc main_arg0)) (m ((c.tc : Thread nD τ).loc main_arg1)))) (rowMax (masked (scores (m ((c.tc : Thread nD τ).loc main_arg0)) (m ((c.tc : Thread nD τ).loc main_arg1)))))))) := by
  unfold Value.res_main_v31 mixed normed weights masked scores rowMax rowSum
  rfl

/-- The mask's constant is −∞. -/
theorem negInf : Ideal.ofBits .f32 4286578688#32 = (⊥ : EReal) := by simp [Ideal.ofBits, Ideal.ieee]

/-- The base of the weights' power is 2. -/
theorem two : Ideal.ofBits .f32 1073741824#32 = ((2 : ℝ) : EReal) := by
  simp [Ideal.ofBits, Ideal.ieee]
  rw [← EReal.coe_mul]
  norm_num

/-- 2 to a power is the base-2 exponential. -/
theorem pow_two (y : EReal) : Ideal.pow ((2 : ℝ) : EReal) y = Ideal.exp2 y := by
  induction y using EReal.rec with
  | bot => rw [Ideal.pow_coe_bot, Ideal.exp2_bot, if_neg (by norm_num), if_pos (by norm_num)]
  | coe r => rw [Ideal.pow_coe_coe, Ideal.exp2_coe]
  | top => rw [Ideal.pow_coe_top, Ideal.exp2_top]; norm_num

theorem scores_apply (q k : FVec Ideal S16384x1024 .bf16) (h : Fin 8) (t s : Fin 16384) :
    scores q k (ix3 h t s) = ∑ i : Fin 128, q (ix2 t ⟨h.val * 128 + i.val, by omega⟩) * k (ix2 s ⟨h.val * 128 + i.val, by omega⟩) := by
  unfold scores
  pointwise

theorem masked_apply (x : FVec Ideal S8x16384x16384 .f32) (h : Fin 8) (t s : Fin 16384) :
    masked x (ix3 h t s) = if s ≤ t then x (ix3 h t s) else ⊥ := by
  unfold masked
  pointwise
  rw [show (id (constant (F := Ideal) S_ .f32 4286578688#32) ix0 : EReal) = ⊥ from negInf]
  unfold Scalar.select
  have hb := WordCmp.cmpi_sle_ofNat_eq_one_iff (w := 32) (a := s.val) (b := t.val) (by have := s.isLt; omega) (by have := t.isLt; omega)
  by_cases hr : s ≤ t
  · rw [if_pos hr]
    exact if_pos (hb.mpr hr)
  · rw [if_neg hr]
    exact if_neg fun e => hr (hb.mp e)

theorem rowMax_apply (x : FVec Ideal S8x16384x16384 .f32) (h : Fin 8) (t : Fin 16384) :
    rowMax x (ix2 h t) = Finset.univ.sup fun s : Fin 16384 => x (ix3 h t s) := by
  unfold rowMax
  pointwise
  rw [show (Ideal.ofBits .f32 4286578688#32 : EReal) = ⊥ from negInf]
  rfl

theorem weights_apply (x : FVec Ideal S8x16384x16384 .f32) (r : FVec Ideal S8x16384 .f32) (h : Fin 8) (t s : Fin 16384) :
    weights x r (ix3 h t s) = Ideal.exp2 (x (ix3 h t s) - r (ix2 h t)) := by
  unfold weights
  pointwise
  rw [two]
  exact pow_two _

theorem rowSum_apply (x : FVec Ideal S8x16384x16384 .f32) (h : Fin 8) (t : Fin 16384) :
    rowSum x (ix2 h t) = ∑ s : Fin 16384, x (ix3 h t s) := by
  unfold rowSum
  pointwise

theorem normed_apply (e : FVec Ideal S8x16384x16384 .f32) (l : FVec Ideal S8x16384 .f32) (h : Fin 8) (t s : Fin 16384) :
    normed e l (ix3 h t s) = Ideal.div (e (ix3 h t s)) (l (ix2 h t)) := by
  unfold normed
  pointwise

theorem mixed_apply (v : FVec Ideal S640x16384 .bf16) (p : FVec Ideal S8x16384x16384 .f32) (h : Fin 8) (d : Fin 64) (t : Fin 16384) :
    mixed v p (ix2 ⟨h.val * 64 + d.val, by omega⟩ t) = ∑ s : Fin 16384, v (ix2 ⟨h.val * 80 + d.val, by omega⟩ s) * p (ix3 h t s) := by
  unfold mixed
  pointwise

end Cert.FlashRefIdeal.Att

end
-- ==== Proof.FlashIdeal.Softmax.lean ====
/-
Weights normalised before they meet the values, or after.
-/
module

public import proofs.«01_k».proof.Proof.FlashIdeal.Online

@[expose] public section

set_option maxRecDepth 16384
set_option Elab.async false

noncomputable section

namespace Cert.FlashIdeal.Att

open Cert.FlashIdeal Cert.FlashIdeal.Gen
open Idealize.ShloMosaic
open Finset

/-- The largest of the first `K` scores where those from `N` on are −∞. -/
theorem sup_fin (f : ℕ → EReal) {N K : ℕ} (hN : N ≤ K) (hb : ∀ s, N ≤ s → f s = ⊥) :
    (univ.sup fun s : Fin K => f s.val) = mx f N := by
  apply le_antisymm
  · refine Finset.sup_le fun s _ => ?_
    by_cases h : s.val < N
    · exact le_mx f h
    · rw [hb s.val (by omega)]
      exact bot_le
  · refine Finset.sup_le fun s hs => ?_
    have h := mem_range.1 hs
    exact Finset.le_sup (f := fun s : Fin K => f s.val) (mem_univ (⟨s, by omega⟩ : Fin K))

/-- A sum over `K` keys whose terms from `N` on are zero. -/
theorem sum_fin (g : ℕ → EReal) {N K : ℕ} (hN : N ≤ K) (hz : ∀ s, N ≤ s → g s = 0) :
    ∑ s : Fin K, g s.val = ∑ s ∈ range N, g s := by
  rw [← Finset.sum_range]
  refine (Finset.sum_subset (range_mono hN) fun s _ h => hz s ?_).symm
  simpa using h

/-- A sum of terms below +∞ is below +∞. -/
theorem sum_ne_top' (g : ℕ → EReal) (n : ℕ) (h : ∀ s, g s ≠ ⊤) : ∑ s ∈ range n, g s ≠ ⊤ := by
  induction n with
  | zero => simp
  | succ n ih =>
    rw [Finset.sum_range_succ]
    exact (EReal.add_lt_top ih (h n)).ne

/-- The weight of a key with a real score is positive. -/
theorem exp2_pos' {x y : EReal} (hx : x ≠ ⊤) (hx' : x ≠ ⊥) (hy : y ≠ ⊤) (hy' : y ≠ ⊥) : 0 < Ideal.exp2 (x - y) := by
  lift x to ℝ using ⟨hx, hx'⟩
  lift y to ℝ using ⟨hy, hy'⟩
  rw [← EReal.coe_sub, Ideal.exp2_coe]
  exact EReal.coe_pos.2 (Real.rpow_pos_of_pos (by norm_num) _)

/-- Weights normalised before they meet the values, against the weighted sum divided at the end. -/
theorem softmax_eq (f v o : ℕ → EReal) {N K : ℕ} (hN : N ≤ K) (hf : ∀ s, f s ≠ ⊤) (hb : ∀ s, N ≤ s → f s = ⊥)
    (a : ℕ) (ha : a < N) (hfa : f a ≠ ⊥) (ho : ∀ s, s < N → o s = 1) :
    ∑ s : Fin K, v s.val * Ideal.div (Ideal.exp2 (f s.val - mx f N)) (∑ s : Fin K, Ideal.exp2 (f s.val - mx f N)) = Ideal.div (ws f v N) (ws f o N) := by
  have hM : mx f N ≠ ⊤ := mx_ne_top f hf N
  have hM' : mx f N ≠ ⊥ := fun e => hfa (le_bot_iff.1 (e ▸ le_mx f ha))
  have hz : ∀ s, N ≤ s → Ideal.exp2 (f s - mx f N) = 0 := fun s hs => by rw [hb s hs, bot_sub', Ideal.exp2_bot]
  have hl : ws f o N = ∑ s ∈ range N, Ideal.exp2 (f s - mx f N) :=
    Finset.sum_congr rfl fun s hs => by rw [ho s (mem_range.1 hs), one_mul]
  rw [sum_fin (fun s => Ideal.exp2 (f s - mx f N)) hN hz, hl]
  generalize hL : ∑ s ∈ range N, Ideal.exp2 (f s - mx f N) = L
  have hpos : 0 < L := hL ▸ (exp2_pos' (hf a) hfa hM hM').trans_le
    (Finset.single_le_sum (f := fun s => Ideal.exp2 (f s - mx f N)) (fun s _ => exp2_nonneg _) (mem_range.2 ha))
  have htop : L ≠ ⊤ := hL ▸ sum_ne_top' _ N fun s => exp2_ne_top (by
    have := hf s
    generalize f s = x at this
    generalize mx f N = y at hM hM'
    lift y to ℝ using ⟨hM, hM'⟩
    induction x using EReal.rec with
    | bot => rw [bot_sub']; exact bot_ne_top
    | coe r => exact EReal.coe_ne_top _
    | top => exact absurd rfl this)
  have hdiv : ∀ x, Ideal.div x L = x * L⁻¹ := fun x => by unfold Ideal.div; rw [if_neg hpos.ne']
  have hi : L⁻¹ ≠ ⊤ := by
    lift L to ℝ using ⟨htop, ((EReal.bot_lt_zero).trans hpos).ne'⟩
    rw [← EReal.coe_inv]
    exact EReal.coe_ne_top _
  simp only [hdiv]
  rw [sum_fin (fun s => v s * (Ideal.exp2 (f s - mx f N) * L⁻¹)) hN (fun s hs => by rw [hz s hs, zero_mul, mul_zero])]
  rw [mul_comm, ws, mul_sum' _ _ (EReal.inv_nonneg_of_nonneg hpos.le) hi]
  exact Finset.sum_congr rfl fun s _ => by rw [← mul_assoc, mul_comm]

end Cert.FlashIdeal.Att

end
-- ==== Proof.FlashRefIdeal.Equation.lean ====
/-
The kernel and the reference compute the same array.
-/
module

public import proofs.«01_k».proof.Proof.FlashRefIdeal.Formula
public import proofs.«01_k».proof.Proof.FlashIdeal.Final
public import proofs.«01_k».proof.Proof.FlashIdeal.Softmax

@[expose] public section

set_option maxRecDepth 16384
set_option Elab.async false

noncomputable section

namespace Cert.FlashRefIdeal.Att

open Cert.FlashRefIdeal Cert.FlashRefIdeal.Gen
open Idealize.ShloMosaic
open Cert.FlashIdeal.Att (aQ aK aV sF vF mx ws outF outV)
open Idealize.ShloMosaic.TcCoe

variable (m : (ℓ : Loc Cert.FlashIdeal.nD Cert.FlashIdeal.τ Cert.FlashIdeal.sig) → Buf (Elt Ideal) ℓ) (c : Dev Cert.FlashIdeal.nD)

/-- The reference's masked scores at the kernel's arguments. -/
abbrev X : FVec Ideal S8x16384x16384 .f32 := masked (scores (aQ m c) (aK m c))

theorem X_apply (h : Fin 8) (t s : Fin 16384) : X m c (ix3 h t s) = sF m c h t.val s.val := by
  rw [X, masked_apply, sF]
  by_cases hr : s ≤ t
  · rw [if_pos hr, dif_pos ⟨hr, t.isLt⟩, scores_apply]
    exact Finset.sum_congr rfl fun i _ => mul_comm _ _
  · rw [if_neg hr, dif_neg fun e => hr e.1]

theorem rowMax_X (h : Fin 8) (t : Fin 16384) {N : ℕ} (hN : N ≤ 16384) (ht : t.val < N) :
    rowMax (X m c) (ix2 h t) = mx (sF m c h t.val) N := by
  rw [rowMax_apply]
  simp only [X_apply]
  exact Cert.FlashIdeal.Att.sup_fin _ hN fun s hs => by
    unfold sF
    exact dif_neg fun e => by omega

/-- A sum of reals is a real. -/
theorem sum_real {ι : Type} (S : Finset ι) (f : ι → EReal) (h : ∀ i ∈ S, f i ≠ ⊤ ∧ f i ≠ ⊥) : ∑ i ∈ S, f i ≠ ⊤ ∧ ∑ i ∈ S, f i ≠ ⊥ :=
  Finset.sum_induction f (fun x => x ≠ ⊤ ∧ x ≠ ⊥)
    (fun a b ha hb => by
      lift a to ℝ using ha
      lift b to ℝ using hb
      rw [← EReal.coe_add]
      exact ⟨EReal.coe_ne_top _, EReal.coe_ne_bot _⟩) ⟨EReal.zero_ne_top, EReal.zero_ne_bot⟩ h

/-- A product of reals is a real. -/
theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

variable (hq : ∀ t i, aQ m c (ix2 t i) ≠ (⊤ : EReal) ∧ aQ m c (ix2 t i) ≠ (⊥ : EReal)) (hk : ∀ t i, aK m c (ix2 t i) ≠ (⊤ : EReal) ∧ aK m c (ix2 t i) ≠ (⊥ : EReal))

include hq hk

/-- A visible score is a real. -/
theorem sF_real (h : Fin 8) (t s : ℕ) (hs : s ≤ t) (ht : t < 16384) : sF m c h t s ≠ ⊤ ∧ sF m c h t s ≠ ⊥ := by
  unfold sF
  rw [dif_pos ⟨hs, ht⟩]
  exact sum_real _ _ fun i _ => mul_real (hk _ _) (hq _ _)

/-- No score is +∞. -/
theorem sF_ne_top (h : Fin 8) (t s : ℕ) : sF m c h t s ≠ ⊤ := by
  by_cases e : s ≤ t ∧ t < 16384
  · exact (sF_real m c hq hk h t s e.1 e.2).1
  · unfold sF
    rw [dif_neg e]
    exact bot_ne_top

/-- The kernel's result is the reference's. -/
theorem value_eq (hv : ∀ (h : Fin 8) (s : Fin 16384), aV m c (ix2 ⟨h.val * 80 + 64, by omega⟩ s) = (1 : EReal)) :
     outF m c = mixed (aV m c) (normed (weights (X m c) (rowMax (X m c))) (rowSum (weights (X m c) (rowMax (X m c))))) := by
  funext j
  have hr : (j 0).val < 512 := (j 0).isLt
  have ht : (j 1).val < 16384 := (j 1).isLt
  have hj : j = ix2 ⟨(⟨(j 0).val / 64, by omega⟩ : Fin 8).val * 64 + (⟨(j 0).val % 64, by omega⟩ : Fin 64).val, by show (j 0).val / 64 * 64 + (j 0).val % 64 < 512; omega⟩ (⟨(j 1).val, ht⟩ : Fin 16384) := by
    funext a
    fin_cases a
    · exact Fin.ext (by show (j 0).val = (j 0).val / 64 * 64 + (j 0).val % 64; omega)
    · rfl
  refine Eq.trans ?_ (congrArg (mixed (aV m c) (normed (weights (X m c) (rowMax (X m c))) (rowSum (weights (X m c) (rowMax (X m c)))))) hj).symm
  have hN : (j 1).val / 1024 * 1024 + 1024 ≤ 16384 := by omega
  rw [mixed_apply]
  simp only [normed_apply, weights_apply, rowSum_apply, X_apply, rowMax_X m c _ ⟨(j 1).val, ht⟩ hN (by show (j 1).val < _; omega)]
  have e := Cert.FlashIdeal.Att.softmax_eq (sF m c ⟨(j 0).val / 64, by omega⟩ (j 1).val) (vF m c ⟨(j 0).val / 64, by omega⟩ ⟨(j 0).val % 64, by omega⟩)
    (vF m c ⟨(j 0).val / 64, by omega⟩ 64) hN (sF_ne_top m c hq hk _ _) (fun s hs => by unfold sF; exact dif_neg fun e => by omega)
    0 (by omega) (sF_real m c hq hk _ _ 0 (Nat.zero_le _) ht).2 (fun s hs => by unfold vF; rw [dif_pos (by omega)]; exact hv _ _)
  show outV m c (j 0).val (j 1).val hr = _
  unfold outV
  refine e.symm.trans ?_
  have hd : ∀ s : Fin 16384, vF m c ⟨(j 0).val / 64, by omega⟩ ⟨(j 0).val % 64, by omega⟩ s.val
      = aV m c (ix2 ⟨(j 0).val / 64 * 80 + (j 0).val % 64, by omega⟩ s) := fun s => by
    unfold vF
    exact dif_pos s.isLt
  simp only [hd]

end Cert.FlashRefIdeal.Att

end
-- ==== Proof.lean ====
module

public import proofs.«01_k».proof.Defs
public import proofs.«01_k».proof.Proof.Layer.Ffn
public import proofs.«01_k».proof.Proof.Layer.Merge
public import proofs.«01_k».proof.Proof.Layer.InProj
public import proofs.«01_k».proof.Proof.Layer.Prep
public import proofs.«01_k».proof.Proof.Flash.Run
public import proofs.«01_k».proof.Proof.FlashIdeal.Run
public import proofs.«01_k».proof.Proof.FlashIdeal.Final
public import proofs.«01_k».proof.Proof.FlashRefIdeal.Frame
public import proofs.«01_k».proof.Proof.FlashRefIdeal.Pre
public import proofs.«01_k».proof.Proof.FlashRefIdeal.Equation

@[expose] public section

noncomputable section

namespace Cert.Proof

open Idealize.ShloMosaic Idealize.SL.Sem

instance factsFlash : Cert.Flash.Facts := Cert.Flash.Gen.facts
instance factsFlashIdeal : Cert.FlashIdeal.Facts := Cert.FlashIdeal.Gen.facts
instance factsFlashRefIdeal : Cert.FlashRefIdeal.Facts := Cert.FlashRefIdeal.Gen.facts
instance factsPre_finite_with_ones_row : Cert.Pre_finite_with_ones_row.Facts := Cert.Pre_finite_with_ones_row.Gen.facts

/-- The attention of the prompt: the kernel's result and the reference's are the same array. -/
theorem flash : Cert.algebraic_FlashIdeal_FlashRefIdeal_pre_finite_with_ones_row := by
  intro m g m' g' hpre hag
  have hp := fun c => Cert.FlashRefIdeal.Att.pre_read _ _ _ (hpre c)
  refine ⟨Cert.FlashIdeal.Att.outF m, ?_, ?_⟩
  · refine (θ_run _ _ _).mono (fun r h c => ?_) (Cert.FlashIdeal.Att.run_main m g)
    have hc := h.1 c
    exact ⟨(hc (3 : Fin 4)).trans (Cert.FlashIdeal.Att.arr_out m g c (Cert.FlashRefIdeal.Att.sF_ne_top m c (hp c).1 (hp c).2.1)),
      (hc (0 : Fin 4)).trans ((Cert.FlashIdeal.Att.dats m g 0 c).arrAt_in (0 : Fin 4) rfl _),
      (hc (1 : Fin 4)).trans ((Cert.FlashIdeal.Att.dats m g 0 c).arrAt_in (1 : Fin 4) rfl _),
      (hc (2 : Fin 4)).trans ((Cert.FlashIdeal.Att.dats m g 0 c).arrAt_in (2 : Fin 4) rfl _)⟩
  · refine (θ_run _ _ _).mono (fun r h c => ⟨(h c).1.trans ?_, (h c).2⟩) (Cert.FlashRefIdeal.Value.run m' g')
    obtain ⟨h0, h1, h2⟩ := hag c
    refine (Cert.FlashRefIdeal.Att.res_eq m' c).trans ?_
    rw [h0, h1, h2]
    exact (Cert.FlashRefIdeal.Att.value_eq m c (hp c).1 (hp c).2.1 (hp c).2.2).symm

/-- Everything claimed of the five calls. -/
theorem claim : Cert.Claim := ⟨inferInstance, inferInstance, inferInstance, inferInstance, inferInstance, inferInstance, inferInstance, inferInstance,
  inferInstance, inferInstance, inferInstance, inferInstance, inferInstance, inferInstance, inferInstance, inferInstance, inferInstance,
  fun m g _ => Cert.Flash.Att.frame m g, fun m g _ => Cert.FlashIdeal.Att.frame m g, fun m g _ => Cert.FlashIdeal.Att.frame m g,
  fun m g _ => Cert.FlashRefIdeal.Att.frame m g, fun m g _ => Cert.FlashRefIdeal.Att.frame m g,
  ffn_frame, ffn_frame_ideal, ffn_frame_ref, merge_frame, merge_frame_ideal, merge_frame_ref, inproj_frame, inproj_frame_ideal, inproj_frame_ref,
  prep_frame, prep_frame_ideal, prep_frame_ideal_pre, prep_frame_ref, prep_frame_ref_pre,
  trivial, flash, trivial, ffn, trivial, merge, trivial, inproj, trivial, prep⟩

end Cert.Proof

end
